-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Search (m : (ℓ : Loc Cert.Search.nD Cert.Search.τ Cert.Search.sig) → Buf (Elt Bits) ℓ) : Prop :=
  True

def Pre_Search_one_nearest [hPre_one_nearest : Cert.Pre_one_nearest.Facts] (m : (ℓ : Loc Cert.Search.nD Cert.Search.τ Cert.Search.sig) → Buf (Elt Bits) ℓ) : Prop :=
  ∀ c : Dev Cert.Search.nD,
    (Cert.Pre_one_nearest.fn (F := Bits) (m ((c.tc : Thread Cert.Search.nD Cert.Search.τ).loc Cert.Search.main_arg0)) (m ((c.tc : Thread Cert.Search.nD Cert.Search.τ).loc Cert.Search.main_arg1))) = (fun _ => 1#1)

def Pre_SearchIdeal [hPre_one_nearest : Cert.Pre_one_nearest.Facts] (m : (ℓ : Loc Cert.SearchIdeal.nD Cert.SearchIdeal.τ Cert.SearchIdeal.sig) → Buf (Elt Ideal) ℓ) : Prop :=
  ∀ c : Dev Cert.SearchIdeal.nD,
    (Cert.Pre_one_nearest.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def Pre_NearestIdeal (m : (ℓ : Loc Cert.NearestIdeal.nD Cert.NearestIdeal.τ Cert.NearestIdeal.sig) → Buf (Elt Ideal) ℓ) : Prop :=
  True

def Pre_NearestIdeal_one_nearest [hPre_one_nearest : Cert.Pre_one_nearest.Facts] (m : (ℓ : Loc Cert.NearestIdeal.nD Cert.NearestIdeal.τ Cert.NearestIdeal.sig) → Buf (Elt Ideal) ℓ) : Prop :=
  ∀ c : Dev Cert.NearestIdeal.nD,
    (Cert.Pre_one_nearest.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_Search_pre_one_nearest [hSearch : Cert.Search.Facts] [hPre_one_nearest : Cert.Pre_one_nearest.Facts] : Prop :=
  ∀ (m : (ℓ : Loc Cert.Search.nD Cert.Search.τ Cert.Search.sig) → Buf (Elt Bits) ℓ) (g : Dev Cert.Search.nD → PrngReg), Pre_Search_one_nearest m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] [hPre_one_nearest : Cert.Pre_one_nearest.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_one_nearest [hNearestIdeal : Cert.NearestIdeal.Facts] [hPre_one_nearest : Cert.Pre_one_nearest.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_one_nearest m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Search_SearchIdeal : Prop :=
  True

def algebraic_SearchIdeal_NearestIdeal [hSearchIdeal : Cert.SearchIdeal.Facts] [hNearestIdeal : Cert.NearestIdeal.Facts] [hPre_one_nearest : Cert.Pre_one_nearest.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.NearestIdeal.nD Cert.NearestIdeal.τ Cert.NearestIdeal.sig) → Buf (Elt Ideal) ℓ) (g' : Dev Cert.NearestIdeal.nD → PrngReg), Pre_SearchIdeal m →
    (∀ c : Dev Cert.SearchIdeal.nD,
      m' ((c.tc : Thread Cert.NearestIdeal.nD Cert.NearestIdeal.τ).loc Cert.NearestIdeal.main_arg0) = m ((c.tc : Thread Cert.SearchIdeal.nD Cert.SearchIdeal.τ).loc Cert.SearchIdeal.main_arg0)
      ∧ m' ((c.tc : Thread Cert.NearestIdeal.nD Cert.NearestIdeal.τ).loc Cert.NearestIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v1)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v1) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_v15) = v0 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m' ((c.tc : Thread Cert.NearestIdeal.nD Cert.NearestIdeal.τ).loc Cert.NearestIdeal.main_arg1))

def Claim : Prop :=
  ∃ (hKernel : Cert.Kernel.Facts) (hKernelIdeal : Cert.KernelIdeal.Facts) (hReferenceIdeal : Cert.ReferenceIdeal.Facts) (hSearch : Cert.Search.Facts) (hSearchIdeal : Cert.SearchIdeal.Facts) (hNearestIdeal : Cert.NearestIdeal.Facts) (hPre_inputs_ok : Cert.Pre_inputs_ok.Facts) (hPre_one_nearest : Cert.Pre_one_nearest.Facts),
    quiescent_Kernel (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Search (hSearch := hSearch)
    ∧ quiescent_Search_pre_one_nearest (hSearch := hSearch) (hPre_one_nearest := hPre_one_nearest)
    ∧ quiescent_SearchIdeal (hSearchIdeal := hSearchIdeal) (hPre_one_nearest := hPre_one_nearest)
    ∧ quiescent_NearestIdeal (hNearestIdeal := hNearestIdeal)
    ∧ quiescent_NearestIdeal_pre_one_nearest (hNearestIdeal := hNearestIdeal) (hPre_one_nearest := hPre_one_nearest)
    ∧ preserves_Kernel_KernelIdeal
    ∧ algebraic_KernelIdeal_ReferenceIdeal (hKernelIdeal := hKernelIdeal) (hReferenceIdeal := hReferenceIdeal) (hPre_inputs_ok := hPre_inputs_ok)
    ∧ preserves_Search_SearchIdeal
    ∧ algebraic_SearchIdeal_NearestIdeal (hSearchIdeal := hSearchIdeal) (hNearestIdeal := hNearestIdeal) (hPre_one_nearest := hPre_one_nearest)
-- ==== Pre_inputs_ok.lean ====
abbrev S16384x1 : Shape := ⟨2, ![16384, 1]⟩
abbrev S16384x64 : Shape := ⟨2, ![16384, 64]⟩
abbrev S16384x3 : Shape := ⟨2, ![16384, 3]⟩
abbrev S4096x64 : Shape := ⟨2, ![4096, 64]⟩
abbrev S4 : Shape := ⟨1, ![4]⟩
abbrev S64x16 : Shape := ⟨2, ![64, 16]⟩
abbrev S16 : Shape := ⟨1, ![16]⟩
abbrev S16x64 : Shape := ⟨2, ![16, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S128x64 : Shape := ⟨2, ![128, 64]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S4 : S_.BroadcastsInDim S4 (![] : Fin 0 → Fin S4.rank)
  reducesTo_S4_S_d0 : S4.ReducesTo [0] S_
  bcast_S_S16384x64 : S_.BroadcastsInDim S16384x64 (![] : Fin 0 → Fin S16384x64.rank)
  reducesTo_S16384x64_S_d0_1 : S16384x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg13 : FVec F S128x64 .f32) (main_arg14 : FVec F S64 .f32) (main_v14 : IVec S_ 1) (main_v15 : FVec F S16384x64 .f32) (main_cst : FVec F S_ .f32) : IVec S_ 1 :=
  let main_v16 : FVec F S16384x64 .f32 := broadcastInDim S16384x64 ![] bcast_S_S16384x64 main_cst
  let main_v17 : IVec S16384x64 1 := cmpf .olt main_v15 main_v16
  let main_c_6 : IVec S_ 1 := constantI S_ 1 1#1
  let main_v18 : IVec S_ 1 := (fun x v => Host.reduce IntOp.andi x v reducesTo_S16384x64_S_d0_1 h_S_) main_v17 main_c_6
  let main_v19 : IVec S_ 1 := andi main_v14 main_v18
  let main_v20 : FVec F S128x64 .f32 := Host.absf main_arg13
  let main_cst_7 : FVec F S_ .f32 := constant S_ .f32 0x7F800000#32
  let main_v21 : FVec F S128x64 .f32 := broadcastInDim S128x64 ![] bcast_S_S128x64 main_cst_7
  let main_v22 : IVec S128x64 1 := cmpf .olt main_v20 main_v21
  let main_c_8 : IVec S_ 1 := constantI S_ 1 1#1
  let main_v23 : IVec S_ 1 := (fun x v => Host.reduce IntOp.andi x v reducesTo_S128x64_S_d0_1 h_S_) main_v22 main_c_8
  let main_v24 : IVec S_ 1 := andi main_v19 main_v23
  let main_v25 : FVec F S64 .f32 := Host.absf main_arg14
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  main_v29

def fn {F : FTy → Type} [FloatOps F] (main_arg0 : IVec S16384x1 32) (main_arg1 : FVec F S16384x64 .f32) (main_arg2 : FVec F S16384x3 .f32) (main_arg3 : FVec F S4096x64 .f32) (main_arg4 : IVec S4 32) (main_arg5 : FVec F S64x16 .f32) (main_arg6 : FVec F S16 .f32) (main_arg7 : FVec F S16x64 .f32) (main_arg8 : FVec F S64 .f32) (main_arg9 : FVec F S67x64 .f32) (main_arg10 : FVec F S64 .f32) (main_arg11 : FVec F S64x1 .f32) (main_arg12 : FVec F S1 .f32) (main_arg13 : FVec F S128x64 .f32) (main_arg14 : FVec F S64 .f32) (main_arg15 : FVec F S64 .f32) (main_arg16 : FVec F S64 .f32) : IVec S_ 1 :=
  let main_c : IVec S_ 32 := constantI S_ 32 0#32
  let main_v0 : IVec S16384x1 32 := broadcastInDim S16384x1 ![] bcast_S_S16384x1 main_c
  let main_v1 : IVec S16384x1 1 := cmpi .sge main_arg0 main_v0
  let main_c_0 : IVec S_ 1 := constantI S_ 1 1#1
  let main_v2 : IVec S_ 1 := (fun x v => Host.reduce IntOp.andi x v reducesTo_S16384x1_S_d0_1 h_S_) main_v1 main_c_0
  let main_c_1 : IVec S_ 32 := constantI S_ 32 4096#32
  let main_v3 : IVec S16384x1 32 := broadcastInDim S16384x1 ![] bcast_S_S16384x1 main_c_1
  let main_v4 : IVec S16384x1 1 := cmpi .slt main_arg0 main_v3
  let main_c_2 : IVec S_ 1 := constantI S_ 1 1#1
  let main_v5 : IVec S_ 1 := (fun x v => Host.reduce IntOp.andi x v reducesTo_S16384x1_S_d0_1 h_S_) main_v4 main_c_2
  let main_v6 : IVec S_ 1 := andi main_v2 main_v5
  let main_v7 : IVec S4 32 := iotaInDim S4 32 0
  let main_c_3 : IVec S_ 32 := constantI S_ 32 1#32
  let main_v8 : IVec S4 32 := broadcastInDim S4 ![] bcast_S_S4 main_c_3
  let main_v9 : IVec S4 32 := addi main_v7 main_v8
  let main_c_4 : IVec S_ 32 := constantI S_ 32 4096#32
  let main_v10 : IVec S4 32 := broadcastInDim S4 ![] bcast_S_S4 main_c_4
  let main_v11 : IVec S4 32 := muli main_v9 main_v10
  let main_v12 : IVec S4 1 := cmpi .eq main_arg4 main_v11
  let main_c_5 : IVec S_ 1 := constantI S_ 1 1#1
  let main_v13 : IVec S_ 1 := (fun x v => Host.reduce IntOp.andi x v reducesTo_S4_S_d0 h_S_) main_v12 main_c_5
  let main_v14 : IVec S_ 1 := andi main_v6 main_v13
  let main_v15 : FVec F S16384x64 .f32 := Host.absf main_arg1
  let main_cst : FVec F S_ .f32 := constant S_ .f32 0x7F800000#32
  fn_part1 (F := F) main_arg13 main_arg14 main_v14 main_v15 main_cst
-- ==== Pre_one_nearest.lean ====
abbrev S16384x3 : Shape := ⟨2, ![16384, 3]⟩
abbrev S4096x3 : Shape := ⟨2, ![4096, 3]⟩
abbrev S_ : Shape := ⟨0, ![]⟩
abbrev S4096 : Shape := ⟨1, ![4096]⟩
abbrev S3x4096 : Shape := ⟨2, ![3, 4096]⟩
abbrev S16384x4096 : Shape := ⟨2, ![16384, 4096]⟩
abbrev S1x4096 : Shape := ⟨2, ![1, 4096]⟩
abbrev S16384 : Shape := ⟨1, ![16384]⟩
abbrev S16384x1 : Shape := ⟨2, ![16384, 1]⟩

class Facts : Prop where
  reducesTo_S4096x3_S4096_d1 : S4096x3.ReducesTo [1] S4096
  h_S_ : 0 < S_.numel
  transposes_S4096x3_S3x4096_1_0 : S4096x3.Transposes [1, 0] S3x4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  bcast_S16384_S16384x1_0 : S16384.BroadcastsInDim S16384x1 (![0] : Fin 1 → Fin S16384x1.rank)
  bcast_S_S16384x3 : S_.BroadcastsInDim S16384x3 (![] : Fin 0 → Fin S16384x3.rank)
  reducesTo_S16384x3_S_d0_1 : S16384x3.ReducesTo [0, 1] S_
  bcast_S_S4096x3 : S_.BroadcastsInDim S4096x3 (![] : Fin 0 → Fin S4096x3.rank)
  reducesTo_S4096x3_S_d0_1 : S4096x3.ReducesTo [0, 1] S_
  bcast_S16384x1_S16384x4096_0_1 : S16384x1.BroadcastsInDim S16384x4096 (![0, 1] : Fin 2 → Fin S16384x4096.rank)
  natLt_1_32 : 1 < 32
  bcast_S_S16384 : S_.BroadcastsInDim S16384 (![] : Fin 0 → Fin S16384.rank)
  reducesTo_S16384_S_d0 : S16384.ReducesTo [0] S_
  dot_S16384x3_S3x4096_S16384x4096_1_0_0_1_n_n_wf : DotDims.WF S16384x3 S3x4096 S16384x4096 [1] [0] [0] [1] [] []

variable [Facts]

def dot_S16384x3_S3x4096_S16384x4096_1_0_0_1_n_n : DotDims S16384x3 S3x4096 S16384x4096 where
  lhsContracting := [1]
  rhsContracting := [0]
  lhsNonContracting := [0]
  rhsNonContracting := [1]
  lhsBatch := []
  rhsBatch := []
  wf := dot_S16384x3_S3x4096_S16384x4096_1_0_0_1_n_n_wf
def fn_part1 {F : FTy → Type} [FloatOps F] (main_v8 : FVec F S16384x4096 .f32) (main_v10 : FVec F S16384x1 .f32) (main_v14 : IVec S_ 1) (main_v17 : IVec S4096x3 1) : IVec S_ 1 :=
  let main_c_4 : IVec S_ 1 := constantI S_ 1 1#1
  let main_v18 : IVec S_ 1 := (fun x v => Host.reduce IntOp.andi x v reducesTo_S4096x3_S_d0_1 h_S_) main_v17 main_c_4
  let main_v19 : IVec S_ 1 := andi main_v14 main_v18
  let main_v20 : FVec F S16384x4096 .f32 := broadcastInDim S16384x4096 ![0, 1] bcast_S16384x1_S16384x4096_0_1 main_v10
  let main_v21 : IVec S16384x4096 1 := cmpf .oeq main_v8 main_v20
  let main_v22 : IVec S16384x4096 32 := (extui 32 · natLt_1_32) main_v21
  let main_c_5 : IVec S_ 32 := constantI S_ 32 0#32
  let main_v23 : IVec S16384 32 := (fun x v => Host.reduce IntOp.addi x v reducesTo_S16384x4096_S16384_d1 h_S_) main_v22 main_c_5
  let main_c_6 : IVec S_ 32 := constantI S_ 32 1#32
  let main_v24 : IVec S16384 32 := broadcastInDim S16384 ![] bcast_S_S16384 main_c_6
  let main_v25 : IVec S16384 1 := cmpi .eq main_v23 main_v24
  let main_c_7 : IVec S_ 1 := constantI S_ 1 1#1
  let main_v26 : IVec S_ 1 := (fun x v => Host.reduce IntOp.andi x v reducesTo_S16384_S_d0 h_S_) main_v25 main_c_7
  let main_v27 : IVec S_ 1 := andi main_v19 main_v26
  main_v27

def fn {F : FTy → Type} [FloatOps F] (main_arg0 : FVec F S16384x3 .f32) (main_arg1 : FVec F S4096x3 .f32) : IVec S_ 1 :=
  let main_v0 : FVec F S4096x3 .f32 := mulf main_arg1 main_arg1
  let main_cst : FVec F S_ .f32 := constant S_ .f32 0x00000000#32
  let main_v1 : FVec F S4096 .f32 := (fun x v => Host.reduceAdd x v reducesTo_S4096x3_S4096_d1 h_S_) main_v0 main_cst
  let main_v2 : FVec F S3x4096 .f32 := (transpose S3x4096 [1, 0] · transposes_S4096x3_S3x4096_1_0) main_arg1
  let main_v3 : FVec F S16384x4096 .f32 := (fun l r => Host.dotGeneral dot_S16384x3_S3x4096_S16384x4096_1_0_0_1_n_n none l r) main_arg0 main_v2
  let main_v4 : FVec F S1x4096 .f32 := broadcastInDim S1x4096 ![1] bcast_S4096_S1x4096_1 main_v1
  let main_cst_0 : FVec F S_ .f32 := constant S_ .f32 0x3F000000#32
  let main_v5 : FVec F S1x4096 .f32 := broadcastInDim S1x4096 ![] bcast_S_S1x4096 main_cst_0
  let main_v6 : FVec F S1x4096 .f32 := mulf main_v5 main_v4
  let main_v7 : FVec F S16384x4096 .f32 := broadcastInDim S16384x4096 ![0, 1] bcast_S1x4096_S16384x4096_0_1 main_v6
  let main_v8 : FVec F S16384x4096 .f32 := subf main_v3 main_v7
  let main_cst_1 : FVec F S_ .f32 := constant S_ .f32 0xFF800000#32
  let main_v9 : FVec F S16384 .f32 := (fun x v => Host.reduce FloatOps.maximumf x v reducesTo_S16384x4096_S16384_d1 h_S_) main_v8 main_cst_1
  let main_v10 : FVec F S16384x1 .f32 := broadcastInDim S16384x1 ![0] bcast_S16384_S16384x1_0 main_v9
  let main_v11 : FVec F S16384x3 .f32 := Host.absf main_arg0
  let main_cst_2 : FVec F S_ .f32 := constant S_ .f32 0x7F800000#32
  let main_v12 : FVec F S16384x3 .f32 := broadcastInDim S16384x3 ![] bcast_S_S16384x3 main_cst_2
  let main_v13 : IVec S16384x3 1 := cmpf .olt main_v11 main_v12
  let main_c : IVec S_ 1 := constantI S_ 1 1#1
  let main_v14 : IVec S_ 1 := (fun x v => Host.reduce IntOp.andi x v reducesTo_S16384x3_S_d0_1 h_S_) main_v13 main_c
  let main_v15 : FVec F S4096x3 .f32 := Host.absf main_arg1
  let main_cst_3 : FVec F S_ .f32 := constant S_ .f32 0x7F800000#32
  let main_v16 : FVec F S4096x3 .f32 := broadcastInDim S4096x3 ![] bcast_S_S4096x3 main_cst_3
  let main_v17 : IVec S4096x3 1 := cmpf .olt main_v15 main_v16
  fn_part1 (F := F) main_v8 main_v10 main_v14 main_v17
-- ==== Kernel.lean ====
abbrev S16384x1 : Shape := ⟨2, ![16384, 1]⟩
abbrev S16384x64 : Shape := ⟨2, ![16384, 64]⟩
abbrev S16384x3 : Shape := ⟨2, ![16384, 3]⟩
abbrev S4096x64 : Shape := ⟨2, ![4096, 64]⟩
abbrev S4 : Shape := ⟨1, ![4]⟩
abbrev S64x16 : Shape := ⟨2, ![64, 16]⟩
abbrev S16 : Shape := ⟨1, ![16]⟩
abbrev S16x64 : Shape := ⟨2, ![16, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S128x64 : Shape := ⟨2, ![128, 64]⟩
abbrev S16384 : Shape := ⟨1, ![16384]⟩
abbrev S32x4096 : Shape := ⟨2, ![32, 4096]⟩
abbrev S512 : Shape := ⟨1, ![512]⟩
abbrev S4096 : Shape := ⟨1, ![4096]⟩
abbrev S_ : Shape := ⟨0, ![]⟩
abbrev S1x4096 : Shape := ⟨2, ![1, 4096]⟩
abbrev S1x4 : Shape := ⟨2, ![1, 4]⟩
abbrev S1x16 : Shape := ⟨2, ![1, 16]⟩
abbrev S1x64 : Shape := ⟨2, ![1, 64]⟩
abbrev S1x1 : Shape := ⟨2, ![1, 1]⟩
abbrev S4096x3 : Shape := ⟨2, ![4096, 3]⟩
abbrev S8x64 : Shape := ⟨2, ![8, 64]⟩
abbrev S8x4096 : Shape := ⟨2, ![8, 4096]⟩
abbrev S4x4096 : Shape := ⟨2, ![4, 4096]⟩
abbrev S4x1 : Shape := ⟨2, ![4, 1]⟩
abbrev S4x64 : Shape := ⟨2, ![4, 64]⟩
abbrev S4x16 : Shape := ⟨2, ![4, 16]⟩
abbrev S4096x4 : Shape := ⟨2, ![4096, 4]⟩
abbrev S4096x1 : Shape := ⟨2, ![4096, 1]⟩
abbrev S64x64 : Shape := ⟨2, ![64, 64]⟩
abbrev S3x64 : Shape := ⟨2, ![3, 64]⟩

abbrev nBuf : Table → Nat
  | .hbm => 30
  | .local .tc .vmem => 24
  | .local .scVector .vmem => 4
  | _ => 0

abbrev bufTy : (tb : Table) → Fin (nBuf tb) → BufTy
  | .hbm, ⟨0, _⟩ => ⟨S16384x1, .i32⟩
  | .hbm, ⟨1, _⟩ => ⟨S16384x64, .f32⟩
  | .hbm, ⟨2, _⟩ => ⟨S16384x3, .f32⟩
  | .hbm, ⟨3, _⟩ => ⟨S4096x64, .f32⟩
  | .hbm, ⟨4, _⟩ => ⟨S4, .i32⟩
  | .hbm, ⟨5, _⟩ => ⟨S64x16, .f32⟩
  | .hbm, ⟨6, _⟩ => ⟨S16, .f32⟩
  | .hbm, ⟨7, _⟩ => ⟨S16x64, .f32⟩
  | .hbm, ⟨8, _⟩ => ⟨S64, .f32⟩
  | .hbm, ⟨9, _⟩ => ⟨S67x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S128x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S16384, .i32⟩
  | .hbm, ⟨18, _⟩ => ⟨S32x4096, .f32⟩
  | .hbm, ⟨19, _⟩ => ⟨S16384, .i32⟩
  | .hbm, ⟨20, _⟩ => ⟨S32x4096, .f32⟩
  | .hbm, ⟨21, _⟩ => ⟨S1x4, .i32⟩
  | .hbm, ⟨22, _⟩ => ⟨S1x16, .f32⟩
  | .hbm, ⟨23, _⟩ => ⟨S1x64, .f32⟩
  | .hbm, ⟨24, _⟩ => ⟨S1x64, .f32⟩
  | .hbm, ⟨25, _⟩ => ⟨S1x1, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S16384x64, .f32⟩
  | .local .tc .vmem, ⟨0, _⟩ => ⟨S32x4096, .f32⟩
  | .local .tc .vmem, ⟨1, _⟩ => ⟨S4096x64, .f32⟩
  | .local .tc .vmem, ⟨2, _⟩ => ⟨S4096x64, .f32⟩
  | .local .tc .vmem, ⟨3, _⟩ => ⟨S4096x64, .f32⟩
  | .local .tc .vmem, ⟨4, _⟩ => ⟨S4096x3, .f32⟩
  | .local .tc .vmem, ⟨5, _⟩ => ⟨S4096x3, .f32⟩
  | .local .tc .vmem, ⟨6, _⟩ => ⟨S1x4, .i32⟩
  | .local .tc .vmem, ⟨7, _⟩ => ⟨S64x16, .f32⟩
  | .local .tc .vmem, ⟨8, _⟩ => ⟨S1x16, .f32⟩
  | .local .tc .vmem, ⟨9, _⟩ => ⟨S16x64, .f32⟩
  | .local .tc .vmem, ⟨10, _⟩ => ⟨S1x64, .f32⟩
  | .local .tc .vmem, ⟨11, _⟩ => ⟨S67x64, .f32⟩
  | .local .tc .vmem, ⟨12, _⟩ => ⟨S1x64, .f32⟩
  | .local .tc .vmem, ⟨13, _⟩ => ⟨S64x1, .f32⟩
  | .local .tc .vmem, ⟨14, _⟩ => ⟨S1x1, .f32⟩
  | .local .tc .vmem, ⟨15, _⟩ => ⟨S128x64, .f32⟩
  | .local .tc .vmem, ⟨16, _⟩ => ⟨S1x64, .f32⟩
  | .local .tc .vmem, ⟨17, _⟩ => ⟨S1x64, .f32⟩
  | .local .tc .vmem, ⟨18, _⟩ => ⟨S1x64, .f32⟩
  | .local .tc .vmem, ⟨19, _⟩ => ⟨S4096x64, .f32⟩
  | .local .tc .vmem, ⟨20, _⟩ => ⟨S4096x64, .f32⟩
  | .local .tc .vmem, ⟨21, _⟩ => ⟨S16384x64, .f32⟩
  | .local .tc .vmem, ⟨22, _⟩ => ⟨S8x64, .f32⟩
  | .local .tc .vmem, ⟨23, _⟩ => ⟨S8x64, .f32⟩
  | .local .scVector .vmem, ⟨0, _⟩ => ⟨S512, .i32⟩
  | .local .scVector .vmem, ⟨1, _⟩ => ⟨S4096, .f32⟩
  | .local .scVector .vmem, ⟨2, _⟩ => ⟨S512, .i32⟩
  | .local .scVector .vmem, ⟨3, _⟩ => ⟨S4096, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v0_scv : Ref sig .scVector := ⟨.hbm, 17, rfl⟩
abbrev main_v1_scv : Ref sig .scVector := ⟨.hbm, 18, rfl⟩
abbrev main_v2_scv : Ref sig .scVector := ⟨.hbm, 19, rfl⟩
abbrev main_v3_scv : Ref sig .scVector := ⟨.hbm, 20, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg2_1 : Ref sig .tc := ⟨.vmem, 3, rfl⟩
abbrev cc2_stg3_0 : Ref sig .tc := ⟨.vmem, 4, rfl⟩
abbrev cc2_stg3_1 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg11_0 : Ref sig .tc := ⟨.vmem, 13, rfl⟩
abbrev cc2_stg12_0 : Ref sig .tc := ⟨.vmem, 14, rfl⟩
abbrev cc2_stg13_0 : Ref sig .tc := ⟨.vmem, 15, rfl⟩
abbrev cc2_stg14_0 : Ref sig .tc := ⟨.vmem, 16, rfl⟩
abbrev cc2_stg15_0 : Ref sig .tc := ⟨.vmem, 17, rfl⟩
abbrev cc2_stg16_0 : Ref sig .tc := ⟨.vmem, 18, rfl⟩
abbrev cc2_stg17_0 : Ref sig .tc := ⟨.vmem, 19, rfl⟩
abbrev cc2_stg17_1 : Ref sig .tc := ⟨.vmem, 20, rfl⟩
abbrev cc2_scratch0 : Ref sig .tc := ⟨.vmem, 21, rfl⟩
abbrev cc2_scratch1 : Ref sig .tc := ⟨.vmem, 22, rfl⟩
abbrev cc2_scratch2 : Ref sig .tc := ⟨.vmem, 23, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_sem0_0 : DmaSem sig := 4
abbrev cc2_sem1_0 : DmaSem sig := 5
abbrev cc2_sem2_0 : DmaSem sig := 6
abbrev cc2_sem2_1 : DmaSem sig := 7
abbrev cc2_sem3_0 : DmaSem sig := 8
abbrev cc2_sem3_1 : DmaSem sig := 9
abbrev cc2_sem4_0 : DmaSem sig := 10
abbrev cc2_sem5_0 : DmaSem sig := 11
abbrev cc2_sem6_0 : DmaSem sig := 12
abbrev cc2_sem7_0 : DmaSem sig := 13
abbrev cc2_sem8_0 : DmaSem sig := 14
abbrev cc2_sem9_0 : DmaSem sig := 15
abbrev cc2_sem10_0 : DmaSem sig := 16
abbrev cc2_sem11_0 : DmaSem sig := 17
abbrev cc2_sem12_0 : DmaSem sig := 18
abbrev cc2_sem13_0 : DmaSem sig := 19
abbrev cc2_sem14_0 : DmaSem sig := 20
abbrev cc2_sem15_0 : DmaSem sig := 21
abbrev cc2_sem16_0 : DmaSem sig := 22
abbrev cc2_sem17_0 : DmaSem sig := 23
abbrev cc2_sem17_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32 : BitVec 32 := 16#32
  let v8 : BitVec 32 := Scalar.muli arg6 c16_i32
  let v9 : Index := Scalar.indexCast v8
  ![v9.toNat]
@[reducible] def k0_t2_loop : Scf.Loop 32 :=
  let c0_i32_4 : BitVec 32 := 0#32
  let c32_i32 : BitVec 32 := 32#32
  let v7 : BitVec 32 := Scalar.addi c0_i32_4 c32_i32
  let c1_i32_5 : BitVec 32 := 1#32
  ⟨c0_i32_4, v7, c1_i32_5⟩
def k0_off3 (k0_t2 : Fin k0_t2_loop.trips) : Fin 1 → Nat :=
  let c0_i32_4 : BitVec 32 := 0#32
  let c1_i32_5 : BitVec 32 := 1#32
  let arg6 : BitVec 32 := Scf.iv c0_i32_4 c1_i32_5 k0_t2
  let c16_i32 : BitVec 32 := 16#32
  let v8 : BitVec 32 := Scalar.muli arg6 c16_i32
  let v9 : Index := Scalar.indexCast v8
  ![v9.toNat]

def k0_chk1 (v10 : IVec S16 32) : Prop :=
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a)
theorem k0_idx1_inb : ∀ (v10 : IVec S16 32) (k0_hw1 : k0_chk1 v10), ∀ a x, ((![v10] : Fin 1 → IVec S16 32) a x).toNat < S4096.size a := fun v10 k0_hw1 => k0_hw1.1
theorem k0_idx2_inb : ∀ (v10 : IVec S16 32) (k0_hw1 : k0_chk1 v10), ∀ a x, ((![v10] : Fin 1 → IVec S16 32) a x).toNat < S4096.size a := fun v10 k0_hw1 => k0_hw1.2.1
theorem k0_idx3_inb : ∀ (v10 : IVec S16 32) (k0_hw1 : k0_chk1 v10), ∀ a x, ((![v10] : Fin 1 → IVec S16 32) a x).toNat < S4096.size a := fun v10 k0_hw1 => k0_hw1.2.2.1
theorem k0_idx4_inb : ∀ (v10 : IVec S16 32) (k0_hw1 : k0_chk1 v10), ∀ a x, ((![v10] : Fin 1 → IVec S16 32) a x).toNat < S4096.size a := fun v10 k0_hw1 => k0_hw1.2.2.2.1
theorem k0_idx5_inb : ∀ (v10 : IVec S16 32) (k0_hw1 : k0_chk1 v10), ∀ a x, ((![v10] : Fin 1 → IVec S16 32) a x).toNat < S4096.size a := fun v10 k0_hw1 => k0_hw1.2.2.2.2.1
theorem k0_idx6_inb : ∀ (v10 : IVec S16 32) (k0_hw1 : k0_chk1 v10), ∀ a x, ((![v10] : Fin 1 → IVec S16 32) a x).toNat < S4096.size a := fun v10 k0_hw1 => k0_hw1.2.2.2.2.2.1
theorem k0_idx7_inb : ∀ (v10 : IVec S16 32) (k0_hw1 : k0_chk1 v10), ∀ a x, ((![v10] : Fin 1 → IVec S16 32) a x).toNat < S4096.size a := fun v10 k0_hw1 => k0_hw1.2.2.2.2.2.2.1
theorem k0_idx8_inb : ∀ (v10 : IVec S16 32) (k0_hw1 : k0_chk1 v10), ∀ a x, ((![v10] : Fin 1 → IVec S16 32) a x).toNat < S4096.size a := fun v10 k0_hw1 => k0_hw1.2.2.2.2.2.2.2.1
theorem k0_idx9_inb : ∀ (v10 : IVec S16 32) (k0_hw1 : k0_chk1 v10), ∀ a x, ((![v10] : Fin 1 → IVec S16 32) a x).toNat < S4096.size a := fun v10 k0_hw1 => k0_hw1.2.2.2.2.2.2.2.2.1
theorem k0_idx10_inb : ∀ (v10 : IVec S16 32) (k0_hw1 : k0_chk1 v10), ∀ a x, ((![v10] : Fin 1 → IVec S16 32) a x).toNat < S4096.size a := fun v10 k0_hw1 => k0_hw1.2.2.2.2.2.2.2.2.2.1
theorem k0_idx11_inb : ∀ (v10 : IVec S16 32) (k0_hw1 : k0_chk1 v10), ∀ a x, ((![v10] : Fin 1 → IVec S16 32) a x).toNat < S4096.size a := fun v10 k0_hw1 => k0_hw1.2.2.2.2.2.2.2.2.2.2.1
theorem k0_idx12_inb : ∀ (v10 : IVec S16 32) (k0_hw1 : k0_chk1 v10), ∀ a x, ((![v10] : Fin 1 → IVec S16 32) a x).toNat < S4096.size a := fun v10 k0_hw1 => k0_hw1.2.2.2.2.2.2.2.2.2.2.2.1
theorem k0_idx13_inb : ∀ (v10 : IVec S16 32) (k0_hw1 : k0_chk1 v10), ∀ a x, ((![v10] : Fin 1 → IVec S16 32) a x).toNat < S4096.size a := fun v10 k0_hw1 => k0_hw1.2.2.2.2.2.2.2.2.2.2.2.2.1
theorem k0_idx14_inb : ∀ (v10 : IVec S16 32) (k0_hw1 : k0_chk1 v10), ∀ a x, ((![v10] : Fin 1 → IVec S16 32) a x).toNat < S4096.size a := fun v10 k0_hw1 => k0_hw1.2.2.2.2.2.2.2.2.2.2.2.2.2.1
theorem k0_idx15_inb : ∀ (v10 : IVec S16 32) (k0_hw1 : k0_chk1 v10), ∀ a x, ((![v10] : Fin 1 → IVec S16 32) a x).toNat < S4096.size a := fun v10 k0_hw1 => k0_hw1.2.2.2.2.2.2.2.2.2.2.2.2.2.2.1
theorem k0_idx16_inb : ∀ (v10 : IVec S16 32) (k0_hw1 : k0_chk1 v10), ∀ a x, ((![v10] : Fin 1 → IVec S16 32) a x).toNat < S4096.size a := fun v10 k0_hw1 => k0_hw1.2.2.2.2.2.2.2.2.2.2.2.2.2.2.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k1_off2 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32 : BitVec 32 := 16#32
  let v8 : BitVec 32 := Scalar.muli arg6 c16_i32
  let v9 : Index := Scalar.indexCast v8
  ![v9.toNat]
@[reducible] def k1_t2_loop : Scf.Loop 32 :=
  let c0_i32_4 : BitVec 32 := 0#32
  let c32_i32 : BitVec 32 := 32#32
  let v7 : BitVec 32 := Scalar.addi c0_i32_4 c32_i32
  let c1_i32_5 : BitVec 32 := 1#32
  ⟨c0_i32_4, v7, c1_i32_5⟩
def k1_off3 (k1_t2 : Fin k1_t2_loop.trips) : Fin 1 → Nat :=
  let c0_i32_4 : BitVec 32 := 0#32
  let c1_i32_5 : BitVec 32 := 1#32
  let arg6 : BitVec 32 := Scf.iv c0_i32_4 c1_i32_5 k1_t2
  let c16_i32 : BitVec 32 := 16#32
  let v8 : BitVec 32 := Scalar.muli arg6 c16_i32
  let v9 : Index := Scalar.indexCast v8
  ![v9.toNat]

def k1_chk1 (v10 : IVec S16 32) : Prop :=
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a) ∧
  (∀ a x, ((![v10] : Fin 1 → IVec S16 32) a x).toNat < S4096.size a)
theorem k1_idx1_inb : ∀ (v10 : IVec S16 32) (k1_hw1 : k1_chk1 v10), ∀ a x, ((![v10] : Fin 1 → IVec S16 32) a x).toNat < S4096.size a := fun v10 k1_hw1 => k1_hw1.1
theorem k1_idx2_inb : ∀ (v10 : IVec S16 32) (k1_hw1 : k1_chk1 v10), ∀ a x, ((![v10] : Fin 1 → IVec S16 32) a x).toNat < S4096.size a := fun v10 k1_hw1 => k1_hw1.2.1
theorem k1_idx3_inb : ∀ (v10 : IVec S16 32) (k1_hw1 : k1_chk1 v10), ∀ a x, ((![v10] : Fin 1 → IVec S16 32) a x).toNat < S4096.size a := fun v10 k1_hw1 => k1_hw1.2.2.1
theorem k1_idx4_inb : ∀ (v10 : IVec S16 32) (k1_hw1 : k1_chk1 v10), ∀ a x, ((![v10] : Fin 1 → IVec S16 32) a x).toNat < S4096.size a := fun v10 k1_hw1 => k1_hw1.2.2.2.1
theorem k1_idx5_inb : ∀ (v10 : IVec S16 32) (k1_hw1 : k1_chk1 v10), ∀ a x, ((![v10] : Fin 1 → IVec S16 32) a x).toNat < S4096.size a := fun v10 k1_hw1 => k1_hw1.2.2.2.2.1
theorem k1_idx6_inb : ∀ (v10 : IVec S16 32) (k1_hw1 : k1_chk1 v10), ∀ a x, ((![v10] : Fin 1 → IVec S16 32) a x).toNat < S4096.size a := fun v10 k1_hw1 => k1_hw1.2.2.2.2.2.1
theorem k1_idx7_inb : ∀ (v10 : IVec S16 32) (k1_hw1 : k1_chk1 v10), ∀ a x, ((![v10] : Fin 1 → IVec S16 32) a x).toNat < S4096.size a := fun v10 k1_hw1 => k1_hw1.2.2.2.2.2.2.1
theorem k1_idx8_inb : ∀ (v10 : IVec S16 32) (k1_hw1 : k1_chk1 v10), ∀ a x, ((![v10] : Fin 1 → IVec S16 32) a x).toNat < S4096.size a := fun v10 k1_hw1 => k1_hw1.2.2.2.2.2.2.2.1
theorem k1_idx9_inb : ∀ (v10 : IVec S16 32) (k1_hw1 : k1_chk1 v10), ∀ a x, ((![v10] : Fin 1 → IVec S16 32) a x).toNat < S4096.size a := fun v10 k1_hw1 => k1_hw1.2.2.2.2.2.2.2.2.1
theorem k1_idx10_inb : ∀ (v10 : IVec S16 32) (k1_hw1 : k1_chk1 v10), ∀ a x, ((![v10] : Fin 1 → IVec S16 32) a x).toNat < S4096.size a := fun v10 k1_hw1 => k1_hw1.2.2.2.2.2.2.2.2.2.1
theorem k1_idx11_inb : ∀ (v10 : IVec S16 32) (k1_hw1 : k1_chk1 v10), ∀ a x, ((![v10] : Fin 1 → IVec S16 32) a x).toNat < S4096.size a := fun v10 k1_hw1 => k1_hw1.2.2.2.2.2.2.2.2.2.2.1
theorem k1_idx12_inb : ∀ (v10 : IVec S16 32) (k1_hw1 : k1_chk1 v10), ∀ a x, ((![v10] : Fin 1 → IVec S16 32) a x).toNat < S4096.size a := fun v10 k1_hw1 => k1_hw1.2.2.2.2.2.2.2.2.2.2.2.1
theorem k1_idx13_inb : ∀ (v10 : IVec S16 32) (k1_hw1 : k1_chk1 v10), ∀ a x, ((![v10] : Fin 1 → IVec S16 32) a x).toNat < S4096.size a := fun v10 k1_hw1 => k1_hw1.2.2.2.2.2.2.2.2.2.2.2.2.1
theorem k1_idx14_inb : ∀ (v10 : IVec S16 32) (k1_hw1 : k1_chk1 v10), ∀ a x, ((![v10] : Fin 1 → IVec S16 32) a x).toNat < S4096.size a := fun v10 k1_hw1 => k1_hw1.2.2.2.2.2.2.2.2.2.2.2.2.2.1
theorem k1_idx15_inb : ∀ (v10 : IVec S16 32) (k1_hw1 : k1_chk1 v10), ∀ a x, ((![v10] : Fin 1 → IVec S16 32) a x).toNat < S4096.size a := fun v10 k1_hw1 => k1_hw1.2.2.2.2.2.2.2.2.2.2.2.2.2.2.1
theorem k1_idx16_inb : ∀ (v10 : IVec S16 32) (k1_hw1 : k1_chk1 v10), ∀ a x, ((![v10] : Fin 1 → IVec S16 32) a x).toNat < S4096.size a := fun v10 k1_hw1 => k1_hw1.2.2.2.2.2.2.2.2.2.2.2.2.2.2.2
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
abbrev grid2 : Pipeline.Grid := ⟨2, ![2, 4], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_off1 (i : grid2.Coords) : Fin 2 → Nat :=
  let arg1 : BitVec 32 := BitVec.ofNat 32 (i 1).val
  let c4096_i32_30 : BitVec 32 := 4096#32
  let v61 : BitVec 32 := Scalar.muli arg1 c4096_i32_30
  let v62 : Index := Scalar.indexCast v61
  let c0_31 : Index := 0#32
  ![v62.toNat, 0]
def k2_cond4 (i : grid2.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k2_off2 (i : grid2.Coords) : Fin 2 → Nat :=
  let arg1 : BitVec 32 := BitVec.ofNat 32 (i 1).val
  let c4096_i32 : BitVec 32 := 4096#32
  let v6 : BitVec 32 := Scalar.muli arg1 c4096_i32
  let v7 : Index := Scalar.indexCast v6
  let c0 : Index := 0#32
  ![v7.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage2_0 : Fin 1 → Memref sig .tc .vmem S32x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x4 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S16x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S67x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S64x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S128x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 2 → Memref sig .tc .vmem S4096x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x1 : Shape := ⟨2, ![16384, 1]⟩
abbrev S16384x64 : Shape := ⟨2, ![16384, 64]⟩
abbrev S16384x3 : Shape := ⟨2, ![16384, 3]⟩
abbrev S4096x64 : Shape := ⟨2, ![4096, 64]⟩
abbrev S4 : Shape := ⟨1, ![4]⟩
abbrev S64x16 : Shape := ⟨2, ![64, 16]⟩
abbrev S16 : Shape := ⟨1, ![16]⟩
abbrev S16x64 : Shape := ⟨2, ![16, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S128x64 : Shape := ⟨2, ![128, 64]⟩
abbrev S16384 : Shape := ⟨1, ![16384]⟩
abbrev S_ : Shape := ⟨0, ![]⟩
abbrev S1x4 : Shape := ⟨2, ![1, 4]⟩
abbrev S16384x4 : Shape := ⟨2, ![16384, 4]⟩
abbrev S4x64 : Shape := ⟨2, ![4, 64]⟩
abbrev S4x1 : Shape := ⟨2, ![4, 1]⟩
abbrev S4x16 : Shape := ⟨2, ![4, 16]⟩
abbrev S1x16 : Shape := ⟨2, ![1, 16]⟩
abbrev S1x64 : Shape := ⟨2, ![1, 64]⟩
abbrev S16384x67 : Shape := ⟨2, ![16384, 67]⟩
abbrev S1x1 : Shape := ⟨2, ![1, 1]⟩
abbrev S16384x128 : Shape := ⟨2, ![16384, 128]⟩

abbrev nBuf : Space → Nat
  | .hbm => 155
  | .vmem => 0
  | .smem => 0
  | _ => 0

abbrev hbmTy0_0 (i : Nat) : BufTy := match i % 128 with
  | 0 => ⟨S16384x1, .i32⟩
  | 1 => ⟨S16384x64, .f32⟩
  | 2 => ⟨S16384x3, .f32⟩
  | 3 => ⟨S4096x64, .f32⟩
  | 4 => ⟨S4, .i32⟩
  | 5 => ⟨S64x16, .f32⟩
  | 6 => ⟨S16, .f32⟩
  | 7 => ⟨S16x64, .f32⟩
  | 8 => ⟨S64, .f32⟩
  | 9 => ⟨S67x64, .f32⟩
  | 10 => ⟨S64, .f32⟩
  | 11 => ⟨S64x1, .f32⟩
  | 12 => ⟨S1, .f32⟩
  | 13 => ⟨S128x64, .f32⟩
  | 14 => ⟨S64, .f32⟩
  | 15 => ⟨S64, .f32⟩
  | 16 => ⟨S64, .f32⟩
  | 17 => ⟨S16384, .i32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384x64, .f32⟩
  | 27 => ⟨S16384, .i32⟩
  | 28 => ⟨S1x4, .i32⟩
  | 29 => ⟨S16384x1, .i32⟩
  | 30 => ⟨S16384x4, .i32⟩
  | 31 => ⟨S16384x4, .i32⟩
  | 32 => ⟨S16384x4, .i1⟩
  | 33 => ⟨S16384x4, .i32⟩
  | 34 => ⟨S_, .i32⟩
  | 35 => ⟨S16384, .i32⟩
  | 36 => ⟨S_, .f32⟩
  | 37 => ⟨S4x64, .f32⟩
  | 38 => ⟨S16384x1, .i32⟩
  | 39 => ⟨S4x64, .f32⟩
  | 40 => ⟨S_, .f32⟩
  | 41 => ⟨S16384, .f32⟩
  | 42 => ⟨S_, .f32⟩
  | 43 => ⟨S4, .f32⟩
  | 44 => ⟨S16384x1, .i32⟩
  | 45 => ⟨S4, .f32⟩
  | 46 => ⟨S_, .f32⟩
  | 47 => ⟨S4, .f32⟩
  | 48 => ⟨S4, .f32⟩
  | 49 => ⟨S4x1, .f32⟩
  | 50 => ⟨S4x64, .f32⟩
  | 51 => ⟨S4x64, .f32⟩
  | 52 => ⟨S4x16, .f32⟩
  | 53 => ⟨S1x16, .f32⟩
  | 54 => ⟨S4x16, .f32⟩
  | 55 => ⟨S4x16, .f32⟩
  | 56 => ⟨S_, .f32⟩
  | 57 => ⟨S4x16, .f32⟩
  | 58 => ⟨S4x16, .f32⟩
  | 59 => ⟨S4x64, .f32⟩
  | 60 => ⟨S1x64, .f32⟩
  | 61 => ⟨S4x64, .f32⟩
  | 62 => ⟨S4x64, .f32⟩
  | 63 => ⟨S4x64, .f32⟩
  | 64 => ⟨S4x64, .f32⟩
  | 65 => ⟨S_, .f32⟩
  | 66 => ⟨S4x64, .f32⟩
  | 67 => ⟨S4x64, .f32⟩
  | 68 => ⟨S_, .f32⟩
  | 69 => ⟨S4x64, .f32⟩
  | 70 => ⟨S4x64, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x64, .f32⟩
  | 80 => ⟨S16384x64, .f32⟩
  | 81 => ⟨S16384x67, .f32⟩
  | 82 => ⟨S16384x64, .f32⟩
  | 83 => ⟨S1x64, .f32⟩
  | 84 => ⟨S16384x64, .f32⟩
  | 85 => ⟨S16384x64, .f32⟩
  | 86 => ⟨S_, .f32⟩
  | 87 => ⟨S16384x64, .f32⟩
  | 88 => ⟨S16384x64, .f32⟩
  | 89 => ⟨S16384x1, .f32⟩
  | 90 => ⟨S1x1, .f32⟩
  | 91 => ⟨S16384x1, .f32⟩
  | 92 => ⟨S16384x1, .f32⟩
  | 93 => ⟨S16384x1, .f32⟩
  | 94 => ⟨S16384x1, .f32⟩
  | 95 => ⟨S_, .f32⟩
  | 96 => ⟨S16384x1, .f32⟩
  | 97 => ⟨S16384x1, .f32⟩
  | 98 => ⟨S_, .f32⟩
  | 99 => ⟨S16384x1, .f32⟩
  | 100 => ⟨S16384x1, .f32⟩
  | 101 => ⟨S16384x64, .f32⟩
  | 102 => ⟨S16384x64, .f32⟩
  | 103 => ⟨S16384x128, .f32⟩
  | 104 => ⟨S16384x64, .f32⟩
  | 105 => ⟨S1x64, .f32⟩
  | 106 => ⟨S16384x64, .f32⟩
  | 107 => ⟨S16384x64, .f32⟩
  | 108 => ⟨S_, .f32⟩
  | 109 => ⟨S64, .f32⟩
  | 110 => ⟨S_, .f32⟩
  | 111 => ⟨S64, .f32⟩
  | 112 => ⟨S64, .f32⟩
  | 113 => ⟨S_, .i32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S16384x64, .f32⟩
  | 121 => ⟨S16384x64, .f32⟩
  | 122 => ⟨S16384x64, .f32⟩
  | 123 => ⟨S_, .f32⟩
  | 124 => ⟨S_, .f32⟩
  | 125 => ⟨S_, .f32⟩
  | 126 => ⟨S_, .f32⟩
  | 127 => ⟨S64, .f32⟩
  | _ => ⟨S16384x1, .i32⟩

abbrev hbmTy0_1 (i : Nat) : BufTy := match i % 128 with
  | 0 => ⟨S64, .f32⟩
  | 1 => ⟨S64, .f32⟩
  | 2 => ⟨S_, .f32⟩
  | 3 => ⟨S_, .i1⟩
  | 4 => ⟨S_, .f32⟩
  | 5 => ⟨S_, .f32⟩
  | 6 => ⟨S64, .f32⟩
  | 7 => ⟨S64, .f32⟩
  | 8 => ⟨S1x64, .f32⟩
  | 9 => ⟨S16384x64, .f32⟩
  | 10 => ⟨S16384x64, .f32⟩
  | 11 => ⟨S_, .f32⟩
  | 12 => ⟨S64, .f32⟩
  | 13 => ⟨S64, .f32⟩
  | 14 => ⟨S64, .f32⟩
  | 15 => ⟨S1x64, .f32⟩
  | 16 => ⟨S16384x64, .f32⟩
  | 17 => ⟨S16384x64, .f32⟩
  | 18 => ⟨S1x64, .f32⟩
  | 19 => ⟨S16384x64, .f32⟩
  | 20 => ⟨S16384x64, .f32⟩
  | 21 => ⟨S1x64, .f32⟩
  | 22 => ⟨S16384x64, .f32⟩
  | 23 => ⟨S16384x64, .f32⟩
  | 24 => ⟨S_, .f32⟩
  | 25 => ⟨S16384x64, .f32⟩
  | 26 => ⟨S16384x64, .f32⟩
  | _ => ⟨S16384x1, .i32⟩

abbrev hbmTy (i : Nat) : BufTy := match i / 128 with
  | 0 => hbmTy0_0 i
  | 1 => hbmTy0_1 i
  | _ => ⟨S16384x1, .i32⟩

abbrev bufTy : (tb : Table) → Fin (tcTables nBuf tb) → BufTy
  | .hbm, ⟨i, _⟩ => hbmTy i
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_call0_cst : Ref sig .tc := ⟨.hbm, 114, rfl⟩
abbrev main_call0_v0 : Ref sig .tc := ⟨.hbm, 115, rfl⟩
abbrev main_call0_v1 : Ref sig .tc := ⟨.hbm, 116, rfl⟩
abbrev main_call0_cst_0 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_v5 : Ref sig .tc := ⟨.hbm, 121, rfl⟩
abbrev main_call0_v6 : Ref sig .tc := ⟨.hbm, 122, rfl⟩
abbrev main_call0_v7 : Ref sig .tc := ⟨.hbm, 123, rfl⟩
abbrev main_call0_cst_1 : Ref sig .tc := ⟨.hbm, 124, rfl⟩
abbrev main_call0_v8 : Ref sig .tc := ⟨.hbm, 125, rfl⟩
abbrev main_call0_cst_2 : Ref sig .tc := ⟨.hbm, 126, rfl⟩
abbrev main_call0_v9 : Ref sig .tc := ⟨.hbm, 127, rfl⟩
abbrev main_call0_v10 : Ref sig .tc := ⟨.hbm, 128, rfl⟩
abbrev main_call0_v11 : Ref sig .tc := ⟨.hbm, 129, rfl⟩
abbrev main_call0_cst_3 : Ref sig .tc := ⟨.hbm, 130, rfl⟩
abbrev main_call0_v12 : Ref sig .tc := ⟨.hbm, 131, rfl⟩
abbrev main_call0_cst_4 : Ref sig .tc := ⟨.hbm, 132, rfl⟩
abbrev main_call0_call0_v0 : Ref sig .tc := ⟨.hbm, 133, rfl⟩
abbrev main_call0_call0_v1 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_16 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_17 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== Search.lean ====
abbrev S16384x3 : Shape := ⟨2, ![16384, 3]⟩
abbrev S4096x3 : Shape := ⟨2, ![4096, 3]⟩
abbrev S3x4096 : Shape := ⟨2, ![3, 4096]⟩
abbrev S16384x1 : Shape := ⟨2, ![16384, 1]⟩
abbrev S2048x3 : Shape := ⟨2, ![2048, 3]⟩
abbrev S2048x1 : Shape := ⟨2, ![2048, 1]⟩
abbrev S4096 : Shape := ⟨1, ![4096]⟩
abbrev S1x4096 : Shape := ⟨2, ![1, 4096]⟩
abbrev S2048x4 : Shape := ⟨2, ![2048, 4]⟩
abbrev S4x4096 : Shape := ⟨2, ![4, 4096]⟩
abbrev S2048x4096 : Shape := ⟨2, ![2048, 4096]⟩
abbrev S2048 : Shape := ⟨1, ![2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S3x4096, .f32⟩
  | .hbm, ⟨3, _⟩ => ⟨S16384x1, .i32⟩
  | .local _ .vmem, ⟨0, _⟩ => ⟨S2048x3, .f32⟩
  | .local _ .vmem, ⟨1, _⟩ => ⟨S2048x3, .f32⟩
  | .local _ .vmem, ⟨2, _⟩ => ⟨S3x4096, .f32⟩
  | .local _ .vmem, ⟨3, _⟩ => ⟨S2048x1, .i32⟩
  | .local _ .vmem, ⟨4, _⟩ => ⟨S2048x1, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NearestIdeal.lean ====
abbrev S16384x3 : Shape := ⟨2, ![16384, 3]⟩
abbrev S4096x3 : Shape := ⟨2, ![4096, 3]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S3x4096 : Shape := ⟨2, ![3, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x3, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S3x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x1, .i32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Hist.lean ====
/-
  The values of the histogram: a table of 4096 counts, to which one is added at the bin each word of a block names, the words in
  their order. The kernel adds sixteen words per trip, one lane of the vector at a time (a masked indexed add whose mask keeps one
  lane); each such add is `bump` at that lane's word, whatever the arithmetic of the floats (`storeIdx_lane`). In the ideal
  arithmetic the table after `n` words holds, at each bin, the number of those words that name it (`count_ideal`).
-/
module

public import Idealize.ShloMosaic.PureOps.Ideal
public import Idealize.ShloMosaic.Lib.IdealHost
public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic

variable {F : FTy → Type} [FloatOps F]

/-- The two constants the kernel splats. -/
abbrev zero : F .f32 := Scalar.ofBits .f32 0x00000000#32
abbrev one : F .f32 := Scalar.ofBits .f32 0x3F800000#32

/-- One added at bin `n`. -/
def bump (f : Vec F S4096 .f32) (n : ℕ) : Vec F S4096 .f32 :=
  fun j => if (j 0).val = n then FloatOps.idxAddf (f j) one else f j

/-- The table after the first `n` words of `s`, from zeros. -/
def count (s : ℕ → ℕ) : ℕ → Vec F S4096 .f32
  | 0 => fun _ => zero
  | n + 1 => bump (count s n) (s n)

theorem count_succ (s : ℕ → ℕ) (n : ℕ) : count (F := F) s (n + 1) = bump (count s n) (s n) := rfl

/-- A table depends only on the words it has counted. -/
theorem count_congr {s t : ℕ → ℕ} (n : ℕ) (h : ∀ i < n, s i = t i) : count (F := F) s n = count t n := by
  induction n with
  | zero => rfl
  | succ n ih => rw [count_succ, count_succ, ih fun i hi => h i (Nat.lt_succ_of_lt hi), h n (Nat.lt_succ_self n)]

/-! ## A masked indexed add that keeps one lane -/

/-- The mask of lane `l`. -/
abbrev laneMask (l : ℕ) : IVec S16 1 :=
  cmpi .eq (iota .scVector S16 32 [0] iota_S16_d0_w32_scVector) (broadcast S16 (BitVec.ofNat 32 l))

theorem laneMask_eq (l : ℕ) (hl : l < 16) (k : Fin 16) : laneMask l (Shape.ofLane k) = 1 ↔ k.val = l := by
  have : ∀ (l : Fin 16) (k : Fin 16), laneMask l.val (Shape.ofLane k) = 1 ↔ k.val = l.val := by decide +kernel
  exact this ⟨l, hl⟩ k

theorem foldl_keep {α β : Type} (P : β → Prop) [DecidablePred P] (g : α → β → α) (L : List β) (f : α)
    (h : ∀ b ∈ L, ¬ P b) (hg : ∀ a b, ¬ P b → g a b = a) : L.foldl g f = f := by
  induction L generalizing f with
  | nil => rfl
  | cons b L ih =>
    rw [List.foldl_cons, hg _ _ (h b (List.mem_cons_self ..))]
    exact ih _ fun c hc => h c (List.mem_cons_of_mem _ hc)

/-- A fold that does something at one element of a list without repetition. -/
theorem foldl_single {α β : Type} [DecidableEq β] (g : α → β → α) (l : β) (hg : ∀ a b, b ≠ l → g a b = a)
    (L : List β) (hL : L.Nodup) (hl : l ∈ L) (f : α) : L.foldl g f = g f l := by
  induction L generalizing f with
  | nil => exact absurd hl (List.not_mem_nil)
  | cons b L ih =>
    rw [List.foldl_cons]
    by_cases hb : b = l
    · subst hb
      exact foldl_keep (fun c => c = b) g L _ (fun c hc e => (List.nodup_cons.mp hL).1 (e ▸ hc)) (fun a c hc => hg a c hc)
    · rw [hg _ _ hb]
      exact ih (List.nodup_cons.mp hL).2 ((List.mem_cons.mp hl).resolve_left (Ne.symm hb)) _

/-- Lane `l` of a vector of sixteen. -/
def lane (l : ℕ) (hl : l < 16) : S16.Idx := Shape.ofLane (⟨l, hl⟩ : Fin 16)

theorem storeIdx_lane (f : Vec F S4096 .f32) (v : Vec F S16 .i32) (l : ℕ) (hl : l < 16)
    (h : ∀ a x, ((![v] : Fin 1 → IVec S16 32) a x).toNat < S4096.size a) :
    storeIdx (F := F) (e := .f32) f (![v] : Fin 1 → IVec S16 32) (k0_pay2 (F := F)) (laneMask l) true h
      = bump f (v (lane l hl)).toNat := by
  unfold storeIdx
  refine (foldl_single _ (⟨l, hl⟩ : Fin 16) ?_ _ (List.nodup_finRange 16) (List.mem_finRange _) f).trans ?_
  · intro a b hb
    have : ¬ (laneMask l (Shape.ofLane b) = 1) := fun e => hb (Fin.ext ((laneMask_eq l hl b).mp e))
    simp only [this, if_false]
  · have : laneMask l (Shape.ofLane (⟨l, hl⟩ : Fin 16)) = 1 := (laneMask_eq l hl _).mpr rfl
    simp only [this, if_true]
    funext j
    unfold bump
    by_cases hj : (j 0).val = (v (lane l hl)).toNat
    · have hj' : ∀ a, (j a).val = (idxAt (![v] : Fin 1 → IVec S16 32) h (Shape.ofLane (⟨l, hl⟩ : Fin 16)) a).val := by
        intro a; obtain rfl : a = 0 := Subsingleton.elim a 0; exact hj
      have hje : idxAt (![v] : Fin 1 → IVec S16 32) h (Shape.ofLane ⟨l, hl⟩) = j := funext fun a => Fin.ext (hj' a).symm
      refine (if_pos hj').trans (Eq.trans ?_ (if_pos hj).symm)
      exact congrArg (fun i => FloatOps.idxAddf (f i) (one (F := F))) hje
    · exact (if_neg fun hj' => hj (hj' 0)).trans (if_neg hj).symm

/-! ## The sixteen adds of one trip -/

theorem pay_mask : k0_pay6 (iota .scVector S16 32 [0] iota_S16_d0_w32_scVector) = laneMask 0 := rfl

/-! ## The ideal arithmetic -/

theorem count_ideal (s : ℕ → ℕ) (n : ℕ) (j : S4096.Idx) :
    count (F := Ideal) s n j = (((Finset.range n).filter fun i => s i = (j 0).val).card : EReal) := by
  induction n with
  | zero => simp [count, zero]
  | succ n ih =>
    rw [count_succ]; unfold bump
    rw [Finset.range_add_one, Finset.filter_insert]
    by_cases h : (j 0).val = s n
    · rw [if_pos h, if_pos h.symm, Finset.card_insert_of_notMem (by simp), ih]
      simp [one]
    · rw [if_neg h, if_neg (Ne.symm h), ih]

end Cert.Proof.Hist

end
-- ==== Proof.Loops.lean ====
/-
  The two counted loops of the histogram's body, over any scratches: the first leaves the table of counts at zeros, the second takes
  it from zeros to the count of all the words of the index scratch (`Hist.count`), sixteen words a trip, one lane of the vector
  at a time. Both are stated over what the scratches READ, so that they serve whichever buffers a call passes.
-/
module

public import Idealize.ShloMosaic.Lib.Pipeline.Kit
public import Idealize.ShloMosaic.Lib.Tactic
public import Idealize.ShloMosaic.Lib.SparseCore.Quiescent
public import Idealize.ShloMosaic.Lib.SparseCore.Ops
public import proofs.«01_k».proof.Proof.Hist

@[expose] public section

noncomputable section

namespace Cert.Proof.Loops

open Cert.KernelIdeal Cert.KernelIdeal.Gen
open Cert.Proof.Hist

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The handshakes' rounds of the two SparseCore calls, and the rounds of the TensorCore call's staging cells. -/
abbrev UH : Type := URounds (GSem nD τ sig) ℕ
abbrev UP : Type := URounds (GSem nD τ sig) Unit
abbrev UU : Type := UH × (UP × Counters)
abbrev NQ : ℕ := 2

local notation "𝕄" => MT nD τ sig (HIx NQ) (Elt F) ℕ UU ℕ

abbrev 𝒱₀ : Variants := Variants.none

/-- The task's vector subcore. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

section Lane

variable (d : Dev nD) (L : grid0.Coords)
variable (base : Memref sig .scVector .vmem S4096 .f32)

omit [FloatOps F] in
/-- A memref's whole rectangle reads what it reads, -/
theorem read_access_whole (f : base.view.ty.Contents (Elt F)) :
    (base.access (.whole S4096)).read (Elt F) f = base.view.read (Elt F) f := by
  funext x
  show _root_.cast _ (f (base.view.emb ((Rect.whole S4096).emb x))) = _root_.cast _ (f (base.view.emb x))
  rw [Rect.emb_whole_apply]

/-- One masked indexed add that keeps lane `l`: the table is bumped at that lane's word. -/
theorem wp_lane (hset : (base.access (.whole S4096)).set = Finset.univ) (v : Vec F S16 .i32) (l : ℕ) (hl : l < 16) (mask : IVec S16 1) (hmask : mask = laneMask l)
    {h : ∀ a x, ((![v] : Fin 1 → IVec S16 32) a x).toNat < S4096.size a} {hs : (base.access (.whole S4096)).Stores Finset.univ}
    {Q : PUnit → sProp 𝕄} (f : Buf (Elt F) (base.view.loc (thr d L))) :
    (base.view.loc (thr d L) ↦{fullShare} f)
      ⊢ iprop((∀ f', ⌜base.view.read (Elt F) f' = bump (base.view.read (Elt F) f) (v (lane l hl)).toNat⌝ -∗ (base.view.loc (thr d L) ↦{fullShare} f')
            -∗ Q ⟨⟩)
          -∗ wp frame (wpE (defs₀ (F := F)) 𝒱₀ (thr d L) none) Set.univ
              (SparseCore.vectorStoreIdx base (![v] : Fin 1 → IVec S16 32) (k0_pay2 (F := F)) mask true h hs) Q) := by
  subst hmask
  have key := SparseCore.wp_vectorStoreIdx (defs := defs₀ (F := F)) 𝒱₀ (thr d L) none Set.univ (base := base) (idxs := (![v] : Fin 1 → IVec S16 32)) (v := k0_pay2 (F := F))
    (mask := laneMask l) (add := true) (h := h) (hs := hs) (k := pure) (Q := Q) (f := f)
  rw [bind_pure, hset] at key
  iintro H Hk
  iapply key $$ [H]
  · iexact H
  iintro H
  rw [wp_pure]; imodintro
  iapply Hk $$ %_ [] H
  ipureintro
  rw [← read_access_whole, View.read_write_univ, storeIdx_lane (h := h) (hl := hl), read_access_whole]

end Lane

section Body

variable (d : Dev nD) (L : grid0.Coords)
variable (arg2 : Memref sig .scVector .hbm S16384 .i32) (harg2 : arg2.IsWhole) (arg3 : Memref sig .scVector .hbm S32x4096 .f32) (harg3 : arg3.IsWhole)
  (arg4 : Memref sig .scVector .vmem S512 .i32) (harg4 : arg4.IsWhole) (arg5 : Memref sig .scVector .vmem S4096 .f32) (harg5 : arg5.IsWhole)
  (r0 : DmaSems sig S_) (r1 : DmaSems sig S_)

/-- The sixteen bins trip `k` of the first loop clears. -/
abbrev rz (k : Fin k0_t1_loop.trips) : Rect S4096 := Rect.unit (s := S4096) (k0_off2 k) S16.size (k0_off2_inb k)

omit [FloatOps F] in
theorem pts_access (r : Rect S4096) (f : Buf (Elt F) (arg5.view.loc (thr d L))) :
    (arg5.view.loc (thr d L) ↦{fullShare} f : sProp 𝕄) = ((arg5.access r).loc (thr d L) ↦{fullShare} f) := rfl

theorem mem_rz (k : Fin k0_t1_loop.trips) (j : S4096.Idx) :
    j ∈ Finset.univ.map (rz k).emb ↔ 16 * k.val ≤ (j 0).val ∧ (j 0).val < 16 * k.val + 16 := by
  rw [Rect.map_emb_univ, Rect.mem_set_unit]
  constructor
  · intro h; have := h 0; rw [k0_off2_eq] at this; exact this
  · intro h a; obtain rfl : a = 0 := Subsingleton.elim a 0; rw [k0_off2_eq]; exact h

/-- The table before trip `k` of the first loop: its first `16 k` bins are zeros. -/
def zinv (k : ℕ) (_ : Unit) : sProp 𝕄 :=
  iprop(∃ f, ⌜∀ j : S4096.Idx, (j 0).val < 16 * k → arg5.view.read (Elt F) f j = zero⌝ ∗ arg5.view.loc (thr d L) ↦{fullShare} f)

theorem zstep (k : Fin k0_t1_loop.trips) (acc : Unit) :
    zinv (F := F) d L arg5 k.val acc
      ⊢ wp frame (wpE (defs₀ (F := F)) 𝒱₀ (thr d L) none) Set.univ (k0_t1_body L arg2 harg2 arg3 harg3 arg4 harg4 arg5 harg5 r0 r1 k acc)
          (zinv d L arg5 (k.val + 1)) := by
  unfold zinv
  iintro ⟨%f, %hf, Hc⟩
  unfold k0_t1_body
  simp only [wp_bind, wp_pure, Prog.lift]
  iapply (wp_load 𝒱₀ (thr d L) none Set.univ (m := arg5) (S := Finset.univ) (f := f) (Finset.subset_univ _)) $$ Hc; iintro Hc
  rw [wp_ret]; imodintro
  ihave Hc := (Entails.of_eq (pts_access (F := F) d L arg5 (rz k) f)) $$ Hc
  iapply (wp_store 𝒱₀ (thr d L) none Set.univ (m := arg5) (r := rz k) (Mk := Finset.univ) (S := Finset.univ) (f := f) (Finset.subset_univ _)) $$ Hc; iintro Hc
  ihave Hc := (Entails.of_eq (pts_access (F := F) d L arg5 (rz k) _).symm) $$ Hc
  rw [wp_ret]; imodintro
  imodintro
  iexists _; isplitr
  swap; · iexact Hc
  ipureintro
  intro j hj
  by_cases hlt : (j 0).val < 16 * k.val
  · refine (View.read_slice_write_of_not_mem (rz k) f _ _ ?_).trans (hf j hlt)
    intro hm
    have h := (mem_rz k j).mp (hm)
    omega
  · obtain ⟨x, -, rfl⟩ := Finset.mem_map.mp ((mem_rz k j).mpr ⟨by omega, by omega⟩)
    exact View.read_slice_write_emb (rz k) f _ (Finset.mem_univ x)

/-- The words of the index scratch, by number. -/
def word (n : ℕ) (h : n < 512) : S512.Idx := Shape.ofLane (⟨n, h⟩ : Fin 512)
def words (s : Vec F S512 .i32) (n : ℕ) : ℕ := if h : n < 512 then (s (word n h)).toNat else 0

/-- The index scratch, and the table before trip `k` of the second loop: the count of the first `16 k` words. -/
def sinv (w : Vec F S512 .i32) (k : ℕ) (_ : Unit) : sProp 𝕄 :=
  iprop((∃ g, ⌜arg4.view.read (Elt F) g = w⌝ ∗ arg4.view.loc (thr d L) ↦{fullShare} g)
    ∗ ∃ f, ⌜arg5.view.read (Elt F) f = count (words w) (16 * k)⌝ ∗ arg5.view.loc (thr d L) ↦{fullShare} f)

/-- The sixteen words trip `k` of the second loop loads. -/
abbrev rw' (k : Fin k0_t2_loop.trips) : Rect S512 := Rect.unit (s := S512) (k0_off3 k) S16.size (k0_off3_inb k)

theorem lane_word (k : Fin k0_t2_loop.trips) (g : arg4.view.ty.Contents (Elt F)) (w : Vec F S512 .i32) (hg : arg4.view.read (Elt F) g = w) (l : ℕ) (hl : l < 16) :
    ((arg4.view.readAt (Elt F) (rw' k).toLoadRect g) (lane l hl)).toNat = words w (16 * k.val + l) := by
  have hk : k.val < 32 := lt_of_lt_of_le k.isLt k0_t2_abs.2.1
  have hlt : 16 * k.val + l < 512 := by omega
  rw [View.readAt_apply, hg]
  unfold words
  rw [dif_pos hlt]
  congr 2
  funext a; obtain rfl : a = 0 := Subsingleton.elim a 0
  refine Fin.ext ?_
  show (k0_off3 k) 0 + 1 * l = 16 * k.val + l
  rw [k0_off3_eq]; simp

/-- Words below 4096 pass the check on a trip's indices. -/
theorem chk (v : Vec F S16 .i32) (h : ∀ x, (v x).toNat < 4096) : k0_chk1 v := by
  have h' : ∀ a x, ((![v] : Fin 1 → IVec S16 32) a x).toNat < S4096.size a := by
    intro a x; obtain rfl : a = 0 := Subsingleton.elim a 0; exact h x
  exact ⟨h', h', h', h', h', h', h', h', h', h', h', h', h', h', h', h'⟩

theorem sstep (hset : (arg5.access (.whole S4096)).set = Finset.univ) (w : Vec F S512 .i32) (hw : ∀ x, (w x).toNat < 4096) (k : Fin k0_t2_loop.trips) (acc : Unit) :
    sinv (F := F) d L arg4 arg5 w k.val acc
      ⊢ wp frame (wpE (defs₀ (F := F)) 𝒱₀ (thr d L) none) Set.univ
          (k0_t2_body L arg2 harg2 arg3 harg3 arg4 harg4 arg5 harg5 r0 r1 (iota .scVector S16 32 [0] iota_S16_d0_w32_scVector) k acc)
          (sinv d L arg4 arg5 w (k.val + 1)) := by
  unfold sinv
  iintro ⟨⟨%g, %hg, Hs⟩, ⟨%f, %hf, Hc⟩⟩
  unfold k0_t2_body
  rw [k0_part1_eq_skeleton]
  unfold k0_part1_skel
  simp only [wp_bind, wp_pure, Prog.lift]
  iapply (wp_load 𝒱₀ (thr d L) none Set.univ (m := arg4) (S := Finset.univ) (f := g) (Finset.subset_univ _)) $$ Hs; iintro Hs
  rw [wp_ret]; imodintro
  have hl := lane_word (F := F) arg4 k g w hg
  generalize hv : arg4.view.readAt (Elt F) (rw' k).toLoadRect g = v at hl
  have hvlt : ∀ x, (v x).toNat < 4096 := by
    intro x; rw [← hv, View.readAt_apply, hg]; exact hw _
  iapply (wp_assume 𝒱₀ (thr d L) none Set.univ (chk v hvlt))
  rw [wp_ret]; imodintro
  iapply (wp_lane (F := F) d L arg5 hset v 0 (by decide) _ rfl) $$ Hc; iintro %f1 %h1 Hc
  iapply (wp_lane (F := F) d L arg5 hset v 1 (by decide) _ rfl) $$ Hc; iintro %f2 %h2 Hc
  iapply (wp_lane (F := F) d L arg5 hset v 2 (by decide) _ rfl) $$ Hc; iintro %f3 %h3 Hc
  iapply (wp_lane (F := F) d L arg5 hset v 3 (by decide) _ rfl) $$ Hc; iintro %f4 %h4 Hc
  iapply (wp_lane (F := F) d L arg5 hset v 4 (by decide) _ rfl) $$ Hc; iintro %f5 %h5 Hc
  iapply (wp_lane (F := F) d L arg5 hset v 5 (by decide) _ rfl) $$ Hc; iintro %f6 %h6 Hc
  iapply (wp_lane (F := F) d L arg5 hset v 6 (by decide) _ rfl) $$ Hc; iintro %f7 %h7 Hc
  iapply (wp_lane (F := F) d L arg5 hset v 7 (by decide) _ rfl) $$ Hc; iintro %f8 %h8 Hc
  iapply (wp_lane (F := F) d L arg5 hset v 8 (by decide) _ rfl) $$ Hc; iintro %f9 %h9 Hc
  iapply (wp_lane (F := F) d L arg5 hset v 9 (by decide) _ rfl) $$ Hc; iintro %f10 %h10 Hc
  iapply (wp_lane (F := F) d L arg5 hset v 10 (by decide) _ rfl) $$ Hc; iintro %f11 %h11 Hc
  iapply (wp_lane (F := F) d L arg5 hset v 11 (by decide) _ rfl) $$ Hc; iintro %f12 %h12 Hc
  iapply (wp_lane (F := F) d L arg5 hset v 12 (by decide) _ rfl) $$ Hc; iintro %f13 %h13 Hc
  imodintro
  iapply (wp_lane (F := F) d L arg5 hset v 13 (by decide) _ rfl) $$ Hc; iintro %f14 %h14 Hc
  iapply (wp_lane (F := F) d L arg5 hset v 14 (by decide) _ rfl) $$ Hc; iintro %f15 %h15 Hc
  iapply (wp_lane (F := F) d L arg5 hset v 15 (by decide) _ rfl) $$ Hc; iintro %f16 %h16 Hc
  imodintro
  isplitl [Hs]
  · iexists g; isplitr; · ipureintro; exact hg
    iexact Hs
  iexists f16; isplitr; swap; · iexact Hc
  ipureintro
  rw [h16, h15, h14, h13, h12, h11, h10, h9, h8, h7, h6, h5, h4, h3, h2, h1, hf]
  simp only [hl]
  rfl

/-- The first loop: from the table at any contents to the table at zeros. -/
theorem wp_zero {Q : Unit → sProp 𝕄} (f : Buf (Elt F) (arg5.view.loc (thr d L))) :
    (arg5.view.loc (thr d L) ↦{fullShare} f)
      ⊢ iprop((∀ f', ⌜∀ j, arg5.view.read (Elt F) f' j = zero⌝ -∗ (arg5.view.loc (thr d L) ↦{fullShare} f') -∗ Q ⟨⟩)
        -∗ wp frame (wpE (defs₀ (F := F)) 𝒱₀ (thr d L) none) Set.univ
          (Scf.Loop.for k0_t1_loop k0_t1_ok ⟨⟩ (k0_t1_body L arg2 harg2 arg3 harg3 arg4 harg4 arg5 harg5 r0 r1)) Q) := by
  iintro Hc HQ
  iapply (Scf.wp_for _ _ _ _ _ _ _ _ _ (zinv (F := F) d L arg5) (zstep d L arg2 harg2 arg3 harg3 arg4 harg4 arg5 harg5 r0 r1))
  isplitl [Hc]
  · unfold zinv; iexists f; isplitr; · ipureintro; intro j hj; omega
    iexact Hc
  iintro %acc H
  unfold zinv
  icases H with ⟨%f', %h, Hc⟩
  iapply HQ $$ %f' [] Hc
  ipureintro; intro j; exact h j (lt_of_lt_of_eq (j 0).isLt (by decide))

/-- The second loop: from the table at zeros to the count of the scratch's words. -/
theorem wp_scatter (hset : (arg5.access (.whole S4096)).set = Finset.univ) {Q : Unit → sProp 𝕄}
    (g : Buf (Elt F) (arg4.view.loc (thr d L))) (hw : ∀ x, (arg4.view.read (Elt F) g x).toNat < 4096)
    (f : Buf (Elt F) (arg5.view.loc (thr d L))) (hf : ∀ j, arg5.view.read (Elt F) f j = zero) :
    iprop((arg4.view.loc (thr d L) ↦{fullShare} g) ∗ (arg5.view.loc (thr d L) ↦{fullShare} f))
      ⊢ iprop((∀ g' f', ⌜arg5.view.read (Elt F) f' = count (words (arg4.view.read (Elt F) g)) 512⌝
          -∗ (arg4.view.loc (thr d L) ↦{fullShare} g') -∗ (arg5.view.loc (thr d L) ↦{fullShare} f') -∗ Q ⟨⟩)
        -∗ wp frame (wpE (defs₀ (F := F)) 𝒱₀ (thr d L) none) Set.univ
          (Scf.Loop.for k0_t2_loop k0_t2_ok ⟨⟩ (k0_t2_body L arg2 harg2 arg3 harg3 arg4 harg4 arg5 harg5 r0 r1 (iota .scVector S16 32 [0] iota_S16_d0_w32_scVector))) Q) := by
  iintro ⟨Hs, Hc⟩ HQ
  iapply (Scf.wp_for _ _ _ _ _ _ _ _ _ (sinv (F := F) d L arg4 arg5 (arg4.view.read (Elt F) g))
    (sstep d L arg2 harg2 arg3 harg3 arg4 harg4 arg5 harg5 r0 r1 hset _ hw))
  isplitl [Hs Hc]
  · unfold sinv
    isplitl [Hs]
    · iexists g; isplitr; · ipureintro; rfl
      iexact Hs
    iexists f; isplitr; · ipureintro; exact funext hf
    iexact Hc
  iintro %acc H
  unfold sinv
  icases H with ⟨⟨%g', -, Hs⟩, ⟨%f', %h, Hc⟩⟩
  iapply HQ $$ %g' %f' [] Hs Hc
  ipureintro; exact h.trans (congrArg _ (show 16 * k0_t2_loop.trips = 512 by decide))

end Body

end Cert.Proof.Loops

end
-- ==== Proof.Task.lean ====
/-
  One task of the histogram's call: the fetch of its block of the indices into the index scratch, the two loops (Loops.lean), and the
  write-out of the table to its row of the result. Over whatever buffers the call passes: what is known of the row afterwards is
  what it READS, the count of the words the block reads.
-/
module

public import proofs.«01_k».proof.Proof.Loops

@[expose] public section

noncomputable section

namespace Cert.Proof.Task

open Cert.KernelIdeal Cert.KernelIdeal.Gen
open Cert.Proof.Hist Cert.Proof.Loops

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx NQ) (Elt F) ℕ UU ℕ

variable (d : Dev nD) (L : grid0.Coords)
variable (arg2 : Memref sig .scVector .hbm S16384 .i32) (harg2 : arg2.IsWhole) (arg3 : Memref sig .scVector .hbm S32x4096 .f32) (harg3 : arg3.IsWhole)
  (arg4 : Memref sig .scVector .vmem S512 .i32) (harg4 : arg4.IsWhole) (arg5 : Memref sig .scVector .vmem S4096 .f32) (harg5 : arg5.IsWhole)
  (r0 : DmaSems sig S_) (r1 : DmaSems sig S_)

/-- The task's block of the indices and its row of the result, as the body names them. -/
abbrev iBlk : Memref sig .scVector .hbm S512 .i32 := arg2.slice (Rect.unit (s := S16384) (k0_off1 L) S512.size (k0_off1_inb L)) (fun _ => rfl)
abbrev oRow : Memref sig .scVector .hbm S4096 .f32 :=
  (arg3.slice (Rect.unit (s := S32x4096) (k0_off4 L) S1x4096.size (k0_off4_inb L)) (fun _ => rfl)).squeeze S4096 squeezes_S1x4096_S4096

theorem wp_task (h4 : (arg4.view).set = Finset.univ) (h5 : (arg5.view).set = Finset.univ)
    (O : CellTallies nD τ sig (HIx NQ)) (W : Waits sig (HIx NQ))
    (X : Buf (Elt F) ((iBlk L arg2).view.loc (thr d L))) (q : PosShare TreeShare) (hw : ∀ x, ((iBlk L arg2).view.read (Elt F) X x).toNat < 4096)
    (f3 : Buf (Elt F) ((oRow L arg3).view.loc (thr d L)))
    (f4 : Buf (Elt F) (arg4.view.loc (thr d L))) (f5 : Buf (Elt F) (arg5.view.loc (thr d L))) {Q : PUnit → sProp 𝕄} :
    iprop(((iBlk L arg2).view.loc (thr d L) ↦[(iBlk L arg2).view.set]{q} X) ∗ ((oRow L arg3).view.loc (thr d L) ↦[(oRow L arg3).view.set]{fullShare} f3)
        ∗ (arg4.view.loc (thr d L) ↦{fullShare} f4) ∗ (arg5.view.loc (thr d L) ↦{fullShare} f5)
        ∗ semVal (thr d L, .dma r0.sem) 0 ∗ semVal (thr d L, .dma r1.sem) 0
        ∗ owes (thr d L) O W ∗ MayWait (thr d L) (.dma r0.sem) (default : HIx NQ) O ∗ MayWait (thr d L) (.dma r1.sem) (default : HIx NQ) O)
      ⊢ iprop((∀ f3' W', ⌜(oRow L arg3).view.read (Elt F) f3' = count (words ((iBlk L arg2).view.read (Elt F) X)) 512⌝
            -∗ ⌜∀ p ∈ W', p ∈ W ∨ p.2 = none⌝
            -∗ ((iBlk L arg2).view.loc (thr d L) ↦[(iBlk L arg2).view.set]{q} X) -∗ ((oRow L arg3).view.loc (thr d L) ↦[(oRow L arg3).view.set]{fullShare} f3')
            -∗ (∃ f, arg4.view.loc (thr d L) ↦{fullShare} f) -∗ (∃ f, arg5.view.loc (thr d L) ↦{fullShare} f)
            -∗ semVal (thr d L, .dma r0.sem) 0 -∗ semVal (thr d L, .dma r1.sem) 0 -∗ owes (thr d L) O W' -∗ Q ⟨⟩)
        -∗ wp frame (wpE (defs₀ (F := F)) 𝒱₀ (thr d L) none) Set.univ
            (cc0__hist_body L arg2 harg2 arg3 harg3 arg4 harg4 arg5 harg5 r0 r1) Q) := by
  iintro ⟨Hi, Ho, Hs, Hc, Hsem0, Hsem1, HO, Hm0, Hm1⟩ HQ
  rw [cc0__hist_body_eq_skeleton]
  unfold cc0__hist_body_skel
  simp only [wp_bind, wp_pure, Prog.lift]
  iapply (Transfers.wp_dmaLocal countersEmb 𝒱₀ (thr d L) none (default : HIx NQ) _ rfl (View.amount_pos _ _ (show 0 < S512.numel by decide)) (Finset.subset_univ _)) $$ [Hi Hs Hsem0]
  · isplitl [Hi]; · iexact Hi
    isplitl [Hs]; · iexact Hs
    iexact Hsem0
  iintro HF
  rw [wp_ret]; imodintro
  iapply (Transfers.wp_waitLocalO countersEmb 𝒱₀ (thr d L) none (default : HIx NQ) rfl) $$ [HF HO Hm0]
  · isplitl [HF]; · iexact HF
    isplitl [HO]; · iexact HO
    iexact Hm0
  iintro ⟨⟨Hs, Hi⟩, Hsem0, HO⟩
  rw [wp_ret]; imodintro
  iapply (wp_zero d L arg2 harg2 arg3 harg3 arg4 harg4 arg5 harg5 r0 r1 f5) $$ Hc
  iintro %f5' %h5z Hc
  iapply (wp_scatter d L arg2 harg2 arg3 harg3 arg4 harg4 arg5 harg5 r0 r1 ?hset _ ?hww f5' h5z) $$ [Hs Hc]
  case hset => rw [View.set_slice, Rect.set_whole]; exact h5
  case hww => intro x; rw [View.read_write_univ]; exact hw x
  · isplitl [Hs]; · iexact Hs
    iexact Hc
  iintro %g' %f' %hf' Hs Hc
  iapply (Transfers.wp_dmaLocal countersEmb 𝒱₀ (thr d L) none (default : HIx NQ) _ rfl (View.amount_pos _ _ (show 0 < S4096.numel by decide)) subset_rfl) $$ [Hc Ho Hsem1]
  · isplitl [Hc]; · rw [h5]; iexact Hc
    isplitl [Ho]; · iexact Ho
    iexact Hsem1
  iintro HF
  rw [wp_ret]; imodintro
  iapply (Transfers.wp_waitLocalO countersEmb 𝒱₀ (thr d L) none (default : HIx NQ) rfl) $$ [HF HO Hm1]
  · isplitl [HF]; · iexact HF
    isplitl [HO]; · iexact HO
    iexact Hm1
  iintro ⟨⟨Ho, Hc⟩, Hsem1, HO⟩
  rw [wp_ret]; imodintro
  imodintro
  iapply HQ $$ %_ %_ [] [] Hi Ho [Hs] [Hc] Hsem0 Hsem1 HO
  · ipureintro
    rw [View.read_write_univ]; refine hf'.trans ?_; rw [View.read_write_univ]
  · ipureintro
    intro p hp
    rcases Finset.mem_insert.mp hp with rfl | hp
    · exact .inr rfl
    rcases Finset.mem_insert.mp hp with rfl | hp
    · exact .inr rfl
    exact .inl hp
  · iexists _; iexact Hs
  · iexists _; rw [h5]; iexact Hc

end Cert.Proof.Task

end
-- ==== Proof.Rows.lean ====
/-
  How the call's two arrays are dealt to its 32 tasks: task `w` takes block `w` of 512 of the 16384 indices and row `w` of the 32 rows
  of the result. The tasks are numbered `2 i + c` over the subcore `i` and the SparseCore `c`; every block and every row is one task's.
  The value of the whole result from the indices (`hist`), and that a task's row, by what it reads, is that row of it.
-/
module

public import proofs.«01_k».proof.Proof.Task
public import Idealize.ShloMosaic.Lib.Pipeline.Value

@[expose] public section

noncomputable section

namespace Cert.Proof.Rows

open Cert.KernelIdeal Cert.KernelIdeal.Gen
open Cert.Proof.Hist Cert.Proof.Loops Cert.Proof.Task

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx NQ) (Elt F) ℕ UU ℕ

/-- The words of the whole index array, by number. -/
def idxAt' (n : ℕ) (h : n < 16384) : S16384.Idx := Shape.ofLane (⟨n, h⟩ : Fin 16384)
def allWords (X : Vec F S16384 .i32) (n : ℕ) : ℕ := if h : n < 16384 then (X (idxAt' n h)).toNat else 0

/-- The bin that column `j 1` of the result holds. -/
def bin (j : S32x4096.Idx) : S4096.Idx := Shape.ofLane (⟨(j 1).val, (j 1).isLt⟩ : Fin 4096)

/-- Row `w` of the result: the count of the words of block `w`. -/
def hist (X : Vec F S16384 .i32) : Vec F S32x4096 .f32 :=
  fun j => Hist.count (fun n => allWords X (512 * (j 0).val + n)) 512 (bin j)

/-- Block `w` of the indices and row `w` of the result. -/
def iSet (w : ℕ) : Finset S16384.Idx := Finset.univ.filter fun j => (j 0).val / 512 = w
def oSet (w : ℕ) : Finset S32x4096.Idx := Finset.univ.filter fun j => (j 0).val = w

theorem mem_iSet {w : ℕ} {j : S16384.Idx} : j ∈ iSet w ↔ (j 0).val / 512 = w := by simp [iSet]
theorem mem_oSet {w : ℕ} {j : S32x4096.Idx} : j ∈ oSet w ↔ (j 0).val = w := by simp [oSet]

section Geometry

variable (L : grid0.Coords) (b2 : Memref sig .scVector .hbm S16384 .i32) (b3 : Memref sig .scVector .hbm S32x4096 .f32)

/-- The task's number. -/
abbrev wid (L : grid0.Coords) : ℕ := 2 * (L 1).val + (L 0).val

theorem iBlk_set : (Rect.unit (s := S16384) (k0_off1 L) S512.size (k0_off1_inb L)).set = iSet (wid L) := by
  ext j
  rw [Rect.mem_set_unit, mem_iSet]
  constructor
  · intro h; have := h 0; rw [k0_off1_eq] at this
    have h1 : 1024 * (L 1).val + 512 * (L 0).val ≤ (j 0).val ∧ (j 0).val < 1024 * (L 1).val + 512 * (L 0).val + 512 := this
    unfold wid; omega
  · intro h a; obtain rfl : a = 0 := Subsingleton.elim a 0; rw [k0_off1_eq]
    show 1024 * (L 1).val + 512 * (L 0).val ≤ (j 0).val ∧ (j 0).val < 1024 * (L 1).val + 512 * (L 0).val + 512
    unfold wid at h; omega

theorem oRow_set : (Rect.unit (s := S32x4096) (k0_off4 L) S1x4096.size (k0_off4_inb L)).set = oSet (wid L) := by
  ext j
  rw [Rect.mem_set_unit, mem_oSet]
  have h4 : (j 1).val < 4096 := (j 1).isLt
  constructor
  · intro h; have := h 0; rw [k0_off4_eq] at this
    have h1 : 2 * (L 1).val + (L 0).val ≤ (j 0).val ∧ (j 0).val < 2 * (L 1).val + (L 0).val + 1 := this
    unfold wid; omega
  · intro h a; rw [k0_off4_eq]; unfold wid at h
    match a with
    | ⟨0, _⟩ => show 2 * (L 1).val + (L 0).val ≤ (j 0).val ∧ (j 0).val < 2 * (L 1).val + (L 0).val + 1; omega
    | ⟨1, _⟩ => show 0 ≤ (j 1).val ∧ (j 1).val < 0 + 4096; omega

theorem iBlk_word (n : ℕ) (h : n < 512) :
    ((Rect.unit (s := S16384) (k0_off1 L) S512.size (k0_off1_inb L)).emb (word n h) 0).val = 512 * wid L + n := by
  rw [Rect.emb_apply]
  show (k0_off1 L) 0 + 1 * n = _
  rw [k0_off1_eq]
  show 1024 * (L 1).val + 512 * (L 0).val + 1 * n = _
  unfold wid; omega

end Geometry

theorem casts : S1x4096.ShapeCasts S4096 := by decide

section Dealt0

variable (L : grid0.Coords)

local notation "iV0" => (Memref.whole Cert.KernelIdeal.main_v0_scv : Memref Cert.KernelIdeal.sig Kind.scVector Space.hbm Cert.KernelIdeal.S16384 EltTy.i32)
local notation "oV0" => (Memref.whole Cert.KernelIdeal.main_v1_scv : Memref Cert.KernelIdeal.sig Kind.scVector Space.hbm Cert.KernelIdeal.S32x4096 EltTy.f32)

theorem set_iBlk0 : (iBlk L iV0).view.set = iSet (wid L) :=
  (View.set_slice_whole ..).trans (iBlk_set L)

theorem set_oRow0 : (oRow L oV0).view.set = oSet (wid L) := by
  show (((oV0).view.slice (Rect.unit (s := S32x4096) (k0_off4 L) S1x4096.size (k0_off4_inb L))).reshape S4096 squeezes_S1x4096_S4096.numel_eq).set = _
  rw [View.set_reshape]
  exact (View.set_slice_whole ..).trans (oRow_set L)

/-- What a task's block reads: the words of its block of the whole array. -/
theorem words_iBlk0 (X : Vec F S16384 .i32) (n : ℕ) (h : n < 512) :
    words ((iBlk L iV0).view.read (Elt F) X) n = allWords X (512 * wid L + n) := by
  have hw : wid L < 32 := by have h0 : (L 0).val < 2 := (L 0).isLt; have h1 : (L 1).val < 16 := (L 1).isLt; unfold wid; omega
  have hlt : 512 * wid L + n < 16384 := by omega
  unfold words allWords
  rw [dif_pos h, dif_pos hlt]
  have : (iBlk L iV0).view.read (Elt F) X (word n h) = X (idxAt' (512 * wid L + n) hlt) := by
    show X ((Rect.unit (s := S16384) (k0_off1 L) S512.size (k0_off1_inb L)).emb (word n h)) = _
    congr 1
    funext a; obtain rfl : a = 0 := Subsingleton.elim a 0
    exact Fin.ext (iBlk_word L n h)
  rw [this]

/-- A row known by what its view reads is known elementwise. -/
theorem oRow_value0 {f : Vec F S32x4096 .f32} {g : Vec F S4096 .f32} (h : (oRow L oV0).view.read (Elt F) f = g)
    (j : S32x4096.Idx) (hj : j ∈ oSet (wid L)) : f j = g (bin j) := by
  rw [mem_oSet] at hj
  rw [← h, Memref.read_squeeze_slice (oV0) _ (fun _ => rfl) squeezes_S1x4096_S4096 casts, shapeCast_dropUnit_apply, View.readAt_apply]
  show f j = f ((Rect.unit (s := S32x4096) (k0_off4 L) S1x4096.size (k0_off4_inb L)).emb (Fin.cons ⟨0, Nat.one_pos⟩ (bin j)))
  congr 1
  refine Shape.idx_ext₂ ?_ ?_
  · rw [Rect.emb_apply]
    show _ = (k0_off4 L) 0 + 1 * 0
    rw [k0_off4_eq]; show (j 0).val = 2 * (L 1).val + (L 0).val + 1 * 0
    unfold wid at hj; omega
  · rw [Rect.emb_apply]
    show _ = (k0_off4 L) 1 + 1 * (j 1).val
    rw [k0_off4_eq]; show (j 1).val = 0 + 1 * (j 1).val
    omega

/-- A row at the count of the words its block reads is that row of the whole count. -/
theorem oRow_hist0 {f : Vec F S32x4096 .f32} {X : Vec F S16384 .i32}
    (h : (oRow L oV0).view.read (Elt F) f = Hist.count (words ((iBlk L iV0).view.read (Elt F) X)) 512) :
    ∀ j ∈ oSet (wid L), f j = hist X j := fun j hj => by
  rw [oRow_value0 L h j hj, Hist.count_congr 512 fun n hn => words_iBlk0 L X n hn]
  unfold hist; rw [mem_oSet.mp hj]

end Dealt0

section Dealt1

variable (L : grid0.Coords)

local notation "iV1" => (Memref.whole Cert.KernelIdeal.main_v2_scv : Memref Cert.KernelIdeal.sig Kind.scVector Space.hbm Cert.KernelIdeal.S16384 EltTy.i32)
local notation "oV1" => (Memref.whole Cert.KernelIdeal.main_v3_scv : Memref Cert.KernelIdeal.sig Kind.scVector Space.hbm Cert.KernelIdeal.S32x4096 EltTy.f32)

theorem set_iBlk1 : (iBlk L iV1).view.set = iSet (wid L) :=
  (View.set_slice_whole ..).trans (iBlk_set L)

theorem set_oRow1 : (oRow L oV1).view.set = oSet (wid L) := by
  show (((oV1).view.slice (Rect.unit (s := S32x4096) (k0_off4 L) S1x4096.size (k0_off4_inb L))).reshape S4096 squeezes_S1x4096_S4096.numel_eq).set = _
  rw [View.set_reshape]
  exact (View.set_slice_whole ..).trans (oRow_set L)

/-- What a task's block reads: the words of its block of the whole array. -/
theorem words_iBlk1 (X : Vec F S16384 .i32) (n : ℕ) (h : n < 512) :
    words ((iBlk L iV1).view.read (Elt F) X) n = allWords X (512 * wid L + n) := by
  have hw : wid L < 32 := by have h0 : (L 0).val < 2 := (L 0).isLt; have h1 : (L 1).val < 16 := (L 1).isLt; unfold wid; omega
  have hlt : 512 * wid L + n < 16384 := by omega
  unfold words allWords
  rw [dif_pos h, dif_pos hlt]
  have : (iBlk L iV1).view.read (Elt F) X (word n h) = X (idxAt' (512 * wid L + n) hlt) := by
    show X ((Rect.unit (s := S16384) (k0_off1 L) S512.size (k0_off1_inb L)).emb (word n h)) = _
    congr 1
    funext a; obtain rfl : a = 0 := Subsingleton.elim a 0
    exact Fin.ext (iBlk_word L n h)
  rw [this]

/-- A row known by what its view reads is known elementwise. -/
theorem oRow_value1 {f : Vec F S32x4096 .f32} {g : Vec F S4096 .f32} (h : (oRow L oV1).view.read (Elt F) f = g)
    (j : S32x4096.Idx) (hj : j ∈ oSet (wid L)) : f j = g (bin j) := by
  rw [mem_oSet] at hj
  rw [← h, Memref.read_squeeze_slice (oV1) _ (fun _ => rfl) squeezes_S1x4096_S4096 casts, shapeCast_dropUnit_apply, View.readAt_apply]
  show f j = f ((Rect.unit (s := S32x4096) (k0_off4 L) S1x4096.size (k0_off4_inb L)).emb (Fin.cons ⟨0, Nat.one_pos⟩ (bin j)))
  congr 1
  refine Shape.idx_ext₂ ?_ ?_
  · rw [Rect.emb_apply]
    show _ = (k0_off4 L) 0 + 1 * 0
    rw [k0_off4_eq]; show (j 0).val = 2 * (L 1).val + (L 0).val + 1 * 0
    unfold wid at hj; omega
  · rw [Rect.emb_apply]
    show _ = (k0_off4 L) 1 + 1 * (j 1).val
    rw [k0_off4_eq]; show (j 1).val = 0 + 1 * (j 1).val
    omega

/-- A row at the count of the words its block reads is that row of the whole count. -/
theorem oRow_hist1 {f : Vec F S32x4096 .f32} {X : Vec F S16384 .i32}
    (h : (oRow L oV1).view.read (Elt F) f = Hist.count (words ((iBlk L iV1).view.read (Elt F) X)) 512) :
    ∀ j ∈ oSet (wid L), f j = hist X j := fun j hj => by
  rw [oRow_value1 L h j hj, Hist.count_congr 512 fun n hn => words_iBlk1 L X n hn]
  unfold hist; rw [mem_oSet.mp hj]

end Dealt1

/-! ## Every block and every row is one task's -/

/-- The number of the task on subcore `i` of SparseCore `c`. -/
abbrev wnum (c : Fin 2) (i : Fin 16) : ℕ := 2 * i.val + c.val

theorem iSet_disjoint (c : Fin 2) : ∀ i ∈ (Finset.univ : Finset (Fin 16)), ∀ i' ∈ (Finset.univ : Finset (Fin 16)), i ≠ i' → Disjoint (iSet (wnum c i)) (iSet (wnum c i')) := by
  intro i _ i' _ h
  rw [Finset.disjoint_left]; intro j h1 h2
  rw [mem_iSet] at h1 h2
  have : i.val ≠ i'.val := fun e => h (Fin.ext e)
  unfold wnum at h1 h2; omega
theorem oSet_disjoint (c : Fin 2) : ∀ i ∈ (Finset.univ : Finset (Fin 16)), ∀ i' ∈ (Finset.univ : Finset (Fin 16)), i ≠ i' → Disjoint (oSet (wnum c i)) (oSet (wnum c i')) := by
  intro i _ i' _ h
  rw [Finset.disjoint_left]; intro j h1 h2
  rw [mem_oSet] at h1 h2
  have : i.val ≠ i'.val := fun e => h (Fin.ext e)
  unfold wnum at h1 h2; omega

/-- The blocks and the rows of one SparseCore's tasks. -/
def iCore (c : Fin 2) : Finset S16384.Idx := (Finset.univ : Finset (Fin 16)).biUnion fun i => iSet (wnum c i)
def oCore (c : Fin 2) : Finset S32x4096.Idx := (Finset.univ : Finset (Fin 16)).biUnion fun i => oSet (wnum c i)

theorem mem_iCore {c : Fin 2} {j : S16384.Idx} : j ∈ iCore c ↔ (j 0).val / 512 % 2 = c.val := by
  have hj : (j 0).val < 16384 := (j 0).isLt
  unfold iCore; rw [Finset.mem_biUnion]
  constructor
  · rintro ⟨i, -, h⟩; rw [mem_iSet] at h; unfold wnum at h; omega
  · intro h; refine ⟨⟨(j 0).val / 512 / 2, by omega⟩, Finset.mem_univ _, ?_⟩
    rw [mem_iSet]; unfold wnum; simp only; omega
theorem mem_oCore {c : Fin 2} {j : S32x4096.Idx} : j ∈ oCore c ↔ (j 0).val % 2 = c.val := by
  have hj : (j 0).val < 32 := (j 0).isLt
  unfold oCore; rw [Finset.mem_biUnion]
  constructor
  · rintro ⟨i, -, h⟩; rw [mem_oSet] at h; unfold wnum at h; omega
  · intro h; refine ⟨⟨(j 0).val / 2, by omega⟩, Finset.mem_univ _, ?_⟩
    rw [mem_oSet]; unfold wnum; simp only; omega

theorem iCore_disjoint : ∀ c ∈ (Finset.univ : Finset (Fin 2)), ∀ c' ∈ (Finset.univ : Finset (Fin 2)), c ≠ c' → Disjoint (iCore c) (iCore c') := by
  intro c _ c' _ h
  rw [Finset.disjoint_left]; intro j h1 h2
  rw [mem_iCore] at h1 h2
  exact h (Fin.ext (h1.symm.trans h2))
theorem oCore_disjoint : ∀ c ∈ (Finset.univ : Finset (Fin 2)), ∀ c' ∈ (Finset.univ : Finset (Fin 2)), c ≠ c' → Disjoint (oCore c) (oCore c') := by
  intro c _ c' _ h
  rw [Finset.disjoint_left]; intro j h1 h2
  rw [mem_oCore] at h1 h2
  exact h (Fin.ext (h1.symm.trans h2))
theorem iCore_cover : (Finset.univ : Finset (Fin 2)).biUnion iCore = Finset.univ := by
  ext j; rw [Finset.mem_biUnion]
  exact ⟨fun _ => Finset.mem_univ _, fun _ => ⟨⟨(j 0).val / 512 % 2, Nat.mod_lt _ (by omega)⟩, Finset.mem_univ _, mem_iCore.mpr rfl⟩⟩
theorem oCore_cover : (Finset.univ : Finset (Fin 2)).biUnion oCore = Finset.univ := by
  ext j; rw [Finset.mem_biUnion]
  exact ⟨fun _ => Finset.mem_univ _, fun _ => ⟨⟨(j 0).val % 2, Nat.mod_lt _ (by omega)⟩, Finset.mem_univ _, mem_oCore.mpr rfl⟩⟩

end Cert.Proof.Rows

end
-- ==== Proof.Launch.lean ====
/-
  The two SparseCore calls launched: in each the index array and the result dealt by blocks and rows to the 32 tasks on the two
  SparseCores, every task's run (Task.lean), and the rows joined to the whole result at `hist` of the indices.
-/
module

public import proofs.«01_k».proof.Proof.Rows
public import Idealize.ShloMosaic.Lib.SparseCore.Quiescent

@[expose] public section

noncomputable section

namespace Cert.Proof.Launch

open Cert.KernelIdeal Cert.KernelIdeal.Gen
open Cert.Proof.Hist Cert.Proof.Loops Cert.Proof.Task Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱 : Variants := 𝒱₀.lift
abbrev v₀ : 𝒱.V := Sum.inl none

theorem nSub_q (q : Fin 2) : (K (F := F)).nSub q = 16 := by fin_cases q <;> rfl
theorem nCore_q (q : Fin 2) : (K (F := F)).nCore q = 2 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx NQ) (Elt F) ℕ UU ℕ

abbrev EH : Emb UH (MT nD τ sig (HIx NQ) (Elt F) ℕ UU ℕ) := embL

local notation "iV0" => (Memref.whole Cert.KernelIdeal.main_v0_scv : Memref Cert.KernelIdeal.sig Kind.scVector Space.hbm Cert.KernelIdeal.S16384 EltTy.i32)
local notation "oV0" => (Memref.whole Cert.KernelIdeal.main_v1_scv : Memref Cert.KernelIdeal.sig Kind.scVector Space.hbm Cert.KernelIdeal.S32x4096 EltTy.f32)
local notation "sI0" => (Memref.whole Cert.KernelIdeal.cc0_scratch0 : Memref Cert.KernelIdeal.sig Kind.scVector Space.vmem Cert.KernelIdeal.S512 EltTy.i32)
local notation "sT0" => (Memref.whole Cert.KernelIdeal.cc0_scratch1 : Memref Cert.KernelIdeal.sig Kind.scVector Space.vmem Cert.KernelIdeal.S4096 EltTy.f32)
local notation "iV1" => (Memref.whole Cert.KernelIdeal.main_v2_scv : Memref Cert.KernelIdeal.sig Kind.scVector Space.hbm Cert.KernelIdeal.S16384 EltTy.i32)
local notation "oV1" => (Memref.whole Cert.KernelIdeal.main_v3_scv : Memref Cert.KernelIdeal.sig Kind.scVector Space.hbm Cert.KernelIdeal.S32x4096 EltTy.f32)
local notation "sI1" => (Memref.whole Cert.KernelIdeal.cc1_scratch0 : Memref Cert.KernelIdeal.sig Kind.scVector Space.vmem Cert.KernelIdeal.S512 EltTy.i32)
local notation "sT1" => (Memref.whole Cert.KernelIdeal.cc1_scratch1 : Memref Cert.KernelIdeal.sig Kind.scVector Space.vmem Cert.KernelIdeal.S4096 EltTy.f32)

/-! ## The arrays and what the handshakes carry -/

/-- The two calls' index arrays and results, as locations of device `d`. -/
abbrev iLoc0 (d : Dev nD) : Loc nD τ sig := (SparseCore.T d).loc main_v0
abbrev oLoc0 (d : Dev nD) : Loc nD τ sig := (SparseCore.T d).loc main_v1
abbrev iLoc1 (d : Dev nD) : Loc nD τ sig := (SparseCore.T d).loc main_v2
abbrev oLoc1 (d : Dev nD) : Loc nD τ sig := (SparseCore.T d).loc main_v3

variable (X : Dev nD → Vec F S16384 .i32)

/-- Task `w`'s part of the two arrays before and after: its block of the indices and its row of the result, at any contents before,
    at the count after. -/
abbrev iPts0 (d : Dev nD) (w : ℕ) : sProp 𝕄 := iLoc0 d ↦[iSet w]{fullShare} X d
abbrev oAny0 (d : Dev nD) (w : ℕ) : sProp 𝕄 := iprop(∃ f : Vec F S32x4096 .f32, oLoc0 d ↦[oSet w]{fullShare} f)
abbrev oPts0 (d : Dev nD) (w : ℕ) : sProp 𝕄 := oLoc0 d ↦[oSet w]{fullShare} hist (X d)

/-- The number of the task on subcore `i` of SparseCore `c`, over the call's own index types. -/
abbrev wq0 (c : Fin ((K (F := F)).nCore 0)) (i : Fin ((K (F := F)).nSub 0)) : ℕ := wnum (Fin.cast (nCore_q 0) c) (Fin.cast (nSub_q 0) i)

abbrev goP0 (d : Dev nD) (c : Fin ((K (F := F)).nCore 0)) (i : Fin ((K (F := F)).nSub 0)) : sProp 𝕄 := iprop(iPts0 X d (wq0 c i) ∗ oAny0 d (wq0 c i))
abbrev tdP0 (d : Dev nD) (c : Fin ((K (F := F)).nCore 0)) (i : Fin ((K (F := F)).nSub 0)) : sProp 𝕄 := iprop(iPts0 X d (wq0 c i) ∗ oPts0 X d (wq0 c i))

/-- Task `w`'s part of the two arrays before and after: its block of the indices and its row of the result, at any contents before,
    at the count after. -/
abbrev iPts1 (d : Dev nD) (w : ℕ) : sProp 𝕄 := iLoc1 d ↦[iSet w]{fullShare} X d
abbrev oAny1 (d : Dev nD) (w : ℕ) : sProp 𝕄 := iprop(∃ f : Vec F S32x4096 .f32, oLoc1 d ↦[oSet w]{fullShare} f)
abbrev oPts1 (d : Dev nD) (w : ℕ) : sProp 𝕄 := oLoc1 d ↦[oSet w]{fullShare} hist (X d)

/-- The number of the task on subcore `i` of SparseCore `c`, over the call's own index types. -/
abbrev wq1 (c : Fin ((K (F := F)).nCore 1)) (i : Fin ((K (F := F)).nSub 1)) : ℕ := wnum (Fin.cast (nCore_q 1) c) (Fin.cast (nSub_q 1) i)

abbrev goP1 (d : Dev nD) (c : Fin ((K (F := F)).nCore 1)) (i : Fin ((K (F := F)).nSub 1)) : sProp 𝕄 := iprop(iPts1 X d (wq1 c i) ∗ oAny1 d (wq1 c i))
abbrev tdP1 (d : Dev nD) (c : Fin ((K (F := F)).nCore 1)) (i : Fin ((K (F := F)).nSub 1)) : sProp 𝕄 := iprop(iPts1 X d (wq1 c i) ∗ oPts1 X d (wq1 c i))

/-- A SparseCore's start carries its 16 tasks' parts, its completion the same with the rows counted. -/
def P : (K (F := F)).Pay (nD := nD) (Val := Elt F) (Name := ℕ) (U := UU) where
  st := fun q d c => match q with | 0 => bigSep Finset.univ fun i => goP0 X d c i | 1 => bigSep Finset.univ fun i => goP1 X d c i
  dn := fun q d c => match q with | 0 => bigSep Finset.univ fun i => tdP0 X d c i | 1 => bigSep Finset.univ fun i => tdP1 X d c i
  go := fun q d c i => match q with | 0 => goP0 X d c i | 1 => goP1 X d c i
  td := fun q d c i => match q with | 0 => tdP0 X d c i | 1 => tdP1 X d c i
  x := fun _ _ => iprop(emp)

instance P_storable : (P (F := F) X).IsStorable where
  st q d c := match q with
    | 0 => (inferInstance : BI.Storable (upEmb : UEmb _ 𝕄) (bigSep Finset.univ fun i => goP0 X d c i))
    | 1 => (inferInstance : BI.Storable (upEmb : UEmb _ 𝕄) (bigSep Finset.univ fun i => goP1 X d c i))
  dn q d c := match q with
    | 0 => (inferInstance : BI.Storable (upEmb : UEmb _ 𝕄) (bigSep Finset.univ fun i => tdP0 X d c i))
    | 1 => (inferInstance : BI.Storable (upEmb : UEmb _ 𝕄) (bigSep Finset.univ fun i => tdP1 X d c i))
  go q d c i := match q with
    | 0 => (inferInstance : BI.Storable (upEmb : UEmb _ 𝕄) (goP0 X d c i))
    | 1 => (inferInstance : BI.Storable (upEmb : UEmb _ 𝕄) (goP1 X d c i))
  td q d c i := match q with
    | 0 => (inferInstance : BI.Storable (upEmb : UEmb _ 𝕄) (tdP0 X d c i))
    | 1 => (inferInstance : BI.Storable (upEmb : UEmb _ 𝕄) (tdP1 X d c i))

/-! ## Call 0 -/

section Tile0

variable (d : Dev nD) (L : grid0.Coords)

theorem pts_iBlk0 (f : Buf (Elt F) (iLoc0 d)) :
    ((iBlk L iV0).view.loc (V d (cV L) (jV L)) ↦[(iBlk L iV0).view.set]{fullShare} f : sProp 𝕄) = iLoc0 d ↦[iSet (wid L)]{fullShare} f := by
  rw [set_iBlk0]
theorem pts_oRow0 (f : Buf (Elt F) (oLoc0 d)) :
    ((oRow L oV0).view.loc (V d (cV L) (jV L)) ↦[(oRow L oV0).view.set]{fullShare} f : sProp 𝕄) = oLoc0 d ↦[oSet (wid L)]{fullShare} f := by
  rw [set_oRow0]
theorem pts_sI0 (f : Buf (Elt F) ((V d (cV L) (jV L)).loc cc0_scratch0)) :
    ((sI0).view.loc (V d (cV L) (jV L)) ↦{fullShare} f : sProp 𝕄) = (V d (cV L) (jV L)).loc cc0_scratch0 ↦{fullShare} f := rfl
theorem pts_sT0 (f : Buf (Elt F) ((V d (cV L) (jV L)).loc cc0_scratch1)) :
    ((sT0).view.loc (V d (cV L) (jV L)) ↦{fullShare} f : sProp 𝕄) = (V d (cV L) (jV L)).loc cc0_scratch1 ↦{fullShare} f := rfl

abbrev cellA0 (d : Dev nD) (c : Fin τ.nSC) (i : Fin τ.nSub) : GSem nD τ sig := (V d c i, .dma cc0_scoped0.sem)
abbrev cellB0 (d : Dev nD) (c : Fin τ.nSC) (i : Fin τ.nSub) : GSem nD τ sig := (V d c i, .dma cc0_scoped1.sem)

/-- The two transfers' semaphores set apart from the subcore's others. -/
theorem ownSems0_V0 :
    (ownSems0 (V d (cV L) (jV L)) : sProp 𝕄)
      = iprop(semVal (cellA0 d (cV L) (jV L)) 0 ∗ semVal (cellB0 d (cV L) (jV L)) 0
          ∗ bigSep (((ownCells (V d (cV L) (jV L))).erase (cellA0 d (cV L) (jV L))).erase (cellB0 d (cV L) (jV L))) fun g => semVal g 0) := by
  unfold SparseCore.Cfg.ownSems0
  rw [SparseCore.bigSep_erase' ((mem_ownCells (g := cellA0 d (cV L) (jV L))).mpr ⟨rfl, by
      show (SemLoc.dma cc0_scoped0.sem : SemLoc sig).isScoped .scVector = true; decide⟩),
    SparseCore.bigSep_erase' (Finset.mem_erase.mpr ⟨by simp [cellA0, cellB0]; decide, (mem_ownCells (g := cellB0 d (cV L) (jV L))).mpr ⟨rfl, by
      show (SemLoc.dma cc0_scoped1.sem : SemLoc sig).isScoped .scVector = true; decide⟩⟩)]

/-- The two scratches set apart from the subcore's other buffers. -/
theorem ownBufs_V0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task on the subcore `(L 0, L 1)` of device `d`: its block of the indices and its row in, the row at the count out. -/
theorem tile_body0 (hX : ∀ x, (X d x).toNat < 4096) (hF : (K (F := F)).Facts) (O : CellTallies nD τ sig (HIx NQ)) (W : Waits sig (HIx NQ)) (hO : ∀ g, O g none = 0) :
    iprop(levAts (K (F := F)).L (K (F := F)).lev ∗ emp ∗ (iPts0 X d (wid L) ∗ oAny0 d (wid L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L iV0 (Memref.isWhole_whole _) oV0 (Memref.isWhole_whole _) sI0 (Memref.isWhole_whole _) sT0 (Memref.isWhole_whole _) cc0_scoped0 cc0_scoped1)
          fun _ => iprop((iPts0 X d (wid L) ∗ oPts0 X d (wid L))
            ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  rw [(K (F := F)).scopedBufs_V hF d (cV L) (jV L), SparseCore.Cfg.scopedSems0_V (Val := Elt F) d (cV L) (jV L), ownSems0_V0, ownBufs_V0]
  iintro ⟨#Hlv, -, ⟨Hi, ⟨%fo, Ho⟩⟩, ⟨⟨%fs, Hs⟩, ⟨%ft, Ht⟩, Hbufs⟩, ⟨HsemA, HsemB, Hsems⟩, HO⟩
  ihave HmwA := (show levAts (K (F := F)).L (K (F := F)).lev ⊢ MayWait (V d (cV L) (jV L)) (.dma cc0_scoped0.sem) (default : HIx NQ) O from
    (K (F := F)).mayWait_none (thr := V d (cV L) (jV L)) (SemLoc.dma cc0_scoped0.sem) hO) $$ Hlv
  ihave HmwB := (show levAts (K (F := F)).L (K (F := F)).lev ⊢ MayWait (V d (cV L) (jV L)) (.dma cc0_scoped1.sem) (default : HIx NQ) O from
    (K (F := F)).mayWait_none (thr := V d (cV L) (jV L)) (SemLoc.dma cc0_scoped1.sem) hO) $$ Hlv
  ihave Hi' := (Entails.of_eq (pts_iBlk0 (F := F) d L _).symm) $$ Hi
  ihave Ho' := (Entails.of_eq (pts_oRow0 (F := F) d L _).symm) $$ Ho
  ihave Hs' := (Entails.of_eq (pts_sI0 (F := F) d L _).symm) $$ Hs
  ihave Ht' := (Entails.of_eq (pts_sT0 (F := F) d L _).symm) $$ Ht
  iapply (wp_task d L iV0 (Memref.isWhole_whole _) oV0 (Memref.isWhole_whole _) sI0 (Memref.isWhole_whole _) sT0 (Memref.isWhole_whole _) cc0_scoped0 cc0_scoped1
    (View.set_whole _) (View.set_whole _) O W (X d) fullShare (fun x => hX _) fo fs ft) $$ [Hi' Ho' Hs' Ht' HsemA HsemB HO HmwA HmwB]
  · isplitl [Hi']; · iexact Hi'
    isplitl [Ho']; · iexact Ho'
    isplitl [Hs']; · iexact Hs'
    isplitl [Ht']; · iexact Ht'
    isplitl [HsemA]; · iexact HsemA
    isplitl [HsemB]; · iexact HsemB
    isplitl [HO]; · iexact HO
    isplitl [HmwA]; · iexact HmwA
    iexact HmwB
  iintro %fo' %W' %hval %hW Hi' Ho' Hs' Ht' HsemA HsemB HO
  isplitl [Hi' Ho']
  · isplitl [Hi']; · iapply (Entails.of_eq (pts_iBlk0 (F := F) d L _)); iexact Hi'
    iapply (Entails.of_eq ((pts_oRow0 (F := F) d L _).trans (pointsTo_congr (oRow_hist0 L hval)))); iexact Ho'
  isplitl [Hs' Ht' Hbufs]
  · isplitl [Hs']; · iexact Hs'
    isplitl [Ht']; · iexact Ht'
    iexact Hbufs
  isplitl [HsemA HsemB Hsems]
  · isplitl [HsemA]; · iexact HsemA
    isplitl [HsemB]; · iexact HsemB
    iexact Hsems
  iexists W'; isplitr
  swap; · iexact HO
  ipureintro; intro p hp
  rcases hW p hp with h | h
  · exact .inl h
  · exact .inr (.inl h)

/-! ## The obligation -/

def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__hist_body (coordsV0 c s)
          iV0 (Memref.isWhole_whole _) oV0 (Memref.isWhole_whole _) sI0 (Memref.isWhole_whole _) sT0 (Memref.isWhole_whole _) cc0_scoped0 cc0_scoped1) ⟨⟩ c s := rfl

theorem tileObl0 (hX : ∀ d x, (X d x).toNat < 4096) (hF : (K (F := F)).Facts) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact tile_body0 X d (coordsV0 ⟨_, hci.1⟩ ⟨_, hci.2⟩) (hX d) hF O W hO

end Tile0

/-- The 16 tasks' parts are the SparseCore's. -/
theorem vecSplit0 : (K (F := F)).VecSplit' (P X) 0 := by
  intro d c
  show (bigSep Finset.univ fun i => goP0 X d c i) ⊢ |={Set.univ}=> iprop((bigSep Finset.univ fun i => goP0 X d c i)
    ∗ ((bigSep Finset.univ fun i => tdP0 X d c i) -∗ bigSep Finset.univ fun i => tdP0 X d c i))
  iintro H; imodintro
  isplitl [H]; · iexact H
  iintro H; iexact H

theorem iWhole0 (d : Dev nD) (f : Vec F S16384 .i32) :
    (iLoc0 d ↦{fullShare} f : sProp 𝕄) = bigSep Finset.univ fun c : Fin 2 => bigSep Finset.univ fun i : Fin 16 => iLoc0 d ↦[iSet (wnum c i)]{fullShare} f := by
  have h : (iLoc0 d ↦{fullShare} f : sProp 𝕄) = bigSep Finset.univ fun c : Fin 2 => iLoc0 d ↦[iCore c]{fullShare} f := by
    rw [← pointsTo_biUnion Finset.univ (ℓ := iLoc0 d) iCore iCore_disjoint, iCore_cover]; try rfl
  rw [h]
  exact bigSep_congr fun c _ => pointsTo_biUnion Finset.univ (ℓ := iLoc0 d) (fun i => iSet (wnum c i)) (iSet_disjoint c)
theorem oWhole0 (d : Dev nD) (f : Vec F S32x4096 .f32) :
    (oLoc0 d ↦{fullShare} f : sProp 𝕄) = bigSep Finset.univ fun c : Fin 2 => bigSep Finset.univ fun i : Fin 16 => oLoc0 d ↦[oSet (wnum c i)]{fullShare} f := by
  have h : (oLoc0 d ↦{fullShare} f : sProp 𝕄) = bigSep Finset.univ fun c : Fin 2 => oLoc0 d ↦[oCore c]{fullShare} f := by
    rw [← pointsTo_biUnion Finset.univ (ℓ := oLoc0 d) oCore oCore_disjoint, oCore_cover]; try rfl
  rw [h]
  exact bigSep_congr fun c _ => pointsTo_biUnion Finset.univ (ℓ := oLoc0 d) (fun i => oSet (wnum c i)) (oSet_disjoint c)

/-- What the call takes and what it brings back, over its own index types, as two whole arrays. -/
theorem st0 (d : Dev nD) (f : Vec F S32x4096 .f32) :
    iprop((iLoc0 d ↦{fullShare} X d) ∗ (oLoc0 d ↦{fullShare} f)) ⊢ (bigSep Finset.univ fun c : Fin ((K (F := F)).nCore 0) => (P X).st 0 d c : sProp 𝕄) := by
  rw [iWhole0, oWhole0, ← bigSep_sep']
  refine bigSep_mono fun c _ => ?_
  rw [← bigSep_sep']
  refine bigSep_mono fun i _ => ?_
  show iprop((iLoc0 d ↦[iSet (wnum c i)]{fullShare} X d) ∗ oLoc0 d ↦[oSet (wnum c i)]{fullShare} f) ⊢ (goP0 X d c i : sProp 𝕄)
  iintro ⟨Hi, Ho⟩
  isplitl [Hi]; · iexact Hi
  iexists f; iexact Ho
theorem dn0_eq (d : Dev nD) :
    (bigSep Finset.univ fun c : Fin ((K (F := F)).nCore 0) => (P X).dn 0 d c : sProp 𝕄) = iprop((iLoc0 d ↦{fullShare} X d) ∗ (oLoc0 d ↦{fullShare} hist (X d))) := by
  rw [iWhole0, oWhole0, ← bigSep_sep']
  refine bigSep_congr fun c _ => ?_
  rw [← bigSep_sep']
  rfl

/-! ## Call 1 -/

section Tile1

variable (d : Dev nD) (L : grid1.Coords)

theorem pts_iBlk1 (f : Buf (Elt F) (iLoc1 d)) :
    ((iBlk L iV1).view.loc (V d (cV L) (jV L)) ↦[(iBlk L iV1).view.set]{fullShare} f : sProp 𝕄) = iLoc1 d ↦[iSet (wid L)]{fullShare} f := by
  rw [set_iBlk1]
theorem pts_oRow1 (f : Buf (Elt F) (oLoc1 d)) :
    ((oRow L oV1).view.loc (V d (cV L) (jV L)) ↦[(oRow L oV1).view.set]{fullShare} f : sProp 𝕄) = oLoc1 d ↦[oSet (wid L)]{fullShare} f := by
  rw [set_oRow1]
theorem pts_sI1 (f : Buf (Elt F) ((V d (cV L) (jV L)).loc cc1_scratch0)) :
    ((sI1).view.loc (V d (cV L) (jV L)) ↦{fullShare} f : sProp 𝕄) = (V d (cV L) (jV L)).loc cc1_scratch0 ↦{fullShare} f := rfl
theorem pts_sT1 (f : Buf (Elt F) ((V d (cV L) (jV L)).loc cc1_scratch1)) :
    ((sT1).view.loc (V d (cV L) (jV L)) ↦{fullShare} f : sProp 𝕄) = (V d (cV L) (jV L)).loc cc1_scratch1 ↦{fullShare} f := rfl

abbrev cellA1 (d : Dev nD) (c : Fin τ.nSC) (i : Fin τ.nSub) : GSem nD τ sig := (V d c i, .dma cc1_scoped0.sem)
abbrev cellB1 (d : Dev nD) (c : Fin τ.nSC) (i : Fin τ.nSub) : GSem nD τ sig := (V d c i, .dma cc1_scoped1.sem)

/-- The two transfers' semaphores set apart from the subcore's others. -/
theorem ownSems0_V1 :
    (ownSems0 (V d (cV L) (jV L)) : sProp 𝕄)
      = iprop(semVal (cellA1 d (cV L) (jV L)) 0 ∗ semVal (cellB1 d (cV L) (jV L)) 0
          ∗ bigSep (((ownCells (V d (cV L) (jV L))).erase (cellA1 d (cV L) (jV L))).erase (cellB1 d (cV L) (jV L))) fun g => semVal g 0) := by
  unfold SparseCore.Cfg.ownSems0
  rw [SparseCore.bigSep_erase' ((mem_ownCells (g := cellA1 d (cV L) (jV L))).mpr ⟨rfl, by
      show (SemLoc.dma cc1_scoped0.sem : SemLoc sig).isScoped .scVector = true; decide⟩),
    SparseCore.bigSep_erase' (Finset.mem_erase.mpr ⟨by simp [cellA1, cellB1]; decide, (mem_ownCells (g := cellB1 d (cV L) (jV L))).mpr ⟨rfl, by
      show (SemLoc.dma cc1_scoped1.sem : SemLoc sig).isScoped .scVector = true; decide⟩⟩)]

/-- The two scratches set apart from the subcore's other buffers. -/
theorem ownBufs_V1 :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The task on the subcore `(L 0, L 1)` of device `d`: its block of the indices and its row in, the row at the count out. -/
theorem tile_body1 (hX : ∀ x, (X d x).toNat < 4096) (hF : (K (F := F)).Facts) (O : CellTallies nD τ sig (HIx NQ)) (W : Waits sig (HIx NQ)) (hO : ∀ g, O g none = 0) :
    iprop(levAts (K (F := F)).L (K (F := F)).lev ∗ emp ∗ (iPts1 X d (wid L) ∗ oAny1 d (wid L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__hist_body L iV1 (Memref.isWhole_whole _) oV1 (Memref.isWhole_whole _) sI1 (Memref.isWhole_whole _) sT1 (Memref.isWhole_whole _) cc1_scoped0 cc1_scoped1)
          fun _ => iprop((iPts1 X d (wid L) ∗ oPts1 X d (wid L))
            ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  rw [(K (F := F)).scopedBufs_V hF d (cV L) (jV L), SparseCore.Cfg.scopedSems0_V (Val := Elt F) d (cV L) (jV L), ownSems0_V1, ownBufs_V1]
  iintro ⟨#Hlv, -, ⟨Hi, ⟨%fo, Ho⟩⟩, ⟨⟨%fs, Hs⟩, ⟨%ft, Ht⟩, Hbufs⟩, ⟨HsemA, HsemB, Hsems⟩, HO⟩
  ihave HmwA := (show levAts (K (F := F)).L (K (F := F)).lev ⊢ MayWait (V d (cV L) (jV L)) (.dma cc1_scoped0.sem) (default : HIx NQ) O from
    (K (F := F)).mayWait_none (thr := V d (cV L) (jV L)) (SemLoc.dma cc1_scoped0.sem) hO) $$ Hlv
  ihave HmwB := (show levAts (K (F := F)).L (K (F := F)).lev ⊢ MayWait (V d (cV L) (jV L)) (.dma cc1_scoped1.sem) (default : HIx NQ) O from
    (K (F := F)).mayWait_none (thr := V d (cV L) (jV L)) (SemLoc.dma cc1_scoped1.sem) hO) $$ Hlv
  ihave Hi' := (Entails.of_eq (pts_iBlk1 (F := F) d L _).symm) $$ Hi
  ihave Ho' := (Entails.of_eq (pts_oRow1 (F := F) d L _).symm) $$ Ho
  ihave Hs' := (Entails.of_eq (pts_sI1 (F := F) d L _).symm) $$ Hs
  ihave Ht' := (Entails.of_eq (pts_sT1 (F := F) d L _).symm) $$ Ht
  iapply (wp_task d L iV1 (Memref.isWhole_whole _) oV1 (Memref.isWhole_whole _) sI1 (Memref.isWhole_whole _) sT1 (Memref.isWhole_whole _) cc1_scoped0 cc1_scoped1
    (View.set_whole _) (View.set_whole _) O W (X d) fullShare (fun x => hX _) fo fs ft) $$ [Hi' Ho' Hs' Ht' HsemA HsemB HO HmwA HmwB]
  · isplitl [Hi']; · iexact Hi'
    isplitl [Ho']; · iexact Ho'
    isplitl [Hs']; · iexact Hs'
    isplitl [Ht']; · iexact Ht'
    isplitl [HsemA]; · iexact HsemA
    isplitl [HsemB]; · iexact HsemB
    isplitl [HO]; · iexact HO
    isplitl [HmwA]; · iexact HmwA
    iexact HmwB
  iintro %fo' %W' %hval %hW Hi' Ho' Hs' Ht' HsemA HsemB HO
  isplitl [Hi' Ho']
  · isplitl [Hi']; · iapply (Entails.of_eq (pts_iBlk1 (F := F) d L _)); iexact Hi'
    iapply (Entails.of_eq ((pts_oRow1 (F := F) d L _).trans (pointsTo_congr (oRow_hist1 L hval)))); iexact Ho'
  isplitl [Hs' Ht' Hbufs]
  · isplitl [Hs']; · iexact Hs'
    isplitl [Ht']; · iexact Ht'
    iexact Hbufs
  isplitl [HsemA HsemB Hsems]
  · isplitl [HsemA]; · iexact HsemA
    isplitl [HsemB]; · iexact HsemB
    iexact Hsems
  iexists W'; isplitr
  swap; · iexact HO
  ipureintro; intro p hp
  rcases hW p hp with h | h
  · exact .inl h
  · exact .inr (.inl h)

/-! ## The obligation -/

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__hist_body (coordsV1 c s)
          iV1 (Memref.isWhole_whole _) oV1 (Memref.isWhole_whole _) sI1 (Memref.isWhole_whole _) sT1 (Memref.isWhole_whole _) cc1_scoped0 cc1_scoped1) ⟨⟩ c s := rfl

theorem tileObl1 (hX : ∀ d x, (X d x).toNat < 4096) (hF : (K (F := F)).Facts) : (K (F := F)).TileObl (D (F := F)) 𝒱 (P X) v₀ 1 := by
  intro d c i O W hO _ _
  simp only [show (P X).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tile_body1 X d (coordsV1 ⟨_, hci.1⟩ ⟨_, hci.2⟩) (hX d) hF O W hO

end Tile1

/-- The 16 tasks' parts are the SparseCore's. -/
theorem vecSplit1 : (K (F := F)).VecSplit' (P X) 1 := by
  intro d c
  show (bigSep Finset.univ fun i => goP1 X d c i) ⊢ |={Set.univ}=> iprop((bigSep Finset.univ fun i => goP1 X d c i)
    ∗ ((bigSep Finset.univ fun i => tdP1 X d c i) -∗ bigSep Finset.univ fun i => tdP1 X d c i))
  iintro H; imodintro
  isplitl [H]; · iexact H
  iintro H; iexact H

theorem iWhole1 (d : Dev nD) (f : Vec F S16384 .i32) :
    (iLoc1 d ↦{fullShare} f : sProp 𝕄) = bigSep Finset.univ fun c : Fin 2 => bigSep Finset.univ fun i : Fin 16 => iLoc1 d ↦[iSet (wnum c i)]{fullShare} f := by
  have h : (iLoc1 d ↦{fullShare} f : sProp 𝕄) = bigSep Finset.univ fun c : Fin 2 => iLoc1 d ↦[iCore c]{fullShare} f := by
    rw [← pointsTo_biUnion Finset.univ (ℓ := iLoc1 d) iCore iCore_disjoint, iCore_cover]; try rfl
  rw [h]
  exact bigSep_congr fun c _ => pointsTo_biUnion Finset.univ (ℓ := iLoc1 d) (fun i => iSet (wnum c i)) (iSet_disjoint c)
theorem oWhole1 (d : Dev nD) (f : Vec F S32x4096 .f32) :
    (oLoc1 d ↦{fullShare} f : sProp 𝕄) = bigSep Finset.univ fun c : Fin 2 => bigSep Finset.univ fun i : Fin 16 => oLoc1 d ↦[oSet (wnum c i)]{fullShare} f := by
  have h : (oLoc1 d ↦{fullShare} f : sProp 𝕄) = bigSep Finset.univ fun c : Fin 2 => oLoc1 d ↦[oCore c]{fullShare} f := by
    rw [← pointsTo_biUnion Finset.univ (ℓ := oLoc1 d) oCore oCore_disjoint, oCore_cover]; try rfl
  rw [h]
  exact bigSep_congr fun c _ => pointsTo_biUnion Finset.univ (ℓ := oLoc1 d) (fun i => oSet (wnum c i)) (oSet_disjoint c)

/-- What the call takes and what it brings back, over its own index types, as two whole arrays. -/
theorem st1 (d : Dev nD) (f : Vec F S32x4096 .f32) :
    iprop((iLoc1 d ↦{fullShare} X d) ∗ (oLoc1 d ↦{fullShare} f)) ⊢ (bigSep Finset.univ fun c : Fin ((K (F := F)).nCore 1) => (P X).st 1 d c : sProp 𝕄) := by
  rw [iWhole1, oWhole1, ← bigSep_sep']
  refine bigSep_mono fun c _ => ?_
  rw [← bigSep_sep']
  refine bigSep_mono fun i _ => ?_
  show iprop((iLoc1 d ↦[iSet (wnum c i)]{fullShare} X d) ∗ oLoc1 d ↦[oSet (wnum c i)]{fullShare} f) ⊢ (goP1 X d c i : sProp 𝕄)
  iintro ⟨Hi, Ho⟩
  isplitl [Hi]; · iexact Hi
  iexists f; iexact Ho
theorem dn1_eq (d : Dev nD) :
    (bigSep Finset.univ fun c : Fin ((K (F := F)).nCore 1) => (P X).dn 1 d c : sProp 𝕄) = iprop((iLoc1 d ↦{fullShare} X d) ∗ (oLoc1 d ↦{fullShare} hist (X d))) := by
  rw [iWhole1, oWhole1, ← bigSep_sep']
  refine bigSep_congr fun c _ => ?_
  rw [← bigSep_sep']
  rfl

end Cert.Proof.Launch

end
-- ==== Proof.Step.lean ====
/-
  Loads and stores of a memref held at what it READS (`owns`): a load at a rectangle returns the contents there, a store leaves
  contents that are the stored ones there and the earlier ones elsewhere.
-/
module

public import proofs.«01_k».proof.Proof.Loops
public import Idealize.ShloMosaic.Lib.Memref

@[expose] public section

noncomputable section

namespace Cert.Proof.Step

open Cert.KernelIdeal Cert.KernelIdeal.Gen
open Cert.Proof.Loops

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx NQ) (Elt F) ℕ UU ℕ

/-- The contents a rectangle cuts out. -/
def at' {s : Shape} {e : EltTy} (X : s.Idx → Elt F e) (r : Rect s) : r.shape.Idx → Elt F e := fun x => X (r.emb x)

theorem at_full {s : Shape} {e : EltTy} (X : s.Idx → Elt F e) {off : Fin s.rank → ℕ} (inb : ∀ a, off a + s.size a ≤ s.size a) :
    at' X (Rect.unit off s.size inb) = X :=
  funext fun x => congrArg X (funext fun a => Fin.ext (by
    show off a + 1 * (x a).val = (x a).val
    have := inb a; omega))

variable (c : Dev nD) {s : Shape} {e : EltTy} (m : Memref sig .tc .vmem s e)

theorem wp_ld (r : Rect s) {hl : m.view.LoadsAt r.toLoadRect} (X : s.Idx → Elt F e) (q : PosShare TreeShare) {Q : (r.shape.Idx → Elt F e) → sProp 𝕄} :
    (owns (c.tc : Thread nD τ) m q X : sProp 𝕄)
      ⊢ iprop((owns (c.tc : Thread nD τ) m q X -∗ Q (at' X r))
        -∗ wp frame (wpE (defs₀ (F := F)) 𝒱₀ (c.tc : Thread nD τ) none) Set.univ (.op (.load m r.toLoadRect hl) .ret) Q) := by
  unfold owns
  iintro ⟨%f, %hf, H⟩ Hk
  iapply (wp_load 𝒱₀ (c.tc : Thread nD τ) none Set.univ (m := m) (r := r.toLoadRect) (S := m.view.set) (f := f) (View.setOn_subset_set _ _)) $$ H; iintro H
  rw [wp_ret]; imodintro
  subst hf
  rw [show m.view.readAt (Elt F) r.toLoadRect f = at' (m.view.read (Elt F) f) r from rfl]
  iapply Hk
  iexists f; isplitr; · (ipureintro; rfl)
  iexact H

/-- Loads of the whole memref. -/
theorem wp_ldw {off : Fin s.rank → ℕ} {inb : ∀ a, off a + s.size a ≤ s.size a} {hl : m.view.LoadsAt (Rect.unit off s.size inb).toLoadRect}
    (X : s.Idx → Elt F e) (q : PosShare TreeShare) {Q : (s.Idx → Elt F e) → sProp 𝕄} :
    (owns (c.tc : Thread nD τ) m q X : sProp 𝕄)
      ⊢ iprop((owns (c.tc : Thread nD τ) m q X -∗ Q X)
        -∗ wp frame (wpE (defs₀ (F := F)) 𝒱₀ (c.tc : Thread nD τ) none) Set.univ (.op (.load m (Rect.unit off s.size inb).toLoadRect hl) .ret) Q) := by
  have h := wp_ld (F := F) c m (Rect.unit off s.size inb) (hl := hl) X q (Q := Q)
  rwa [at_full] at h

theorem wp_st (r : Rect s) (w : r.shape.Idx → Elt F e) {hx : (m.access r).Stores Finset.univ} {hm : (Finset.univ : Finset r.shape.Idx) = Finset.univ ∨ ∀ a, r.stride a = 1}
    (X : s.Idx → Elt F e) {Q : PUnit → sProp 𝕄} :
    (owns (c.tc : Thread nD τ) m fullShare X : sProp 𝕄)
      ⊢ iprop((∀ X', ⌜at' X' r = w ∧ ∀ i, i ∉ r.set → X' i = X i⌝ -∗ owns (c.tc : Thread nD τ) m fullShare X' -∗ Q ⟨⟩)
        -∗ wp frame (wpE (defs₀ (F := F)) 𝒱₀ (c.tc : Thread nD τ) none) Set.univ (.op (.store m r w Finset.univ hx hm) .ret) Q) := by
  unfold owns
  iintro ⟨%f, %hf, H⟩ Hk
  iapply (wp_store 𝒱₀ (c.tc : Thread nD τ) none Set.univ (m := m) (r := r) (w := w) (Mk := Finset.univ) (S := m.view.set) (f := f) (by
    rw [View.setOn_univ]; exact View.set_slice_subset _ _)) $$ H; iintro H
  rw [wp_ret]; imodintro
  subst hf
  iapply Hk $$ %(m.view.read (Elt F) ((m.access r).write (Elt F) f w Finset.univ)) [] [H]
  · ipureintro
    refine ⟨funext fun x => ?_, fun i hi => ?_⟩
    · exact View.read_slice_write_emb r f w (Finset.mem_univ x)
    · refine View.read_slice_write_of_not_mem r f w _ ?_
      rw [Rect.map_emb_univ]; exact hi
  · iexists _; isplitr
    swap; · iexact H
    ipureintro; rfl

/-- Stores of the whole memref. -/
theorem wp_stw {off : Fin s.rank → ℕ} {inb : ∀ a, off a + s.size a ≤ s.size a} (w : s.Idx → Elt F e) {hx : (m.access (Rect.unit off s.size inb)).Stores Finset.univ}
    {hm : (Finset.univ : Finset (Rect.unit off s.size inb).shape.Idx) = Finset.univ ∨ ∀ a, (Rect.unit off s.size inb).stride a = 1}
    (X : s.Idx → Elt F e) {Q : PUnit → sProp 𝕄} :
    (owns (c.tc : Thread nD τ) m fullShare X : sProp 𝕄)
      ⊢ iprop((owns (c.tc : Thread nD τ) m fullShare w -∗ Q ⟨⟩)
        -∗ wp frame (wpE (defs₀ (F := F)) 𝒱₀ (c.tc : Thread nD τ) none) Set.univ (.op (.store m (Rect.unit off s.size inb) w Finset.univ hx hm) .ret) Q) := by
  iintro H Hk
  iapply (wp_st c m (Rect.unit off s.size inb) w (hx := hx) (hm := hm) X) $$ H
  iintro %X' %h H
  obtain rfl : X' = w := by rw [← h.1]; exact (at_full X' inb).symm
  iapply Hk; iexact H

end Cert.Proof.Step

end
-- ==== Proof.Fuse.lean ====
/-
  The body of the fusion call at a grid point, over any staging buffers and scratches: in phase 0 it computes the cloud weights once,
  then the point's tile of the layer before normalisation, and adds the tile's columns and their squares into two running rows; the last
  tile leaves the mean and the reciprocal deviation. In phase 1 it normalises a tile.
-/
module

public import proofs.«01_k».proof.Proof.Step
public import proofs.«01_k».proof.Proof.Gen.KernelIdeal.Skeleton

@[expose] public section

noncomputable section

namespace Cert.Proof.Fuse

open Cert.KernelIdeal Cert.KernelIdeal.Gen
open Cert.Proof.Loops Cert.Proof.Step

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx NQ) (Elt F) ℕ UU ℕ

/-- What the operands' staging buffers hold at a point. -/
structure Ops (F : FTy → Type) where
  ph : Vec F S32x4096 .f32
  lr : Vec F S4096x64 .f32
  hf : Vec F S4096x64 .f32
  hco : Vec F S4096x3 .f32
  off : Vec F S1x4 .i32
  caw1 : Vec F S64x16 .f32
  cab1 : Vec F S1x16 .f32
  caw2 : Vec F S16x64 .f32
  cab2 : Vec F S1x64 .f32
  saw1 : Vec F S67x64 .f32
  sab1 : Vec F S1x64 .f32
  saw2 : Vec F S64x1 .f32
  sab2 : Vec F S1x1 .f32
  fmw : Vec F S128x64 .f32
  fmb : Vec F S1x64 .f32
  gam : Vec F S1x64 .f32
  bet : Vec F S1x64 .f32

/-- The rectangles of the scratches that the body reads and writes. -/
abbrev rC : Rect S8x64 := Rect.unit (s := S8x64) ![0, 0] S4x64.size inb_S8x64_S4x64_0_0
abbrev r0 : Rect S8x64 := Rect.unit (s := S8x64) ![0, 0] S1x64.size inb_S8x64_S1x64_0_0
abbrev r1 : Rect S8x64 := Rect.unit (s := S8x64) ![1, 0] S1x64.size inb_S8x64_S1x64_1_0
abbrev r2 : Rect S8x64 := Rect.unit (s := S8x64) ![2, 0] S1x64.size inb_S8x64_S1x64_2_0
abbrev r3 : Rect S8x64 := Rect.unit (s := S8x64) ![3, 0] S1x64.size inb_S8x64_S1x64_3_0
abbrev rY (i : grid2.Coords) (h : k2_cond1 i = 1#1) : Rect S16384x64 := Rect.unit (s := S16384x64) (k2_off1 i) S4096x64.size (k2_off1_inb i h)
abbrev rY' (i : grid2.Coords) (h : k2_cond4 i = 1#1) : Rect S16384x64 := Rect.unit (s := S16384x64) (k2_off2 i) S4096x64.size (k2_off2_inb i h)

/-- The cloud weights, the tile of point `a` under cloud weights `C`, and its two rows added to a row `r`. -/
def cwOf (B : Ops F) : FVec F S4x64 .f32 := k2_pay7 (k2_pay6 B.ph B.lr B.caw1 B.cab1 B.caw2 B.cab2)
def tile (a : BitVec 32) (C : Vec F S4x64 .f32) (B : Ops F) : FVec F S4096x64 .f32 :=
  k2_pay12 B.hf (k2_pay9 a C B.off B.hf) (k2_pay10 a C B.off B.hf B.saw1 B.hco B.sab1) B.saw2 B.sab2 B.fmw B.fmb
def add0 (a : BitVec 32) (C : Vec F S4x64 .f32) (B : Ops F) (r : Vec F S1x64 .f32) : FVec F S1x64 .f32 :=
  k2_pay13 B.hf (k2_pay9 a C B.off B.hf) (k2_pay10 a C B.off B.hf B.saw1 B.hco B.sab1) B.saw2 B.sab2 B.fmw B.fmb r
def add1 (a : BitVec 32) (C : Vec F S4x64 .f32) (B : Ops F) (r : Vec F S1x64 .f32) : FVec F S1x64 .f32 :=
  k2_pay1 (k2_pay14 B.hf (k2_pay9 a C B.off B.hf) (k2_pay10 a C B.off B.hf B.saw1 B.hco B.sab1) B.saw2 B.sab2 B.fmw B.fmb r)

/-- The point's word, as the body computes with it. -/
abbrev wd (i : grid2.Coords) : BitVec 32 := BitVec.ofNat 32 (i 1).val

theorem cond2_iff (i : grid2.Coords) : Scalar.cmpi .ne (Scalar.extui (Scalar.cmpi .eq (wd i) 0#32) : BitVec 32) 0#32 = 1#1 ↔ (i 1).val = 0 := by
  revert i; decide +kernel
theorem cond3_iff (i : grid2.Coords) : Scalar.cmpi .ne (Scalar.extui (Scalar.cmpi .eq (wd i) 3#32) : BitVec 32) 0#32 = 1#1 ↔ (i 1).val = 3 := by
  revert i; decide +kernel

/-- What a point of phase 0 does to the three scratches. -/
def Step0 (i : grid2.Coords) (h : k2_cond1 i = 1#1) (B : Ops F) (y : Vec F S16384x64 .f32) (cw st : Vec F S8x64 .f32)
    (y' : Vec F S16384x64 .f32) (cw' st' : Vec F S8x64 .f32) : Prop :=
  ((i 1).val = 0 → at' cw' rC = cwOf B) ∧ ((i 1).val ≠ 0 → cw' = cw)
    ∧ at' y' (rY i h) = tile (wd i) (at' cw' rC) B ∧ (∀ j, j ∉ (rY i h).set → y' j = y j)
    ∧ (∀ s0 : Vec F S8x64 .f32, s0 = (if (i 1).val = 0 then k2_pay8 (F := F) else st) →
        at' st' r0 = add0 (wd i) (at' cw' rC) B (at' s0 r0) ∧ at' st' r1 = add1 (wd i) (at' cw' rC) B (at' s0 r1))
    ∧ ((i 1).val = 3 → at' st' r2 = k2_pay3 (at' st' r0) ∧ at' st' r3 = k2_pay4 (at' st' r0) (at' st' r1))

theorem row_frame {r r' : Rect S8x64} {X X' : Vec F S8x64 .f32} (h : ∀ i, i ∉ r'.set → X' i = X i) (hd : ∀ x, r.emb x ∉ r'.set) : at' X' r = at' X r :=
  funext fun x => h _ (hd x)

theorem row_disj {a b : ℕ} {ha : ∀ k, (![a, 0] : Fin 2 → ℕ) k + S1x64.size k ≤ S8x64.size k} {hb : ∀ k, (![b, 0] : Fin 2 → ℕ) k + S1x64.size k ≤ S8x64.size k}
    (hne : a ≠ b) (x : S1x64.Idx) :
    (Rect.unit (s := S8x64) ![a, 0] S1x64.size ha).emb x ∉ (Rect.unit (s := S8x64) ![b, 0] S1x64.size hb).set := by
  rw [Rect.mem_set_unit]
  intro h
  have h0 := h 0
  have hx : (x 0).val < 1 := (x 0).isLt
  have e : ((Rect.unit (s := S8x64) ![a, 0] S1x64.size ha).emb x 0).val = a + 1 * (x 0).val := rfl
  rw [e] at h0
  have h1 : b ≤ a + 1 * (x 0).val := h0.1
  have h2 : a + 1 * (x 0).val < b + 1 := h0.2
  omega
theorem r0_r1 (x) : r0.emb x ∉ r1.set := row_disj (by decide) x
theorem r1_r0 (x) : r1.emb x ∉ r0.set := row_disj (by decide) x
theorem r0_r2 (x) : r0.emb x ∉ r2.set := row_disj (by decide) x
theorem r1_r2 (x) : r1.emb x ∉ r2.set := row_disj (by decide) x
theorem r0_r3 (x) : r0.emb x ∉ r3.set := row_disj (by decide) x
theorem r1_r3 (x) : r1.emb x ∉ r3.set := row_disj (by decide) x
theorem r2_r3 (x) : r2.emb x ∉ r3.set := row_disj (by decide) x

section Body

variable (c : Dev nD) (i : grid2.Coords)
variable (arg2 : Memref sig .tc .vmem S32x4096 .f32) (harg2 : arg2.IsWhole)
  (arg3 : Memref sig .tc .vmem S4096x64 .f32) (harg3 : arg3.IsWhole)
  (arg4 : Memref sig .tc .vmem S4096x64 .f32) (harg4 : arg4.IsWhole)
  (arg5 : Memref sig .tc .vmem S4096x3 .f32) (harg5 : arg5.IsWhole)
  (arg6 : Memref sig .tc .vmem S1x4 .i32) (harg6 : arg6.IsWhole)
  (arg7 : Memref sig .tc .vmem S64x16 .f32) (harg7 : arg7.IsWhole)
  (arg8 : Memref sig .tc .vmem S1x16 .f32) (harg8 : arg8.IsWhole)
  (arg9 : Memref sig .tc .vmem S16x64 .f32) (harg9 : arg9.IsWhole)
  (arg10 : Memref sig .tc .vmem S1x64 .f32) (harg10 : arg10.IsWhole)
  (arg11 : Memref sig .tc .vmem S67x64 .f32) (harg11 : arg11.IsWhole)
  (arg12 : Memref sig .tc .vmem S1x64 .f32) (harg12 : arg12.IsWhole)
  (arg13 : Memref sig .tc .vmem S64x1 .f32) (harg13 : arg13.IsWhole)
  (arg14 : Memref sig .tc .vmem S1x1 .f32) (harg14 : arg14.IsWhole)
  (arg15 : Memref sig .tc .vmem S128x64 .f32) (harg15 : arg15.IsWhole)
  (arg16 : Memref sig .tc .vmem S1x64 .f32) (harg16 : arg16.IsWhole)
  (arg17 : Memref sig .tc .vmem S1x64 .f32) (harg17 : arg17.IsWhole)
  (arg18 : Memref sig .tc .vmem S1x64 .f32) (harg18 : arg18.IsWhole)
  (arg19 : Memref sig .tc .vmem S4096x64 .f32) (harg19 : arg19.IsWhole)
  (arg20 : Memref sig .tc .vmem S16384x64 .f32) (harg20 : arg20.IsWhole)
  (arg21 : Memref sig .tc .vmem S8x64 .f32) (harg21 : arg21.IsWhole)
  (arg22 : Memref sig .tc .vmem S8x64 .f32) (harg22 : arg22.IsWhole)

/-- The operands that phase 0 reads, held; -/
def ins0 (B : Ops F) : sProp 𝕄 :=
  iprop(owns (c.tc : Thread nD τ) arg2 fullShare B.ph
    ∗ owns (c.tc : Thread nD τ) arg3 fullShare B.lr
    ∗ owns (c.tc : Thread nD τ) arg4 fullShare B.hf
    ∗ owns (c.tc : Thread nD τ) arg5 fullShare B.hco
    ∗ owns (c.tc : Thread nD τ) arg6 fullShare B.off
    ∗ owns (c.tc : Thread nD τ) arg7 fullShare B.caw1
    ∗ owns (c.tc : Thread nD τ) arg8 fullShare B.cab1
    ∗ owns (c.tc : Thread nD τ) arg9 fullShare B.caw2
    ∗ owns (c.tc : Thread nD τ) arg10 fullShare B.cab2
    ∗ owns (c.tc : Thread nD τ) arg11 fullShare B.saw1
    ∗ owns (c.tc : Thread nD τ) arg12 fullShare B.sab1
    ∗ owns (c.tc : Thread nD τ) arg13 fullShare B.saw2
    ∗ owns (c.tc : Thread nD τ) arg14 fullShare B.sab2
    ∗ owns (c.tc : Thread nD τ) arg15 fullShare B.fmw
    ∗ owns (c.tc : Thread nD τ) arg16 fullShare B.fmb)

theorem wp_phase0 (h1 : k2_cond1 i = 1#1) (h4 : ¬ k2_cond4 i = 1#1) (B : Ops F) (y : Vec F S16384x64 .f32) (cw st : Vec F S8x64 .f32) {Q : PUnit → sProp 𝕄} :
    iprop(ins0 c arg2 arg3 arg4 arg5 arg6 arg7 arg8 arg9 arg10 arg11 arg12 arg13 arg14 arg15 arg16 B ∗ owns (c.tc : Thread nD τ) arg20 fullShare y ∗ owns (c.tc : Thread nD τ) arg21 fullShare cw ∗ owns (c.tc : Thread nD τ) arg22 fullShare st)
      ⊢ iprop((∀ y' cw' st', ⌜Step0 i h1 B y cw st y' cw' st'⌝ -∗ ins0 c arg2 arg3 arg4 arg5 arg6 arg7 arg8 arg9 arg10 arg11 arg12 arg13 arg14 arg15 arg16 B -∗ owns (c.tc : Thread nD τ) arg20 fullShare y' -∗ owns (c.tc : Thread nD τ) arg21 fullShare cw'
            -∗ owns (c.tc : Thread nD τ) arg22 fullShare st' -∗ Q ⟨⟩)
        -∗ wp frame (wpE (defs₀ (F := F)) 𝒱₀ (c.tc : Thread nD τ) none) Set.univ
            (cc2__fuse_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q) := by
  unfold ins0
  iintro ⟨⟨H2, H3, H4, H5, H6, H7, H8, H9, H10, H11, H12, H13, H14, H15, H16⟩, H20, H21, H22⟩ Hk
  rw [cc2__fuse_body_eq_skeleton]
  unfold cc2__fuse_body_skel
  rw [dif_pos h1, dif_neg h4, k2_part2_eq_skeleton, k2_part3_eq_skeleton]
  unfold k2_part2_skel k2_part3_skel
  simp only [wp_bind, wp_pure, Prog.lift]
  by_cases hz : (i 1).val = 0
  · rw [dif_pos ((cond2_iff i).mpr hz), k2_part1_eq_skeleton]
    unfold k2_part1_skel
    simp only [wp_bind, wp_pure, Prog.lift]
    iapply (wp_ldw c arg2 B.ph fullShare) $$ H2; iintro H2
    iapply (wp_ldw c arg3 B.lr fullShare) $$ H3; iintro H3
    iapply (wp_ldw c arg7 B.caw1 fullShare) $$ H7; iintro H7
    iapply (wp_ldw c arg8 B.cab1 fullShare) $$ H8; iintro H8
    iapply (wp_ldw c arg9 B.caw2 fullShare) $$ H9; iintro H9
    iapply (wp_ldw c arg10 B.cab2 fullShare) $$ H10; iintro H10
    imodintro
    iapply (wp_ld c arg21 rC cw fullShare) $$ H21; iintro H21
    iapply (wp_st c arg21 rC _ cw) $$ H21; iintro %cw1 %hcw1 H21
    iapply (wp_ldw c arg22 st fullShare) $$ H22; iintro H22
    iapply (wp_stw c arg22 _ st) $$ H22; iintro H22
    iapply (wp_ld c arg21 rC cw1 fullShare) $$ H21; iintro H21
    iapply (wp_ldw c arg6 B.off fullShare) $$ H6; iintro H6
    iapply (wp_ldw c arg4 B.hf fullShare) $$ H4; iintro H4
    iapply (wp_ldw c arg11 B.saw1 fullShare) $$ H11; iintro H11
    iapply (wp_ldw c arg5 B.hco fullShare) $$ H5; iintro H5
    iapply (wp_ldw c arg12 B.sab1 fullShare) $$ H12; iintro H12
    iapply (wp_ldw c arg13 B.saw2 fullShare) $$ H13; iintro H13
    imodintro
    iapply (wp_ldw c arg14 B.sab2 fullShare) $$ H14; iintro H14
    iapply (wp_ldw c arg15 B.fmw fullShare) $$ H15; iintro H15
    iapply (wp_ldw c arg16 B.fmb fullShare) $$ H16; iintro H16
    iapply (wp_ld c arg20 (rY i h1) y fullShare) $$ H20; iintro H20
    iapply (wp_st c arg20 (rY i h1) _ y) $$ H20; iintro %y1 %hy1 H20
    iapply (wp_ld c arg22 r0 (k2_pay8 (F := F)) fullShare) $$ H22; iintro H22
    iapply (wp_ld c arg22 r0 (k2_pay8 (F := F)) fullShare) $$ H22; iintro H22
    iapply (wp_st c arg22 r0 _ (k2_pay8 (F := F))) $$ H22; iintro %s1 %hs1 H22
    iapply (wp_ld c arg22 r1 s1 fullShare) $$ H22; iintro H22
    iapply (wp_ld c arg22 r1 s1 fullShare) $$ H22; iintro H22
    imodintro
    iapply (wp_st c arg22 r1 _ s1) $$ H22; iintro %s2 %hs2 H22
    rw [dif_neg (fun h => by have := (cond3_iff i).mp h; omega)]
    rw [wp_pure]; imodintro
    iapply Hk $$ %y1 %cw1 %s2 [] [H2 H3 H4 H5 H6 H7 H8 H9 H10 H11 H12 H13 H14 H15 H16] H20 H21 H22
    · ipureintro
      refine ⟨fun _ => hcw1.1, fun h => absurd hz h, hy1.1, hy1.2, fun z hzz => ?_, fun h => absurd h (by omega)⟩
      rw [if_pos hz] at hzz; subst hzz
      refine ⟨(row_frame hs2.2 r0_r1).trans hs1.1, hs2.1.trans (congrArg (add1 _ _ _) (row_frame hs1.2 r1_r0))⟩
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · rw [dif_neg (fun h => hz ((cond2_iff i).mp h))]
    simp only [wp_bind, wp_pure, Prog.lift]
    iapply (wp_ld c arg21 rC cw fullShare) $$ H21; iintro H21
    iapply (wp_ldw c arg6 B.off fullShare) $$ H6; iintro H6
    iapply (wp_ldw c arg4 B.hf fullShare) $$ H4; iintro H4
    iapply (wp_ldw c arg11 B.saw1 fullShare) $$ H11; iintro H11
    iapply (wp_ldw c arg5 B.hco fullShare) $$ H5; iintro H5
    iapply (wp_ldw c arg12 B.sab1 fullShare) $$ H12; iintro H12
    iapply (wp_ldw c arg13 B.saw2 fullShare) $$ H13; iintro H13
    imodintro
    iapply (wp_ldw c arg14 B.sab2 fullShare) $$ H14; iintro H14
    iapply (wp_ldw c arg15 B.fmw fullShare) $$ H15; iintro H15
    iapply (wp_ldw c arg16 B.fmb fullShare) $$ H16; iintro H16
    iapply (wp_ld c arg20 (rY i h1) y fullShare) $$ H20; iintro H20
    iapply (wp_st c arg20 (rY i h1) _ y) $$ H20; iintro %y1 %hy1 H20
    iapply (wp_ld c arg22 r0 st fullShare) $$ H22; iintro H22
    iapply (wp_ld c arg22 r0 st fullShare) $$ H22; iintro H22
    iapply (wp_st c arg22 r0 _ st) $$ H22; iintro %s1 %hs1 H22
    iapply (wp_ld c arg22 r1 s1 fullShare) $$ H22; iintro H22
    iapply (wp_ld c arg22 r1 s1 fullShare) $$ H22; iintro H22
    imodintro
    iapply (wp_st c arg22 r1 _ s1) $$ H22; iintro %s2 %hs2 H22
    by_cases h3 : (i 1).val = 3
    · rw [dif_pos ((cond3_iff i).mpr h3)]
      simp only [wp_bind, wp_pure]
      iapply (wp_ld c arg22 r0 s2 fullShare) $$ H22; iintro H22
      iapply (wp_ld c arg22 r1 s2 fullShare) $$ H22; iintro H22
      iapply (wp_ld c arg22 r2 s2 fullShare) $$ H22; iintro H22
      iapply (wp_st c arg22 r2 _ s2) $$ H22; iintro %s3 %hs3 H22
      iapply (wp_ld c arg22 r3 s3 fullShare) $$ H22; iintro H22
      iapply (wp_st c arg22 r3 _ s3) $$ H22; iintro %s4 %hs4 H22
      imodintro
      iapply Hk $$ %y1 %cw %s4 [] [H2 H3 H4 H5 H6 H7 H8 H9 H10 H11 H12 H13 H14 H15 H16] H20 H21 H22
      · ipureintro
        have e0 : at' s4 r0 = at' s2 r0 := (row_frame hs4.2 r0_r3).trans (row_frame hs3.2 r0_r2)
        have e1 : at' s4 r1 = at' s2 r1 := (row_frame hs4.2 r1_r3).trans (row_frame hs3.2 r1_r2)
        refine ⟨fun h => absurd h hz, fun _ => rfl, hy1.1, hy1.2, fun z hzz => ?_, fun _ => ⟨?_, ?_⟩⟩
        · rw [e0, e1]
          rw [if_neg hz] at hzz; subst hzz
          refine ⟨(row_frame hs2.2 r0_r1).trans hs1.1, hs2.1.trans (congrArg (add1 _ _ _) (row_frame hs1.2 r1_r0))⟩
        · rw [e0]; exact (row_frame hs4.2 r2_r3).trans hs3.1
        · rw [e0, e1]; exact hs4.1
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
    · rw [dif_neg (fun h => h3 ((cond3_iff i).mp h))]
      rw [wp_pure]; imodintro
      iapply Hk $$ %y1 %cw %s2 [] [H2 H3 H4 H5 H6 H7 H8 H9 H10 H11 H12 H13 H14 H15 H16] H20 H21 H22
      · ipureintro
        refine ⟨fun h => absurd h hz, fun _ => rfl, hy1.1, hy1.2, fun z hzz => ?_, fun h => absurd h h3⟩
        rw [if_neg hz] at hzz; subst hzz
        refine ⟨(row_frame hs2.2 r0_r1).trans hs1.1, hs2.1.trans (congrArg (add1 _ _ _) (row_frame hs1.2 r1_r0))⟩
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16

theorem wp_phase1 (h1 : ¬ k2_cond1 i = 1#1) (h4 : k2_cond4 i = 1#1) (gam bet : Vec F S1x64 .f32) (o : Vec F S4096x64 .f32) (y : Vec F S16384x64 .f32)
    (st : Vec F S8x64 .f32) {Q : PUnit → sProp 𝕄} :
    iprop(owns (c.tc : Thread nD τ) arg17 fullShare gam ∗ owns (c.tc : Thread nD τ) arg18 fullShare bet ∗ owns (c.tc : Thread nD τ) arg19 fullShare o
        ∗ owns (c.tc : Thread nD τ) arg20 fullShare y ∗ owns (c.tc : Thread nD τ) arg22 fullShare st)
      ⊢ iprop((owns (c.tc : Thread nD τ) arg17 fullShare gam -∗ owns (c.tc : Thread nD τ) arg18 fullShare bet
            -∗ owns (c.tc : Thread nD τ) arg19 fullShare (k2_pay5 (at' y (rY' i h4)) (at' st r2) (at' st r3) gam bet)
            -∗ owns (c.tc : Thread nD τ) arg20 fullShare y -∗ owns (c.tc : Thread nD τ) arg22 fullShare st -∗ Q ⟨⟩)
        -∗ wp frame (wpE (defs₀ (F := F)) 𝒱₀ (c.tc : Thread nD τ) none) Set.univ
            (cc2__fuse_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q) := by
  iintro ⟨H17, H18, H19, H20, H22⟩ Hk
  rw [cc2__fuse_body_eq_skeleton]
  unfold cc2__fuse_body_skel
  rw [dif_neg h1, dif_pos h4]
  simp only [wp_bind, wp_pure, Prog.lift]
  iapply (wp_ld c arg20 (rY' i h4) y fullShare) $$ H20; iintro H20
  iapply (wp_ld c arg22 r2 st fullShare) $$ H22; iintro H22
  iapply (wp_ld c arg22 r3 st fullShare) $$ H22; iintro H22
  iapply (wp_ldw c arg17 gam fullShare) $$ H17; iintro H17
  iapply (wp_ldw c arg18 bet fullShare) $$ H18; iintro H18
  iapply (wp_ldw c arg19 o fullShare) $$ H19; iintro H19
  iapply (wp_stw c arg19 _ o) $$ H19; iintro H19
  imodintro
  iapply Hk $$ H17 H18 H19 H20 H22

end Body

end Cert.Proof.Fuse

end
-- ==== Proof.Vals.lean ====
/-
  What the fusion call's staging buffers and scratches hold at each of its eight points.
-/
module

public import proofs.«01_k».proof.Proof.Fuse
public import proofs.«01_k».proof.Proof.Gen.KernelIdeal
public import proofs.«01_k».proof.Proof.Gen.KernelIdeal.Launch

@[expose] public section

noncomputable section

namespace Cert.Proof.Vals

open Cert.KernelIdeal Cert.KernelIdeal.Gen
open Cert.Proof.Loops Cert.Proof.Step Cert.Proof.Fuse

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)

variable {F : FTy → Type} [FloatOps F]

local notation "𝕄" => MT nD τ sig (HIx NQ) (Elt F) ℕ UU ℕ

/-! ## The values -/

section Vals

variable (V : (ℓ : Loc nD τ sig) → Buf (Elt F) ℓ) (c : Dev nD)

/-- Block `t` of window `w`, read off the arrays' contents at entry. -/
noncomputable def blk0 (t : Fin cfg2.N) : Vec F S32x4096 .f32 := ((cfg2.win 0).blk t).view.read (Elt F) (V ((cfg2.win 0).arr.view.loc (c.tc : Thread nD τ)))
noncomputable def blk1 (t : Fin cfg2.N) : Vec F S4096x64 .f32 := ((cfg2.win 1).blk t).view.read (Elt F) (V ((cfg2.win 1).arr.view.loc (c.tc : Thread nD τ)))
noncomputable def blk2 (t : Fin cfg2.N) : Vec F S4096x64 .f32 := ((cfg2.win 2).blk t).view.read (Elt F) (V ((cfg2.win 2).arr.view.loc (c.tc : Thread nD τ)))
noncomputable def blk3 (t : Fin cfg2.N) : Vec F S4096x3 .f32 := ((cfg2.win 3).blk t).view.read (Elt F) (V ((cfg2.win 3).arr.view.loc (c.tc : Thread nD τ)))
noncomputable def blk4 (t : Fin cfg2.N) : Vec F S1x4 .i32 := ((cfg2.win 4).blk t).view.read (Elt F) (V ((cfg2.win 4).arr.view.loc (c.tc : Thread nD τ)))
noncomputable def blk5 (t : Fin cfg2.N) : Vec F S64x16 .f32 := ((cfg2.win 5).blk t).view.read (Elt F) (V ((cfg2.win 5).arr.view.loc (c.tc : Thread nD τ)))
noncomputable def blk6 (t : Fin cfg2.N) : Vec F S1x16 .f32 := ((cfg2.win 6).blk t).view.read (Elt F) (V ((cfg2.win 6).arr.view.loc (c.tc : Thread nD τ)))
noncomputable def blk7 (t : Fin cfg2.N) : Vec F S16x64 .f32 := ((cfg2.win 7).blk t).view.read (Elt F) (V ((cfg2.win 7).arr.view.loc (c.tc : Thread nD τ)))
noncomputable def blk8 (t : Fin cfg2.N) : Vec F S1x64 .f32 := ((cfg2.win 8).blk t).view.read (Elt F) (V ((cfg2.win 8).arr.view.loc (c.tc : Thread nD τ)))
noncomputable def blk9 (t : Fin cfg2.N) : Vec F S67x64 .f32 := ((cfg2.win 9).blk t).view.read (Elt F) (V ((cfg2.win 9).arr.view.loc (c.tc : Thread nD τ)))
noncomputable def blk10 (t : Fin cfg2.N) : Vec F S1x64 .f32 := ((cfg2.win 10).blk t).view.read (Elt F) (V ((cfg2.win 10).arr.view.loc (c.tc : Thread nD τ)))
noncomputable def blk11 (t : Fin cfg2.N) : Vec F S64x1 .f32 := ((cfg2.win 11).blk t).view.read (Elt F) (V ((cfg2.win 11).arr.view.loc (c.tc : Thread nD τ)))
noncomputable def blk12 (t : Fin cfg2.N) : Vec F S1x1 .f32 := ((cfg2.win 12).blk t).view.read (Elt F) (V ((cfg2.win 12).arr.view.loc (c.tc : Thread nD τ)))
noncomputable def blk13 (t : Fin cfg2.N) : Vec F S128x64 .f32 := ((cfg2.win 13).blk t).view.read (Elt F) (V ((cfg2.win 13).arr.view.loc (c.tc : Thread nD τ)))
noncomputable def blk14 (t : Fin cfg2.N) : Vec F S1x64 .f32 := ((cfg2.win 14).blk t).view.read (Elt F) (V ((cfg2.win 14).arr.view.loc (c.tc : Thread nD τ)))
noncomputable def blk15 (t : Fin cfg2.N) : Vec F S1x64 .f32 := ((cfg2.win 15).blk t).view.read (Elt F) (V ((cfg2.win 15).arr.view.loc (c.tc : Thread nD τ)))
noncomputable def blk16 (t : Fin cfg2.N) : Vec F S1x64 .f32 := ((cfg2.win 16).blk t).view.read (Elt F) (V ((cfg2.win 16).arr.view.loc (c.tc : Thread nD τ)))

/-- The operands at point `t`; -/
noncomputable def opsAt (t : Fin cfg2.N) : Ops F :=
  ⟨blk0 V c t, blk1 V c t, blk2 V c t, blk3 V c t, blk4 V c t, blk5 V c t, blk6 V c t, blk7 V c t, blk8 V c t, blk9 V c t, blk10 V c t, blk11 V c t, blk12 V c t, blk13 V c t, blk14 V c t, blk15 V c t, blk16 V c t⟩

/-- at the point of number `n` (taken modulo 8). -/
noncomputable def opsN (n : ℕ) : Ops F := opsAt V c ⟨n % 8, by show n % 8 < grid2.N; rw [N_2]; exact Nat.mod_lt _ (by decide)⟩

theorem opsN_val (t : Fin cfg2.N) : opsN V c t.val = opsAt V c t := by
  have h : t.val < grid2.N := t.isLt
  rw [N_2] at h
  exact congrArg (opsAt V c) (Fin.ext (Nat.mod_eq_of_lt h))

/-- The cloud weights, the tiles, the running rows of the columns' sums and of the squares' sums, and a result block. -/
noncomputable def CW : FVec F S4x64 .f32 := cwOf (opsN V c 0)
noncomputable def Y (n : ℕ) : FVec F S4096x64 .f32 := tile (BitVec.ofNat 32 n) (CW V c) (opsN V c n)
noncomputable def R0 : ℕ → Vec F S1x64 .f32
  | 0 => at' (k2_pay8 (F := F)) r0
  | n + 1 => add0 (BitVec.ofNat 32 n) (CW V c) (opsN V c n) (R0 n)
noncomputable def R1 : ℕ → Vec F S1x64 .f32
  | 0 => at' (k2_pay8 (F := F)) r1
  | n + 1 => add1 (BitVec.ofNat 32 n) (CW V c) (opsN V c n) (R1 n)
noncomputable def res (t : Fin cfg2.N) : Vec F S4096x64 .f32 :=
  k2_pay5 (Y V c (t.val - 4)) (k2_pay3 (R0 V c 4)) (k2_pay4 (R0 V c 4) (R1 V c 4)) (blk15 V c t) (blk16 V c t)

/-- Tile `k`'s rows of the first scratch. -/
theorem inbT (k : ℕ) (h : k < 4) : ∀ j, (![4096 * k, 0] : Fin 2 → ℕ) j + S4096x64.size j ≤ S16384x64.size j := fun j => by
  fin_cases j
  · show 4096 * k + 4096 ≤ 16384; omega
  · show 0 + 64 ≤ 64; omega
abbrev rT (k : ℕ) (h : k < 4) : Rect S16384x64 := Rect.unit (s := S16384x64) ![4096 * k, 0] S4096x64.size (inbT k h)

/-- What the scratches hold before point `n`. -/
noncomputable def Inv (n : ℕ) (y : Vec F S16384x64 .f32) (cw st : Vec F S8x64 .f32) : Prop :=
  (∀ k (h : k < 4), k < n → at' y (rT k h) = Y V c k) ∧ (0 < n → at' cw rC = CW V c)
    ∧ (0 < n → at' st r0 = R0 V c (min n 4) ∧ at' st r1 = R1 V c (min n 4))
    ∧ (4 ≤ n → at' st r2 = k2_pay3 (R0 V c 4) ∧ at' st r3 = k2_pay4 (R0 V c 4) (R1 V c 4))

theorem at'_off {d : Fin 2 → ℕ} {o o' : Fin 2 → ℕ} (e : o = o') (h : ∀ j, o j + d j ≤ S16384x64.size j) (h' : ∀ j, o' j + d j ≤ S16384x64.size j)
    (X : Vec F S16384x64 .f32) : at' X (Rect.unit (s := S16384x64) o d h) = at' X (Rect.unit (s := S16384x64) o' d h') := by
  subst e; rfl

theorem coord (t : Fin grid2.N) : (t.val < 4 → (grid2.coords t 1).val = t.val ∧ k2_cond1 (grid2.coords t) = 1#1 ∧ ¬ k2_cond4 (grid2.coords t) = 1#1)
    ∧ (¬ t.val < 4 → (grid2.coords t 1).val = t.val - 4 ∧ ¬ k2_cond1 (grid2.coords t) = 1#1 ∧ k2_cond4 (grid2.coords t) = 1#1) := by
  rcases fin_N2 t with rfl | rfl | rfl | rfl | rfl | rfl | rfl | rfl <;> decide +kernel

theorem inv_step (t : Fin cfg2.N) (ht : t.val < 4) (h1 : k2_cond1 (grid2.coords t) = 1#1) {y cw st y' cw' st'} (hI : Inv V c t.val y cw st)
    (hS : Step0 (grid2.coords t) h1 (opsAt V c t) y cw st y' cw' st') : Inv V c (t.val + 1) y' cw' st' := by
  obtain ⟨hi, -, -⟩ := (coord t).1 ht
  obtain ⟨c0, c1, hy, hyf, hs, h3⟩ := hS
  rw [← opsN_val] at c0 hy hs
  have hw : wd (grid2.coords t) = BitVec.ofNat 32 t.val := by show BitVec.ofNat 32 (grid2.coords t 1).val = _; rw [hi]
  rw [hi] at c0 c1 hs h3
  have hC : at' cw' rC = CW V c := by
    by_cases hz : t.val = 0
    · rw [c0 hz, hz]; rfl
    · rw [c1 hz]; exact hI.2.1 (by omega)
  rw [hC, hw] at hy
  have e : k2_off1 (grid2.coords t) = ![4096 * t.val, 0] := by rw [k2_off1_eq, hi]
  have hm : min (t.val + 1) 4 = t.val + 1 := by omega
  have hr : at' st' r0 = R0 V c (t.val + 1) ∧ at' st' r1 = R1 V c (t.val + 1) := by
    obtain ⟨a, b⟩ := hs _ rfl
    rw [hC, hw] at a b
    by_cases hz : t.val = 0
    · rw [if_pos hz] at a b
      rw [a, b, hz]; exact ⟨rfl, rfl⟩
    · rw [if_neg hz] at a b
      have hp := hI.2.2.1 (by omega)
      rw [show min t.val 4 = t.val by omega] at hp
      rw [a, b, hp.1, hp.2]; exact ⟨rfl, rfl⟩
  refine ⟨fun k hk hkn => ?_, fun _ => hC, fun _ => by rw [hm]; exact hr, fun h4 => ?_⟩
  · by_cases hkt : k = t.val
    · subst hkt
      rw [← at'_off e (k2_off1_inb _ h1) (inbT _ hk)]
      exact hy
    · rw [← hI.1 k hk (by omega)]
      funext x
      refine hyf _ fun hx => ?_
      rw [Rect.mem_set_unit] at hx
      have h0 := hx 0
      rw [e] at h0
      have hx0 : (x 0).val < 4096 := (x 0).isLt
      have ee : ((rT k hk).emb x 0).val = 4096 * k + 1 * (x 0).val := rfl
      rw [ee] at h0
      have ha : 4096 * t.val ≤ 4096 * k + 1 * (x 0).val := h0.1
      have hb : 4096 * k + 1 * (x 0).val < 4096 * t.val + 4096 := h0.2
      omega
  · have h33 : t.val = 3 := by omega
    obtain ⟨a, b⟩ := h3 h33
    rw [hr.1] at a b
    rw [hr.2] at b
    rw [h33] at a b
    exact ⟨a, b⟩

end Vals

end Cert.Proof.Vals

end
-- ==== Proof.Region.lean ====
/-
  The fusion call as a region of the program: what the staging buffers and the scratches hold at each of the eight points, the body's
  obligation there, and the region's step.
-/
module

public import proofs.«01_k».proof.Proof.Vals
public import proofs.«01_k».proof.Proof.Gen.KernelIdeal.Points
public import Idealize.ShloMosaic.Lib.Pipeline.FrameBody
public import proofs.«01_k».proof.Proof.Gen.KernelIdeal
public import proofs.«01_k».proof.Proof.Gen.KernelIdeal.Launch

@[expose] public section

noncomputable section

namespace Cert.Proof.Region

open Cert.KernelIdeal Cert.KernelIdeal.Gen
open Cert.Proof.Loops Cert.Proof.Step Cert.Proof.Fuse Cert.Proof.Vals

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf kernel pipe)

variable {F : FTy → Type} [FloatOps F]

local notation "𝕄" => MT nD τ sig (HIx NQ) (Elt F) ℕ UU ℕ

/-! ## The proof data -/

section Data

variable (V : (ℓ : Loc nD τ sig) → Buf (Elt F) ℓ)

/-- The scratches before point `n`. -/
noncomputable def Scr (c : Dev nD) (n : ℕ) : sProp 𝕄 :=
  iprop(∃ y : Vec F S16384x64 .f32, ∃ cw : Vec F S8x64 .f32, ∃ st : Vec F S8x64 .f32, ⌜Inv V c n y cw st⌝ ∗ owns (c.tc : Thread nD τ) (Memref.whole cc2_scratch0) fullShare y
    ∗ owns (c.tc : Thread nD τ) (Memref.whole cc2_scratch1) fullShare cw ∗ owns (c.tc : Thread nD τ) (Memref.whole cc2_scratch2) fullShare st)

noncomputable def dats (_ : Fin 1) (c : Dev nD) : Dat τ (Elt F) (HIx NQ) ℕ UU ℕ cfg2 c where
  A w := V ((cfg2.win w).arr.view.loc (c.tc : Thread nD τ))
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => blk8 V c t
    | ⟨9, _⟩ => blk9 V c t
    | ⟨10, _⟩ => blk10 V c t
    | ⟨11, _⟩ => blk11 V c t
    | ⟨12, _⟩ => blk12 V c t
    | ⟨13, _⟩ => blk13 V c t
    | ⟨14, _⟩ => blk14 V c t
    | ⟨15, _⟩ => blk15 V c t
    | ⟨16, _⟩ => blk16 V c t
    | ⟨17, _⟩ => res V c t
    | ⟨n + 18, h⟩ => absurd (show n + 18 < 18 from h) (by omega)
  Φ n := Scr V c n.val
  q _ := fullShare
  owed _ := 0
  recorded _ := {p | (sc (F := F)).lev ((c.tc : Thread nD τ), p.1) p.2 ≤ 16}

theorem bigSep_W (Φ : Fin cfg2.W → sProp 𝕄) : bigSep Finset.univ Φ = iprop(Φ (0 : Fin 18) ∗ Φ (1 : Fin 18) ∗ Φ (2 : Fin 18) ∗ Φ (3 : Fin 18) ∗ Φ (4 : Fin 18) ∗ Φ (5 : Fin 18) ∗ Φ (6 : Fin 18) ∗ Φ (7 : Fin 18) ∗ Φ (8 : Fin 18) ∗ Φ (9 : Fin 18) ∗ Φ (10 : Fin 18) ∗ Φ (11 : Fin 18) ∗ Φ (12 : Fin 18) ∗ Φ (13 : Fin 18) ∗ Φ (14 : Fin 18) ∗ Φ (15 : Fin 18) ∗ Φ (16 : Fin 18) ∗ Φ (17 : Fin 18)) := bigSep_W2 Φ

theorem before0 (c : Dev nD) (t : Fin cfg2.N) (d) : (dats V 0 c).before (0 : Fin 18) t d = blk0 V c t :=
  (dats V 0 c).before_in_eq_fetched (0 : Fin 18) rfl (fun _ => rfl) (fun _ _ _ => rfl) (fun _ => rfl) t d
theorem before1 (c : Dev nD) (t : Fin cfg2.N) (d) : (dats V 0 c).before (1 : Fin 18) t d = blk1 V c t :=
  (dats V 0 c).before_in_eq_fetched (1 : Fin 18) rfl (fun _ => rfl) (fun _ _ _ => rfl) (fun _ => rfl) t d
theorem before2 (c : Dev nD) (t : Fin cfg2.N) (d) : (dats V 0 c).before (2 : Fin 18) t d = blk2 V c t :=
  (dats V 0 c).before_in_eq_fetched (2 : Fin 18) rfl (fun _ => rfl) (fun _ _ _ => rfl) (fun _ => rfl) t d
theorem before3 (c : Dev nD) (t : Fin cfg2.N) (d) : (dats V 0 c).before (3 : Fin 18) t d = blk3 V c t :=
  (dats V 0 c).before_in_eq_fetched (3 : Fin 18) rfl (fun _ => rfl) (fun _ _ _ => rfl) (fun _ => rfl) t d
theorem before4 (c : Dev nD) (t : Fin cfg2.N) (d) : (dats V 0 c).before (4 : Fin 18) t d = blk4 V c t :=
  (dats V 0 c).before_in_eq_fetched (4 : Fin 18) rfl (fun _ => rfl) (fun _ _ _ => rfl) (fun _ => rfl) t d
theorem before5 (c : Dev nD) (t : Fin cfg2.N) (d) : (dats V 0 c).before (5 : Fin 18) t d = blk5 V c t :=
  (dats V 0 c).before_in_eq_fetched (5 : Fin 18) rfl (fun _ => rfl) (fun _ _ _ => rfl) (fun _ => rfl) t d
theorem before6 (c : Dev nD) (t : Fin cfg2.N) (d) : (dats V 0 c).before (6 : Fin 18) t d = blk6 V c t :=
  (dats V 0 c).before_in_eq_fetched (6 : Fin 18) rfl (fun _ => rfl) (fun _ _ _ => rfl) (fun _ => rfl) t d
theorem before7 (c : Dev nD) (t : Fin cfg2.N) (d) : (dats V 0 c).before (7 : Fin 18) t d = blk7 V c t :=
  (dats V 0 c).before_in_eq_fetched (7 : Fin 18) rfl (fun _ => rfl) (fun _ _ _ => rfl) (fun _ => rfl) t d
theorem before8 (c : Dev nD) (t : Fin cfg2.N) (d) : (dats V 0 c).before (8 : Fin 18) t d = blk8 V c t :=
  (dats V 0 c).before_in_eq_fetched (8 : Fin 18) rfl (fun _ => rfl) (fun _ _ _ => rfl) (fun _ => rfl) t d
theorem before9 (c : Dev nD) (t : Fin cfg2.N) (d) : (dats V 0 c).before (9 : Fin 18) t d = blk9 V c t :=
  (dats V 0 c).before_in_eq_fetched (9 : Fin 18) rfl (fun _ => rfl) (fun _ _ _ => rfl) (fun _ => rfl) t d
theorem before10 (c : Dev nD) (t : Fin cfg2.N) (d) : (dats V 0 c).before (10 : Fin 18) t d = blk10 V c t :=
  (dats V 0 c).before_in_eq_fetched (10 : Fin 18) rfl (fun _ => rfl) (fun _ _ _ => rfl) (fun _ => rfl) t d
theorem before11 (c : Dev nD) (t : Fin cfg2.N) (d) : (dats V 0 c).before (11 : Fin 18) t d = blk11 V c t :=
  (dats V 0 c).before_in_eq_fetched (11 : Fin 18) rfl (fun _ => rfl) (fun _ _ _ => rfl) (fun _ => rfl) t d
theorem before12 (c : Dev nD) (t : Fin cfg2.N) (d) : (dats V 0 c).before (12 : Fin 18) t d = blk12 V c t :=
  (dats V 0 c).before_in_eq_fetched (12 : Fin 18) rfl (fun _ => rfl) (fun _ _ _ => rfl) (fun _ => rfl) t d
theorem before13 (c : Dev nD) (t : Fin cfg2.N) (d) : (dats V 0 c).before (13 : Fin 18) t d = blk13 V c t :=
  (dats V 0 c).before_in_eq_fetched (13 : Fin 18) rfl (fun _ => rfl) (fun _ _ _ => rfl) (fun _ => rfl) t d
theorem before14 (c : Dev nD) (t : Fin cfg2.N) (d) : (dats V 0 c).before (14 : Fin 18) t d = blk14 V c t :=
  (dats V 0 c).before_in_eq_fetched (14 : Fin 18) rfl (fun _ => rfl) (fun _ _ _ => rfl) (fun _ => rfl) t d
theorem before15 (c : Dev nD) (t : Fin cfg2.N) (d) : (dats V 0 c).before (15 : Fin 18) t d = blk15 V c t :=
  (dats V 0 c).before_in_eq_fetched (15 : Fin 18) rfl (fun _ => rfl) (fun _ _ _ => rfl) (fun _ => rfl) t d
theorem before16 (c : Dev nD) (t : Fin cfg2.N) (d) : (dats V 0 c).before (16 : Fin 18) t d = blk16 V c t :=
  (dats V 0 c).before_in_eq_fetched (16 : Fin 18) rfl (fun _ => rfl) (fun _ _ _ => rfl) (fun _ => rfl) t d

theorem idle17 (t : Fin cfg2.N) : (t.val < 4 → cfg2.idle (17 : Fin 18) (cfg2.grid.coords t) = true ∧ (cfg2.win (17 : Fin 18)).flush t = false)
    ∧ (¬ t.val < 4 → cfg2.idle (17 : Fin 18) (cfg2.grid.coords t) = false) := by
  rcases fin_N2 t with rfl | rfl | rfl | rfl | rfl | rfl | rfl | rfl <;> decide +kernel

theorem body_obligation (c : Dev nD) : BodyObligation (dats V 0 c) (defs₀ (F := F)) 𝒱₀ none Set.univ := fun t => by
  rw [bigSep_W, bigSep_W]
  simp only [before0, before1, before2, before3, before4, before5, before6, before7, before8, before9, before10, before11, before12, before13, before14, before15, before16]
  rw [show (dats V 0 c).Φ t.castSucc = Scr V c t.val from rfl, show (dats V 0 c).Φ t.succ = Scr V c (t.val + 1) from rfl]
  unfold Scr
  show _ ⊢ wp frame (wpE (defs₀ (F := F)) 𝒱₀ (c.tc : Thread nD τ) none) Set.univ (bodyAt2 (F := F) t) _
  by_cases ht : t.val < 4
  · obtain ⟨hi, h1, h4⟩ := (coord t).1 ht
    obtain ⟨hid, hfl⟩ := (idle17 t).1 ht
    iintro ⟨⟨%y, %cw, %st, %hI, Hy, Hc, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17⟩
    iapply (wp_phase0 c (grid2.coords t) _ _ _ _ _ _ _ _ _ _ _ _ _ _ _ _ _ _ _ _ _ _ _ _ _ _ _ _ _ _ _ _ _ _ _ _ _ _ _ _ _ _ h1 h4 (opsAt V c t) y cw st) $$ [H0 H1 H2 H3 H4 H5 H6 H7 H8 H9 H10 H11 H12 H13 H14 Hy Hc Hs]
    · isplitr [Hy Hc Hs]
      · unfold ins0
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · isplitl [Hy]; · iexact Hy
        isplitl [Hc]; · iexact Hc
        iexact Hs
    iintro %y' %cw' %st' %hS Hin Hy Hc Hs
    unfold ins0
    icases Hin with ⟨H0, H1, H2, H3, H4, H5, H6, H7, H8, H9, H10, H11, H12, H13, H14⟩
    isplitl [Hy Hc Hs]
    · iexists y', cw', st'
      isplitr; · ipureintro; exact inv_step V c t ht h1 hI hS
      isplitl [Hy]; · iexact Hy
      isplitl [Hc]; · iexact Hc
      iexact Hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    rw [show idle2 17 (grid2.coords t) = true from hid]
    dsimp only
    rw [show (win2 17).flush t = false from hfl]
    iexact H17
  · obtain ⟨hi, h1, h4⟩ := (coord t).2 ht
    have hid := (idle17 t).2 ht
    iintro ⟨⟨%y, %cw, %st, %hI, Hy, Hc, Hs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (wp_phase1 c (grid2.coords t) _ _ _ _ _ _ _ _ _ _ _ _ _ _ _ _ _ _ _ _ _ _ _ _ _ _ _ _ _ _ _ _ _ _ _ _ _ _ _ _ _ _ h1 h4 (blk15 V c t) (blk16 V c t) _ y st) $$ [H15 H16 H17 Hy Hs]
    · isplitl [H15]; · iexact H15
      isplitl [H16]; · iexact H16
      isplitl [H17]; · iexact H17
      isplitl [Hy]; · iexact Hy
      iexact Hs
    iintro H15 H16 H17 Hy Hs
    have hlt : t.val < 8 := by have h : t.val < grid2.N := t.isLt; rwa [N_2] at h
    have e : k2_off2 (grid2.coords t) = ![4096 * (t.val - 4), 0] := by rw [k2_off2_eq, hi]
    rw [(at'_off e (k2_off2_inb _ h4) (inbT _ (by omega)) y).trans (hI.1 (t.val - 4) (by omega) (show t.val - 4 < t.val by omega)), (hI.2.2.2 (show 4 ≤ t.val by omega)).1, (hI.2.2.2 (show 4 ≤ t.val by omega)).2]
    isplitl [Hy Hc Hs]
    · iexists y, cw, st
      isplitr
      · ipureintro
        have h0 := hI.2.2.1 (show 0 < t.val by omega)
        rw [show min t.val 4 = 4 by omega] at h0
        refine ⟨fun k hk _ => hI.1 k hk (show k < t.val by omega), fun _ => hI.2.1 (show 0 < t.val by omega), fun _ => ?_, fun _ => hI.2.2.2 (show 4 ≤ t.val by omega)⟩
        rw [show min (t.val + 1) 4 = 4 by omega]; exact h0
      isplitl [Hy]; · iexact Hy
      isplitl [Hc]; · iexact Hc
      iexact Hs
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    rw [show idle2 17 (grid2.coords t) = false from hid]
    iexact H17

end Data

end Cert.Proof.Region

end
-- ==== Proof.Seg.lean ====
/-
  The fusion call's region, entered from the TensorCore's unscoped buffers at a valuation and left with them at the same valuation but
  for the result's array, which is at the write-backs of the eight points.
-/
module

public import proofs.«01_k».proof.Proof.Region
public import Idealize.ShloMosaic.Lib.Pipeline.Regions
public import Idealize.ShloMosaic.Lib.Pipeline.RegionsLoop
public import Idealize.ShloMosaic.Lib.Pipeline.RegionArrays

@[expose] public section

noncomputable section

namespace Cert.Proof.Seg

open Cert.KernelIdeal Cert.KernelIdeal.Gen
open Cert.Proof.Loops Cert.Proof.Step Cert.Proof.Fuse Cert.Proof.Vals Cert.Proof.Region

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx NQ) (Elt F) ℕ UU ℕ

abbrev adm : (p : Fin 1) → (pcfgs (F := F) p).Adm := fun p => (cfgs p).toPCfg_adm

/-- A memory of which device `c`'s buffers are at the valuation `W c`. -/
abbrev memOf (W : Dev nD → Valuation τ sig (Elt F)) : (ℓ : Loc nD τ sig) → Buf (Elt F) ℓ := fun ℓ => W ℓ.1 ℓ.2

variable (W : Dev nD → Valuation τ sig (Elt F))

noncomputable def pdats : (p : Fin 1) → (c : Dev nD) → Pipeline.Dat τ (Elt F) (HIx NQ) ℕ UU ℕ (Pipeline.pin (pcfgs (F := F)) adm p) c
  | 0 => fun c => dats (memOf W) 0 c
  | ⟨_ + 1, h⟩ => absurd h (Nat.not_lt.2 (Nat.le_add_left _ _))

/-- The result's array after the region. -/
noncomputable def out (c : Dev nD) : Vec F S16384x64 .f32 := (dats (memOf W) 0 c).arrAt (17 : Fin 18) cfg2.N

/-- The valuation after the region. -/
noncomputable def upd (c : Dev nD) : Valuation τ sig (Elt F) := Function.update (W c) (Proc.devRef (sig := sig) .tc main_v12) (out W c)

theorem upd_out (c : Dev nD) : upd W c (Proc.devRef (sig := sig) .tc main_v12) = out W c := Function.update_self _ _ _
theorem upd_ne (c : Dev nD) (b : Ref sig .tc) (h : b ≠ main_v12) : upd W c (Proc.devRef (sig := sig) .tc b) = W c (Proc.devRef (sig := sig) .tc b) :=
  Function.update_of_ne (fun e => h (Proc.devRef_injective _ e)) _ _

/-- What the core owes, with its waits all at or below the second call's level. -/
abbrev idleAt (c : Dev nD) : sProp 𝕄 :=
  iprop(∃ Wt, ⌜∀ p ∈ Wt, (sc (F := F)).lev ((c.tc : Thread nD τ), p.1) p.2 ≤ 16⌝ ∗ owes (c.tc : Thread nD τ) (0 : CellTallies nD τ sig (HIx NQ)) Wt)

theorem in_of_ne (w : Fin 18) (h : w ≠ 17) : (cfg2.win w).isOut = false := by
  revert w; decide

theorem arr_ne (w : Fin 18) (h : w ≠ 17) : Pipeline.arrRef spec2 w ≠ main_v12 := by
  revert w; decide

abbrev L₂ : GSem nD τ sig → Finset (HIx NQ) := (sc (F := F)).L
abbrev lv₂ : GSem nD τ sig → HIx NQ → ℕ := (sc (F := F)).lev

set_option backward.isDefEq.respectTransparency.types false in
noncomputable def seg : Pipeline.RegionSeg (pcfgs (F := F)) adm (pdats W) (none : HIx NQ) defs₀ 𝒱₀ (L₂ (F := F)) (lv₂ (F := F)) 0 where
  win := winFacts2.to₀
  block_pos := block_pos2
  stage_whole := stage_whole2
  K := PEmpty
  osem k := k.elim
  ho := Pipeline.OwnSemFacts.none _
  hbody c := (body_obligation (memOf W) c).loose
  hwaits := Pipeline.hwaits_of_owed_zero _ _ _ _ (L₂ (F := F)) (lv₂ (F := F)) 0 fun _ _ => rfl
  pre c := iprop(unscopedBufs c (fun b => W c (Proc.devRef (sig := sig) .tc b)) ∗ idleAt c)
  post c := iprop(unscopedBufs c (fun b => upd W c (Proc.devRef (sig := sig) .tc b)) ∗ idleAt c)
  X _ := iprop(emp)
  Y _ := iprop(emp)
  Z c := Pipeline.unscopedRest (Ix := HIx NQ) (Name := ℕ) (U := UU) (Lvl := ℕ) spec2 c (fun b => W c (Proc.devRef (sig := sig) .tc b))
  hentry c := by
    rw [Pipeline.ownSems0_none]
    have hsplit := Pipeline.arrays_of_unscopedBufs (p := 0) (pcfgs (F := F)) adm (pdats W) winFacts2 arr_whole2 c
      ((pdats W 0 c).share_full fun _ => rfl) (fun b => W c (Proc.devRef (sig := sig) .tc b)) fun _ => rfl
    iintro ⟨⟨Hub, HO⟩, -, -⟩
    ihave H := hsplit $$ Hub
    icases H with ⟨Ha, Hrest⟩
    imodintro
    isplitl [Ha]; · iexact Ha
    isplitr; · rw [Pipeline.prefHeld_of_none _ rfl]; iempintro
    isplitl [HO]
    · unfold Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W 0 c).Φ 0 = Scr (memOf W) c 0 from rfl, show (Pipeline.pin (pcfgs (F := F)) adm 0).spec = spec2 from rfl, scopedRest2_eq]
    unfold Scr
    iintro ⟨-, -, ⟨%a, Ha⟩, ⟨%b, Hb⟩, ⟨%d, Hd⟩⟩
    iexists a; iexists b; iexists d
    isplitr; · ipureintro; exact ⟨fun _ _ h => absurd h (Nat.not_lt_zero _), fun h => absurd h (lt_irrefl 0), fun h => absurd h (lt_irrefl 0), fun h => absurd h (by decide)⟩
    rw [owns_whole, owns_whole, owns_whole]
    isplitl [Ha]; · iexact Ha
    isplitl [Hb]; · iexact Hb
    iexact Hd
  hout c := by
    rw [Pipeline.ownSems0_none, show (pdats W 0 c).Φ (Fin.last _) = Scr (memOf W) c 8 from rfl, show (Pipeline.pin (pcfgs (F := F)) adm 0).spec = spec2 from rfl, scopedRest2_eq]
    unfold Scr
    iintro ⟨%a, %b, %d, -, Ha, Hb, Hd⟩
    isplitr; · iempintro
    isplitr; · iempintro
    isplitl [Ha]; · iexists a; rw [← owns_whole]; iexact Ha
    isplitl [Hb]; · iexists b; rw [← owns_whole]; iexact Hb
    iexists d; rw [← owns_whole]; iexact Hd
  hexit c := by
    have hjoin := Pipeline.unscopedBufs_of_arrays (p := 0) (pcfgs (F := F)) adm (Ix := HIx NQ) (Name := ℕ) (U := UU) (Lvl := ℕ) winFacts2 arr_whole2 c
      (pdats W) ((pdats W 0 c).share_full fun _ => rfl) (fun b => W c (Proc.devRef (sig := sig) .tc b)) (fun b => upd W c (Proc.devRef (sig := sig) .tc b))
      ((pdats W 0 c).arrAt · cfg2.N)
      (fun w => by
        by_cases h : w = (17 : Fin 18)
        · subst h; exact (upd_out W c).symm
        · refine (((pdats W 0 c).arrAt_in w ?_ _).trans ?_)
          · exact in_of_ne w h
          · exact (upd_ne W c _ (arr_ne w h)).symm)
      (fun b hb => upd_ne W c b fun h => hb (h ▸ Finset.mem_image.mpr ⟨(17 : Fin 18), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%Wt, %hW, HO⟩; iexists Wt
    isplitr
    · ipureintro
      intro p hp
      rcases hW hp with h | ⟨w, s, rfl⟩
      · exact h
      · exact Nat.zero_le _
    iexact HO

end Cert.Proof.Seg

end
-- ==== Proof.Main.lean ====
/-
  The whole program's run: the reshapes, the two SparseCore calls and the fusion call on the TensorCore, over a valuation of the
  TensorCore's unscoped buffers that each of them updates.
-/
module

public import proofs.«01_k».proof.Proof.Launch
public import proofs.«01_k».proof.Proof.Seg

@[expose] public section

noncomputable section

namespace Cert.Proof.Main

open Cert.KernelIdeal Cert.KernelIdeal.Gen
open Cert.Proof.Hist Cert.Proof.Loops Cert.Proof.Rows Cert.Proof.Launch Cert.Proof.Seg

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs)

variable {F : FTy → Type} [FloatOps F]

local notation "𝕄" => MT nD τ sig (HIx NQ) (Elt F) ℕ UU ℕ

/-! ## The launch element -/

abbrev EP : Emb UP 𝕄 := (Emb.inl : Emb UP (UP × Counters)).trans embR

/-- The handshakes' cells and the pipeline's. -/
noncomputable def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

noncomputable def G (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem bigSep_one (Φ : Fin 1 → Dev nD → sProp 𝕄) :
    (bigSep Finset.univ fun c : Dev nD => bigSep Finset.univ fun p : Fin 1 => Φ p c) = bigSep Finset.univ (Φ 0) :=
  bigSep_congr fun c _ => show bigSep {(0 : Fin 1)} (fun p => Φ p c) = Φ 0 c from bigSep_singleton

theorem hu₀ (X : Dev nD → Vec F S16384 .i32) : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (P X).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave H := (own_pair_emb embR (initOf (Pipeline.cells (Pipeline.pin (pcfgs (F := F)) adm) cellOf_inj) (Pipeline.launchToks (Pipeline.pin (pcfgs (F := F)) adm) cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · ihave Hg := (Entails.of_eq (bigSep_one (Pipeline.cellsGhost (Pipeline.pin (pcfgs (F := F)) adm) EP))) $$ Hg
      iexact Hg
    · ihave Ht := (Entails.of_eq (bigSep_one (F := F) (fun p c => Pipeline.toksInit (Pipeline.pin (pcfgs (F := F)) adm) EP p c))) $$ Ht
      iexact Ht
  rw [show (bigSep Finset.univ fun thr : Thread nD τ => bigSep Finset.univ fun q : Fin 2 => (P (F := F) X).x q thr) = bigSep Finset.univ fun _ => iprop(emp) from
    bigSep_congr fun _ _ => bigSep_emp' _, bigSep_emp']
  iempintro

/-! ## The TensorCore's buffers at a valuation -/

abbrev tc (b : Ref sig .tc) : DevRef τ sig := Proc.devRef (sig := sig) .tc b

theorem pair_split (d : Dev nD) (a b : Ref sig .tc) (hab : a ≠ b) (hT : ({tc a, tc b} : Finset (DevRef τ sig)) ⊆ ucRefs τ sig) (W : Valuation τ sig (Elt F)) :
    (StableHlo.held d.tc (ucRefs τ sig) W : sProp 𝕄)
      = iprop(((((d.tc : Thread nD τ).loc a) ↦{fullShare} W (tc a)) ∗ (((d.tc : Thread nD τ).loc b) ↦{fullShare} W (tc b)))
          ∗ StableHlo.held d.tc (ucRefs τ sig \ {tc a, tc b}) W) := by
  rw [StableHlo.held_sub_split (d.tc : Thread nD τ) hT W]
  congr 1
  unfold StableHlo.held
  rw [SparseCore.bigSep_insert' (by rw [Finset.mem_singleton]; exact fun e => hab (Proc.devRef_injective _ e)), bigSep_singleton]

theorem pair_join (d : Dev nD) (a b : Ref sig .tc) (hab : a ≠ b) (hT : ({tc a, tc b} : Finset (DevRef τ sig)) ⊆ ucRefs τ sig) (W : Valuation τ sig (Elt F))
    (h : (tc b).ty.Contents (Elt F)) :
    (iprop(((((d.tc : Thread nD τ).loc a) ↦{fullShare} W (tc a)) ∗ (((d.tc : Thread nD τ).loc b) ↦{fullShare} h))
          ∗ StableHlo.held d.tc (ucRefs τ sig \ {tc a, tc b}) W) : sProp 𝕄)
      ⊢ StableHlo.held d.tc (ucRefs τ sig) (Function.update W (tc b) h) := by
  rw [pair_split d a b hab hT, Function.update_self, Function.update_of_ne (fun e => hab (Proc.devRef_injective _ e)),
    StableHlo.held_congr (d.tc : Thread nD τ) (S := ucRefs τ sig \ {tc a, tc b}) (V := Function.update W (tc b) h) (V' := W)
      (fun x hx => Function.update_of_ne (fun e => (Finset.mem_sdiff.mp hx).2 (by rw [e]; exact Finset.mem_insert_of_mem (Finset.mem_singleton_self _))) _ _)]

theorem hlo_step (d : Dev nD) (op : HloOp τ sig (Elt F)) (hS : op.bufs ⊆ StableHlo.tcRefs τ sig) (hf : op.fresh = ∅) (W : Valuation τ sig (Elt F)) (Φ : PUnit → sProp 𝕄) :
    iprop((boundary (d.tc : Thread nD τ) ∗ StableHlo.held d.tc (ucRefs τ sig) W)
        ∗ ((boundary (d.tc : Thread nD τ) ∗ StableHlo.held d.tc (ucRefs τ sig) (op.result W)) -∗ Φ ⟨⟩))
      ⊢ wp frame (wpE ((K (F := F)).defs (D (F := F))) 𝒱 (T d) none) Set.univ (hlo rfl op (fun _ => .ret ⟨⟩)) Φ := by
  iintro ⟨HbH, Hk⟩
  iapply (StableHlo.wp_hlo_within (defs := (K (F := F)).defs (D (F := F))) 𝒱 (d.tc : Thread nD τ) none Set.univ (hp := rfl) (Pipeline.sub_ucRefs op hS) (V := W) hf) $$ HbH
  iintro H
  rw [wp_ret]; imodintro
  iapply Hk $$ H

/-! ## The valuations -/

variable (m : (ℓ : Loc nD τ sig) → Buf (Elt F) ℓ) (ρ : Dev nD → PrngReg)

abbrev op0 : HloOp τ sig (Elt F) := StableHlo.reshape main_arg0 main_v0 (rfl : (.i32 : EltTy) = .i32) shapeCasts_S16384x1_S16384
abbrev op2 : HloOp τ sig (Elt F) := StableHlo.reshape main_arg0 main_v2 (rfl : (.i32 : EltTy) = .i32) shapeCasts_S16384x1_S16384
abbrev op4 : HloOp τ sig (Elt F) := StableHlo.reshape main_arg4 main_v4 (rfl : (.i32 : EltTy) = .i32) shapeCasts_S4_S1x4
abbrev op5 : HloOp τ sig (Elt F) := StableHlo.reshape main_arg6 main_v5 (rfl : (.f32 : EltTy) = .f32) shapeCasts_S16_S1x16
abbrev op6 : HloOp τ sig (Elt F) := StableHlo.reshape main_arg8 main_v6 (rfl : (.f32 : EltTy) = .f32) shapeCasts_S64_S1x64
abbrev op7 : HloOp τ sig (Elt F) := StableHlo.reshape main_arg10 main_v7 (rfl : (.f32 : EltTy) = .f32) shapeCasts_S64_S1x64
abbrev op8 : HloOp τ sig (Elt F) := StableHlo.reshape main_arg12 main_v8 (rfl : (.f32 : EltTy) = .f32) shapeCasts_S1_S1x1
abbrev op9 : HloOp τ sig (Elt F) := StableHlo.reshape main_arg14 main_v9 (rfl : (.f32 : EltTy) = .f32) shapeCasts_S64_S1x64
abbrev op10 : HloOp τ sig (Elt F) := StableHlo.reshape main_arg15 main_v10 (rfl : (.f32 : EltTy) = .f32) shapeCasts_S64_S1x64
abbrev op11 : HloOp τ sig (Elt F) := StableHlo.reshape main_arg16 main_v11 (rfl : (.f32 : EltTy) = .f32) shapeCasts_S64_S1x64

/-- The indices as one row. -/
noncomputable def XM (d : Dev nD) : Vec F S16384 .i32 := shapeCast S16384 (m (d, tc main_arg0) : Vec F S16384x1 .i32) shapeCasts_S16384x1_S16384

noncomputable def W0 (d : Dev nD) : Valuation τ sig (Elt F) := fun b => m (d, b)
noncomputable def W1 (d : Dev nD) : Valuation τ sig (Elt F) := op0.result (W0 m d)
noncomputable def W2 (d : Dev nD) : Valuation τ sig (Elt F) := Function.update (W1 m d) (tc main_v1) (hist (XM m d))
noncomputable def W3 (d : Dev nD) : Valuation τ sig (Elt F) := op2.result (W2 m d)
noncomputable def W4 (d : Dev nD) : Valuation τ sig (Elt F) := Function.update (W3 m d) (tc main_v3) (hist (XM m d))
noncomputable def W5 (d : Dev nD) : Valuation τ sig (Elt F) :=
  op11.result (op10.result (op9.result (op8.result (op7.result (op6.result (op5.result (op4.result (W4 m d))))))))
noncomputable def WF (d : Dev nD) : Valuation τ sig (Elt F) := upd (W5 m) d

theorem W1_v0 (d : Dev nD) : W1 m d (tc main_v0) = XM m d := StableHlo.reshape_result' _ _ _ _ _
theorem W2_ne (d : Dev nD) (b : Ref sig .tc) (h : b ≠ main_v1) : W2 m d (tc b) = W1 m d (tc b) :=
  Function.update_of_ne (fun e => h (Proc.devRef_injective _ e)) _ _
theorem W4_ne (d : Dev nD) (b : Ref sig .tc) (h : b ≠ main_v3) : W4 m d (tc b) = W3 m d (tc b) :=
  Function.update_of_ne (fun e => h (Proc.devRef_injective _ e)) _ _
theorem W3_v2 (d : Dev nD) : W3 m d (tc main_v2) = XM m d := by
  unfold W3
  rw [StableHlo.reshape_result', W2_ne m d _ (by decide)]
  unfold W1
  rw [StableHlo.reshape_result_ne' _ _ _ _ _ (by decide)]
  rfl

/-! ## @main on the TensorCore -/

abbrev FIN (d : Dev nD) : sProp 𝕄 := StableHlo.held d.tc (ucRefs τ sig) (WF m d)

theorem hT0 : ({tc main_v0, tc main_v1} : Finset (DevRef τ sig)) ⊆ ucRefs τ sig := by decide
theorem hT1 : ({tc main_v2, tc main_v3} : Finset (DevRef τ sig)) ⊆ ucRefs τ sig := by decide

theorem call0 (κ : GSem nD τ sig → ℕ) (d : Dev nD) (Φ : PUnit → sProp 𝕄) :
    iprop((K (F := F)).ctx EH (P (XM m)) κ ∗ (K (F := F)).tcSt EH d 0 ∗ StableHlo.held d.tc (ucRefs τ sig) (W1 m d)
        ∗ (((K (F := F)).tcSt EH d 1 ∗ StableHlo.held d.tc (ucRefs τ sig) (W2 m d)) -∗ Φ ⟨⟩))
      ⊢ wp frame (wpE ((K (F := F)).defs (D (F := F))) 𝒱 (T d) none) Set.univ (sc.run d 0) Φ := by
  rw [pair_split d main_v0 main_v1 (by decide) hT0 (W1 m d), W1_v0]
  iintro ⟨#Hctx, Hst, ⟨⟨Hx, Ho⟩, Hr⟩, Hk⟩
  iapply ((K (F := F)).wp_run (D (F := F)) 𝒱 (EH := EH) (P := P (XM m)) κ d 0) $$ [Hst Hx Ho Hr Hk]
  isplitr; · iexact Hctx
  isplitl [Hst]; · iexact Hst
  isplitl [Hx Ho]
  · iapply (st0 (XM m) d _)
    isplitl [Hx]; · iexact Hx
    iexact Ho
  iintro ⟨Hst, Hdn⟩
  ihave Hdn' := (Entails.of_eq (dn0_eq (XM m) d)) $$ Hdn
  icases Hdn' with ⟨Hx, Ho⟩
  iapply Hk
  isplitl [Hst]; · iexact Hst
  have hj := pair_join d main_v0 main_v1 (by decide) hT0 (W1 m d) (hist (XM m d))
  rw [W1_v0] at hj
  unfold W2
  iapply hj
  isplitl [Hx Ho]
  · isplitl [Hx]; · iexact Hx
    iexact Ho
  iexact Hr

theorem call1 (κ : GSem nD τ sig → ℕ) (d : Dev nD) (Φ : PUnit → sProp 𝕄) :
    iprop((K (F := F)).ctx EH (P (XM m)) κ ∗ (K (F := F)).tcSt EH d 1 ∗ StableHlo.held d.tc (ucRefs τ sig) (W3 m d)
        ∗ (((K (F := F)).tcSt EH d 2 ∗ StableHlo.held d.tc (ucRefs τ sig) (W4 m d)) -∗ Φ ⟨⟩))
      ⊢ wp frame (wpE ((K (F := F)).defs (D (F := F))) 𝒱 (T d) none) Set.univ (sc.run d 1) Φ := by
  rw [pair_split d main_v2 main_v3 (by decide) hT1 (W3 m d), W3_v2]
  iintro ⟨#Hctx, Hst, ⟨⟨Hx, Ho⟩, Hr⟩, Hk⟩
  iapply ((K (F := F)).wp_run (D (F := F)) 𝒱 (EH := EH) (P := P (XM m)) κ d 1) $$ [Hst Hx Ho Hr Hk]
  isplitr; · iexact Hctx
  isplitl [Hst]; · iexact Hst
  isplitl [Hx Ho]
  · iapply (st1 (XM m) d _)
    isplitl [Hx]; · iexact Hx
    iexact Ho
  iintro ⟨Hst, Hdn⟩
  ihave Hdn' := (Entails.of_eq (dn1_eq (XM m) d)) $$ Hdn
  icases Hdn' with ⟨Hx, Ho⟩
  iapply Hk
  isplitl [Hst]; · iexact Hst
  have hj := pair_join d main_v2 main_v3 (by decide) hT1 (W3 m d) (hist (XM m d))
  rw [W3_v2] at hj
  unfold W4
  iapply hj
  isplitl [Hx Ho]
  · isplitl [Hx]; · iexact Hx
    iexact Ho
  iexact Hr

theorem region [∀ e, Nonempty (Elt F e)] (κ : GSem nD τ sig → ℕ) (d : Dev nD) (Φ : PUnit → sProp 𝕄) :
    iprop((K (F := F)).ctx EH (P (XM m)) κ ∗ (boundary (d.tc : Thread nD τ) ∗ StableHlo.held d.tc (ucRefs τ sig) (W5 m d)) ∗ idleAt d ∗ G d
        ∗ ((boundary (d.tc : Thread nD τ) ∗ StableHlo.held d.tc (ucRefs τ sig) (WF m d) ∗ idleAt d) -∗ Φ ⟨⟩))
      ⊢ wp frame (wpE ((K (F := F)).defs (D (F := F))) 𝒱 (T d) none) Set.univ (Prog.lift (.customCall (SparseCore.inner (Pipeline.entry 0)) ())) Φ := by
  rw [show (Prog.lift (.customCall (SparseCore.inner (Pipeline.entry 0)) ()) : Prog (TpuEff nD τ sig (Elt F) (SparseCore.Sig (ΛP (F := F)) 2) .tc) PUnit)
    = SparseCore.liftProg (.op (.customCall (Pipeline.entry 0) ()) .ret) from rfl]
  refine BIBase.Entails.trans ?_ ((K (F := F)).wp_liftProg (D (F := F)) 𝒱 (T d) Set.univ none (.op (.customCall (Pipeline.entry 0) ()) .ret) Φ)
  unfold G
  rw [← Pipeline.unscopedBufs_held d (W5 m d), ← Pipeline.unscopedBufs_held d (WF m d)]
  iintro ⟨#Hctx, ⟨Hb, Hh⟩, Hi, ⟨Hg, Ht⟩, Hk⟩
  iapply (Pipeline.RegionSeg.wp (pcfgs (F := F)) adm (pdats (W5 m)) (none : HIx NQ) cellOf_inj EP defs₀ 𝒱₀ (L₂ (F := F)) (lv₂ (F := F)) (seg (W5 m)) d none
    (fun _ h => nomatch h) .ret Φ) $$ [Hb Hh Hi Hg Ht Hk]
  rw [show (seg (W5 m)).post d = iprop(unscopedBufs d (fun b => WF m d (tc b)) ∗ idleAt d) from rfl,
    show (seg (W5 m)).pre d = iprop(unscopedBufs d (fun b => W5 m d (tc b)) ∗ idleAt d) from rfl]
  isplitl [Hk]
  · iintro ⟨Hb, Hh, Hi⟩
    rw [wp_ret]; imodintro
    iapply Hk
    isplitl [Hb]; · iexact Hb
    isplitl [Hh]; · iexact Hh
    iexact Hi
  isplitl [Hb]; · iexact Hb
  isplitl [Hh Hi]
  · isplitl [Hh]; · iexact Hh
    iexact Hi
  isplitr; · iapply ((K (F := F)).ctx_levAts κ) $$ Hctx
  isplitl [Hg]; · iexact Hg
  iexact Ht

theorem hmain [∀ e, Nonempty (Elt F e)] (κ : GSem nD τ sig → ℕ) (d : Dev nD) :
    iprop((K (F := F)).ctx EH (P (XM m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = unscopedBufs d (fun b => W0 m d (tc b)) from rfl,
    Pipeline.unscopedBufs_held d (W0 m d)]
  simp only [main, wp_bind, wp_pure]
  iintro ⟨#Hctx, Hst, ⟨Hb, Hh, Hts, -⟩, HG⟩
  iapply (hlo_step d op0 (StableHlo.reshape_bufs_sub _ _ _ _ _ _) rfl (W0 m d)) $$ [Hb Hh Hst Hts HG]
  isplitl [Hb Hh]; · isplitl [Hb] <;> iassumption
  iintro ⟨Hb, Hh⟩
  iapply (call0 m κ d) $$ [Hb Hh Hst Hts HG]
  isplitr; · iexact Hctx
  isplitl [Hst]; · iexact Hst
  isplitl [Hh]; · iexact Hh
  iintro ⟨Hst, Hh⟩
  iapply (hlo_step d op2 (StableHlo.reshape_bufs_sub _ _ _ _ _ _) rfl (W2 m d)) $$ [Hb Hh Hst Hts HG]
  isplitl [Hb Hh]; · isplitl [Hb] <;> iassumption
  iintro ⟨Hb, Hh⟩
  iapply (call1 m κ d) $$ [Hb Hh Hst Hts HG]
  isplitr; · iexact Hctx
  isplitl [Hst]; · iexact Hst
  isplitl [Hh]; · iexact Hh
  iintro ⟨Hst, Hh⟩
  iapply (hlo_step d op4 (StableHlo.reshape_bufs_sub _ _ _ _ _ _) rfl _) $$ [Hb Hh Hst Hts HG]
  isplitl [Hb Hh]; · isplitl [Hb] <;> iassumption
  iintro ⟨Hb, Hh⟩
  iapply (hlo_step d op5 (StableHlo.reshape_bufs_sub _ _ _ _ _ _) rfl _) $$ [Hb Hh Hst Hts HG]
  isplitl [Hb Hh]; · isplitl [Hb] <;> iassumption
  iintro ⟨Hb, Hh⟩
  iapply (hlo_step d op6 (StableHlo.reshape_bufs_sub _ _ _ _ _ _) rfl _) $$ [Hb Hh Hst Hts HG]
  isplitl [Hb Hh]; · isplitl [Hb] <;> iassumption
  iintro ⟨Hb, Hh⟩
  iapply (hlo_step d op7 (StableHlo.reshape_bufs_sub _ _ _ _ _ _) rfl _) $$ [Hb Hh Hst Hts HG]
  isplitl [Hb Hh]; · isplitl [Hb] <;> iassumption
  iintro ⟨Hb, Hh⟩
  iapply (hlo_step d op8 (StableHlo.reshape_bufs_sub _ _ _ _ _ _) rfl _) $$ [Hb Hh Hst Hts HG]
  isplitl [Hb Hh]; · isplitl [Hb] <;> iassumption
  iintro ⟨Hb, Hh⟩
  iapply (hlo_step d op9 (StableHlo.reshape_bufs_sub _ _ _ _ _ _) rfl _) $$ [Hb Hh Hst Hts HG]
  isplitl [Hb Hh]; · isplitl [Hb] <;> iassumption
  iintro ⟨Hb, Hh⟩
  iapply (hlo_step d op10 (StableHlo.reshape_bufs_sub _ _ _ _ _ _) rfl _) $$ [Hb Hh Hst Hts HG]
  isplitl [Hb Hh]; · isplitl [Hb] <;> iassumption
  iintro ⟨Hb, Hh⟩
  iapply (hlo_step d op11 (StableHlo.reshape_bufs_sub _ _ _ _ _ _) rfl _) $$ [Hb Hh Hst Hts HG]
  isplitl [Hb Hh]; · isplitl [Hb] <;> iassumption
  iintro ⟨Hb, Hh⟩
  unfold SparseCore.Cfg.tcSt
  icases Hst with ⟨⟨%Wt, %hW, HO⟩, Hrest⟩
  iapply (region m κ d) $$ [Hb Hh HO Hrest Hts HG]
  isplitr; · iexact Hctx
  isplitl [Hb Hh]
  · isplitl [Hb]; · iexact Hb
    iexact Hh
  isplitl [HO]
  · iexists Wt
    isplitr; · ipureintro; exact hW
    rw [(K (F := F)).Otc_end d (le_refl 2)]
    iexact HO
  isplitl [HG]; · iexact HG
  iintro ⟨Hb, Hh, ⟨%Wt', %hW', HO⟩⟩
  imodintro
  isplitl [HO Hrest]
  · isplitl [HO]
    · iexists Wt'
      isplitr; · ipureintro; exact hW'
      rw [(K (F := F)).Otc_end d (le_refl 2)]
      iexact HO
    iexact Hrest
  isplitl [Hh]; · iexact Hh
  isplitl [Hb] <;> iassumption

/-! ## The program's run -/

def fq (d : Dev nD) (s' : Phys nD τ sig (Elt F)) : Prop := ∀ b ∈ ucRefs τ sig, s'.mem.mem (d, b) = WF m d b

theorem hfin (d : Dev nD) (s' : Phys nD τ sig (Elt F)) : iprop(FIN m d ∗ SI s') ⊢ (⌜fq m d s'⌝ : sProp 𝕄) := by
  have key : ∀ b ∈ ucRefs τ sig, iprop(FIN m d ∗ SI s') ⊢ (⌜s'.mem.mem (d, b) = WF m d b⌝ : sProp 𝕄) := fun b hb => by
    have he : (FIN m d : sProp 𝕄) ⊢ iprop(((d, b) : Loc nD τ sig) ↦{fullShare} WF m d b) :=
      bigSep_elim (Φ := fun b => (iprop(((d, b) : Loc nD τ sig) ↦{fullShare} WF m d b) : sProp 𝕄)) hb
    iintro ⟨H, HSI⟩
    ihave H := he $$ H
    ihave H := (SI_pointsTo_agree (st := s') (ℓ := (d, b)) (I := Finset.univ) (q := fullShare) (f := WF m d b)) $$ [HSI H]
    · isplitl [HSI] <;> iassumption
    icases H with %ha
    ipureintro; exact funext fun i => ha i (Finset.mem_univ i)
  by_cases h : fq m d s'
  · iintro -; ipureintro; exact h
  · unfold fq at h
    push Not at h
    obtain ⟨b, hb, hne⟩ := h
    refine (key b hb).trans ?_
    iintro %e
    exact absurd e hne

/-- From any memory whose indices all lie in the table: the TensorCore's unscoped buffers end at the last valuation, and every
    semaphore is at rest. -/
def QC : PUnit × MemSt nD τ sig (Elt F) → Prop := fun r => (∀ c : Dev nD, ∀ b ∈ ucRefs τ sig, r.2.mem (c, b) = WF m c b) ∧ r.2.sem = fun _ => 0

theorem run_main [∀ e, Nonempty (Elt F e)] (hX : ∀ d x, (XM m d x).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XM m)) (A := ∅) facts v₀
    (fun q hq => match q with | 0 => nomatch hq | 1 => nomatch hq)
    (fun q _ => match q with | 0 => tileObl0 (XM m) hX facts | 1 => tileObl1 (XM m) hX facts)
    (fun q _ => match q with | 0 => SparseCore.Cfg.VecSplit.of_plain (vecSplit0 (XM m)) | 1 => SparseCore.Cfg.VecSplit.of_plain (vecSplit1 (XM m)))
    m ρ main G (FIN m) (u₀ (F := F)) (sep_elim_left.trans (hu₀ (XM m))) (hmain m ρ) (fq m) (hfin m) (QC m) (fun _ h hz => ⟨h, hz⟩)

end Cert.Proof.Main

end
-- ==== Proof.Spec.lean ====
/-
  The fusion at the ideal reading, row by row, and the laws of extended reals the two programs' forms of it differ by.
-/
module

public import Idealize.ShloMosaic.PureOps.Ideal
public import Idealize.ShloMosaic.Lib.Pointwise
public import Idealize.ShloMosaic.Lib.WordCmp

@[expose] public section

noncomputable section

namespace Cert.Proof.Spec

open Idealize.ShloMosaic

/-! ## One row -/

/-- The channel gate of a segment's pooled row. -/
def cwS (g : Fin 64 → EReal) (w1 : Fin 64 → Fin 16 → EReal) (b1 : Fin 16 → EReal) (w2 : Fin 16 → Fin 64 → EReal) (b2 : Fin 64 → EReal) (d : Fin 64) : EReal :=
  Ideal.logistic (∑ x, max (∑ y, g y * w1 y x + b1 x) 0 * w2 x d + b2 d)

/-- The spatial gate of a gated row. -/
def spS (f : Fin 64 → EReal) (co : Fin 3 → EReal) (s1 : Fin 67 → Fin 64 → EReal) (sb s2 : Fin 64 → EReal) (sc : EReal) : EReal :=
  Ideal.logistic (∑ x, max (∑ y, f y * s1 ⟨y.val, by omega⟩ x + ∑ y, co y * s1 ⟨64 + y.val, by omega⟩ x + sb x) 0 * s2 x + sc)

/-- The fused row before normalization. -/
def yS (hf co : Fin 64 → EReal) (sp : EReal) (fm : Fin 128 → Fin 64 → EReal) (fb : Fin 64 → EReal) (j : Fin 64) : EReal :=
  ∑ x, hf x * fm ⟨x.val, by omega⟩ j + ∑ x, co x * sp * fm ⟨64 + x.val, by omega⟩ j + fb j

/-- The fused row of a feature row, a coordinate row and a channel gate. -/
def rowS (hf : Fin 64 → EReal) (co : Fin 3 → EReal) (cw : Fin 64 → EReal) (s1 : Fin 67 → Fin 64 → EReal) (sb s2 : Fin 64 → EReal) (sc : EReal)
    (fm : Fin 128 → Fin 64 → EReal) (fb : Fin 64 → EReal) (j : Fin 64) : EReal :=
  yS hf (fun d => hf d * cw d) (spS (fun d => hf d * cw d) co s1 sb s2 sc) fm fb j

/-! ## Finite values -/

def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy; exact ⟨a + b, (EReal.coe_add a b).symm⟩

theorem fin_mul {x y : EReal} (hx : Fin' x) (hy : Fin' y) : Fin' (x * y) := by
  obtain ⟨a, rfl⟩ := hx; obtain ⟨b, rfl⟩ := hy; exact ⟨a * b, (EReal.coe_mul a b).symm⟩

theorem fin_sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact fin_add (h a) ih

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A gate is a real number, whatever it gates. -/
theorem fin_logistic (x : EReal) : Fin' (Ideal.logistic x) := by
  unfold Ideal.logistic
  induction x with
  | bot => exact ⟨0, by simp [Ideal.div, EReal.add_top_of_ne_bot (show (1 : EReal) ≠ ⊥ from EReal.coe_ne_bot 1)]⟩
  | top => exact ⟨1, by simp [Ideal.div]⟩
  | coe r =>
    have h : (0 : ℝ) < 1 + Real.exp (-r) := by positivity
    refine ⟨1 * (1 / (1 + Real.exp (-r))), ?_⟩
    rw [← EReal.coe_neg, Ideal.exp_coe, ← EReal.coe_one, ← EReal.coe_add, Ideal.div_coe h.ne', EReal.coe_mul]

theorem fin_rowS {hf : Fin 64 → EReal} (co : Fin 3 → EReal) (cw : Fin 64 → EReal) (s1 : Fin 67 → Fin 64 → EReal) (sb s2 : Fin 64 → EReal) (sc : EReal)
    {fm : Fin 128 → Fin 64 → EReal} {fb : Fin 64 → EReal} (h : ∀ d, Fin' (hf d)) (hc : ∀ d, Fin' (cw d)) (hm : ∀ i j, Fin' (fm i j)) (hb : ∀ j, Fin' (fb j)) (j : Fin 64) :
    Fin' (rowS hf co cw s1 sb s2 sc fm fb j) :=
  fin_add (fin_add (fin_sum _ _ fun x => fin_mul (h x) (hm _ _)) (fin_sum _ _ fun x => fin_mul (fin_mul (fin_mul (h x) (hc x)) (fin_logistic _)) (hm _ _))) (hb j)

/-! ## Sums in blocks -/

theorem sum_blocks (a b : ℕ) (f : ℕ → EReal) : ∑ x ∈ Finset.range a, ∑ n ∈ Finset.range b, f (b * x + n) = ∑ i ∈ Finset.range (b * a), f i := by
  induction a with
  | zero => simp
  | succ a ih => rw [Finset.sum_range_succ, ih, Nat.mul_succ, Finset.sum_range_add]

/-- Counting the indices at each bin, weighting the bins by their rows and adding up is adding up the indexed rows. -/
theorem sum_counts {ι : Type} [Fintype ι] (s : Finset ι) (idx : ι → Fin 4096) (r : Fin 4096 → EReal) :
    ∑ m, (∑ n ∈ s, if idx n = m then (1 : EReal) else 0) * r m = ∑ n ∈ s, r (idx n) := by
  classical
  rw [← Finset.sum_fiberwise (s := s) (g := idx)]
  refine Finset.sum_congr rfl fun m _ => ?_
  rw [Finset.sum_boole, ← EReal.nsmul_eq_mul, ← Finset.sum_const]
  refine Finset.sum_congr rfl fun n hn => ?_
  rw [(Finset.mem_filter.1 hn).2]

theorem sum_counts_one {ι : Type} [Fintype ι] (s : Finset ι) (idx : ι → Fin 4096) :
    ∑ m, (∑ n ∈ s, if idx n = m then (1 : EReal) else 0) = ∑ n ∈ s, 1 := by
  have h := sum_counts s idx fun _ => 1
  simpa using h

/-! ## The segment of a row -/

theorem reach {k r : ℕ} (hk : k < 4) (hr : r < 4096) (o : Fin 4 → BitVec 32) (ho : ∀ x : Fin 4, o x = BitVec.ofNat 32 ((x.val + 1) * 4096)) :
    Finset.fold IntOp.addi (0#32) (fun x => BitVec.setWidth 32 (IntOp.cmpi .sle (o x) (BitVec.ofNat 32 (4096 * k + r)))) Finset.univ = BitVec.ofNat 32 k := by
  have e : (fun x : Fin 4 => BitVec.setWidth 32 (IntOp.cmpi .sle (o x) (BitVec.ofNat 32 (4096 * k + r)))) = fun x => if x.val + 1 ≤ k then 1#32 else 0#32 := by
    funext x
    have hx := x.isLt
    rw [ho, WordCmp.cmpi_sle_ofNat (by norm_num; omega) (by norm_num; omega)]
    by_cases h : x.val + 1 ≤ k
    · rw [if_pos h, decide_eq_true (by omega)]; rfl
    · rw [if_neg h, decide_eq_false (by omega)]; rfl
  rw [e]
  clear e
  interval_cases k <;> rfl

theorem hot {k x : ℕ} (hk : k < 4) (hx : x < 4) :
    (FloatOps.sitofp (F := Ideal) .f32 (BitVec.setWidth 32 (IntOp.cmpi .eq (BitVec.ofNat 32 k) (BitVec.ofNat 32 x))) : EReal) = if k = x then 1 else 0 := by
  show (((BitVec.setWidth 32 (IntOp.cmpi .eq (BitVec.ofNat 32 k) (BitVec.ofNat 32 x))).toInt : ℝ) : EReal) = _
  interval_cases k <;> interval_cases x <;> simp [IntOp.cmpi]

/-! ## Normalization -/

/-- `2⁻¹⁴` and `2¹⁴` as the two programs write them. -/
theorem inv_n : Ideal.ofBits .f32 0x38800000#32 = (((1 : ℝ) / 16384 : ℝ) : EReal) := by
  simp [Ideal.ofBits, Ideal.ieee, -EReal.coe_mul]; norm_num

theorem n_val : Ideal.ofBits .f32 0x46800000#32 = ((16384 : ℝ) : EReal) := by
  simp [Ideal.ofBits, Ideal.ieee, -EReal.coe_mul]; norm_num

theorem eps_val : ∃ e : ℝ, 0 < e ∧ Ideal.ofBits .f32 0x3727C5AC#32 = (e : EReal) := by
  refine ⟨_, ?_, by simp [Ideal.ofBits, Ideal.ieee, -EReal.coe_mul]; rfl⟩
  positivity

/-- The mean of the squares less the square of the mean is the mean squared distance from the mean. -/
theorem var_eq {ι : Type} (s : Finset ι) (z : ι → ℝ) (N : ℝ) (hN : N ≠ 0) (hs : (s.card : ℝ) = N) :
    (∑ i ∈ s, z i * z i) * (1 / N) - (∑ i ∈ s, z i) * (1 / N) * ((∑ i ∈ s, z i) * (1 / N))
      = (∑ i ∈ s, (z i - (∑ i ∈ s, z i) * (1 / N)) * (z i - (∑ i ∈ s, z i) * (1 / N))) * (1 / N) := by
  have e : ∀ i ∈ s, (z i - (∑ i ∈ s, z i) * (1 / N)) * (z i - (∑ i ∈ s, z i) * (1 / N))
      = z i * z i - 2 * ((∑ i ∈ s, z i) * (1 / N)) * z i + (∑ i ∈ s, z i) * (1 / N) * ((∑ i ∈ s, z i) * (1 / N)) := fun i _ => by ring
  rw [Finset.sum_congr rfl e, Finset.sum_add_distrib, Finset.sum_sub_distrib, ← Finset.mul_sum, Finset.sum_const, nsmul_eq_mul, hs]
  field_simp
  ring

/-- One column normalized from its sum and its sum of squares, as the kernel does it. -/
def bnK (a S0 S1 g b : EReal) : EReal :=
  max ((a - S0 * Ideal.ofBits .f32 0x38800000#32) * Ideal.rsqrt (S1 * Ideal.ofBits .f32 0x38800000#32
    - S0 * Ideal.ofBits .f32 0x38800000#32 * (S0 * Ideal.ofBits .f32 0x38800000#32) + Ideal.ofBits .f32 0x3727C5AC#32) * g + b) 0

/-- One column normalized from its mean and its variance, as the reference does it. -/
def bnR (y : Fin 16384 → EReal) (a g b : EReal) : EReal :=
  max (Ideal.div (a - Ideal.div (∑ x, y x) (Ideal.ofBits .f32 0x46800000#32))
    (Ideal.sqrt ((if 0 < Ideal.ofBits .f32 0x46800000#32 - FloatOps.sitofp (F := Ideal) .f32 0#32 then
        Ideal.div (∑ x, (y x - Ideal.div (∑ x, y x) (Ideal.ofBits .f32 0x46800000#32)) * (y x - Ideal.div (∑ x, y x) (Ideal.ofBits .f32 0x46800000#32)))
          (Ideal.ofBits .f32 0x46800000#32 - FloatOps.sitofp (F := Ideal) .f32 0#32)
      else Ideal.ofBits .f32 0x7FC00000#32) + Ideal.ofBits .f32 0x3727C5AC#32)) * g + b) 0

theorem bn_eq (y : Fin 16384 → EReal) (h : ∀ n, Fin' (y n)) (a : Fin 16384) (g b : EReal) :
    bnK (y a) (∑ x, y x) (∑ x, y x * y x) g b = bnR y (y a) g b := by
  choose z hz using h
  obtain rfl : y = fun n => (z n : EReal) := funext hz
  obtain ⟨e, he, hev⟩ := eps_val
  have h0 : (FloatOps.sitofp (F := Ideal) .f32 (0#32) : EReal) = 0 := by
    show (((0#32 : BitVec 32).toInt : ℝ) : EReal) = 0
    simp
  have hN : (0 : EReal) < ((16384 : ℝ) : EReal) := by exact_mod_cast (by norm_num : (0 : ℝ) < 16384)
  have hne : (16384 : ℝ) ≠ 0 := by norm_num
  unfold bnK bnR
  rw [inv_n, n_val, hev, h0, sub_zero, if_pos hN]
  simp only [Ideal.div_coe hne, ← EReal.coe_mul, ← EReal.coe_sub, coe_sum]
  rw [var_eq Finset.univ z 16384 hne (by simp), ← EReal.coe_add]
  set v := (∑ i, (z i - (∑ i, z i) * (1 / 16384)) * (z i - (∑ i, z i) * (1 / 16384))) * (1 / 16384) with hv
  have hvn : 0 ≤ v := mul_nonneg (Finset.sum_nonneg fun i _ => mul_self_nonneg _) (by norm_num)
  have hp : 0 < v + e := by linarith
  have hs : Real.sqrt (v + e) ≠ 0 := (Real.sqrt_pos.2 hp).ne'
  rw [Ideal.rsqrt_coe, if_neg (not_lt.2 hp.le), if_neg hp.ne', Ideal.sqrt_coe, if_neg (not_lt.2 hp.le), Ideal.div_coe hs, one_div (Real.sqrt (v + e))]

end Cert.Proof.Spec

end
-- ==== Proof.Pay.lean ====
/-
  The fusion body's payloads at the ideal reading, element by element.
-/
module

public import proofs.«01_k».proof.Proof.Fuse
public import proofs.«01_k».proof.Proof.Spec

@[expose] public section

noncomputable section

namespace Cert.Proof.Pay

open Cert.KernelIdeal Cert.KernelIdeal.Gen
open Cert.Proof.Fuse Cert.Proof.Spec
open Idealize.ShloMosaic

theorem word {k n : ℕ} (hk : k < 4) (hn : n < 4096) : IntOp.addi (Scalar.muli (BitVec.ofNat 32 k) 4096#32) (BitVec.ofNat 32 n) = BitVec.ofNat 32 (4096 * k + n) := by
  show BitVec.ofNat 32 k * 4096#32 + BitVec.ofNat 32 n = _
  apply BitVec.eq_of_toNat_eq
  simp only [BitVec.toNat_add, BitVec.toNat_mul, BitVec.toNat_ofNat]
  omega

theorem pay9_apply {k : ℕ} (hk : k < 4) (C : Vec Ideal S4x64 .f32) (off : Vec Ideal S1x4 .i32) (hf : Vec Ideal S4096x64 .f32)
    (ho : ∀ x : Fin 4, off (ix2 0 x) = BitVec.ofNat 32 ((x.val + 1) * 4096)) (n : Fin 4096) (d : Fin 64) :
    k2_pay9 (F := Ideal) (BitVec.ofNat 32 k) C off hf (ix2 n d) = hf (ix2 n d) * C (ix2 (⟨k, hk⟩ : Fin 4) d) := by
  unfold k2_pay9
  pointwise
  rw [word hk n.isLt]
  have e := reach hk n.isLt (fun x => off (ix2 0 x)) ho
  simp only [show ∀ a b : BitVec 32, IntOp.cmpi .sge a b = IntOp.cmpi .sle b a from fun _ _ => rfl]
  rw [e]
  refine congrArg _ ?_
  rw [Finset.sum_eq_single (⟨k, hk⟩ : Fin 4)]
  · rw [hot hk hk, if_pos rfl, one_mul]
  · intro x _ hx
    rw [hot hk x.isLt, if_neg fun h => hx (Fin.ext h.symm), zero_mul]
  · intro h; exact absurd (Finset.mem_univ _) h

/-- One row of the tile of point `k`. -/
theorem tile_apply {k : ℕ} (hk : k < 4) (C : Vec Ideal S4x64 .f32) (B : Ops Ideal) (ho : ∀ x : Fin 4, B.off (ix2 0 x) = BitVec.ofNat 32 ((x.val + 1) * 4096))
    (n : Fin 4096) (j : Fin 64) : tile (F := Ideal) (BitVec.ofNat 32 k) C B (ix2 n j) =
      rowS (fun d => B.hf (ix2 n d)) (fun q => B.hco (ix2 n q)) (fun d => C (ix2 (⟨k, hk⟩ : Fin 4) d)) (fun a b => B.saw1 (ix2 a b)) (fun e => B.sab1 (ix2 0 e))
        (fun e => B.saw2 (ix2 e 0)) (B.sab2 (ix2 0 0)) (fun a b => B.fmw (ix2 a b)) (fun b => B.fmb (ix2 0 b)) j := by
  unfold tile k2_pay12 k2_pay11 k2_pay10
  pointwise
  simp only [pay9_apply hk C B.off B.hf ho]
  rfl

theorem add0_apply (a : BitVec 32) (C : Vec Ideal S4x64 .f32) (B : Ops Ideal) (r : Vec Ideal S1x64 .f32) (j : Fin 64) :
    add0 (F := Ideal) a C B r (ix2 0 j) = r (ix2 0 j) + ∑ n : Fin 4096, tile (F := Ideal) a C B (ix2 n j) := by
  unfold add0 tile k2_pay13 k2_pay12
  pointwise

theorem add1_apply (a : BitVec 32) (C : Vec Ideal S4x64 .f32) (B : Ops Ideal) (r : Vec Ideal S1x64 .f32) (j : Fin 64) :
    add1 (F := Ideal) a C B r (ix2 0 j) = r (ix2 0 j) + ∑ n : Fin 4096, tile (F := Ideal) a C B (ix2 n j) * tile (F := Ideal) a C B (ix2 n j) := by
  unfold add1 tile k2_pay1 k2_pay14 k2_pay12
  pointwise

theorem pay8_apply (i : S8x64.Idx) : k2_pay8 (F := Ideal) i = 0 := by
  unfold k2_pay8
  pointwise

/-- A result element of a tile's element, the columns' sums and the squares' sums. -/
theorem pay5_apply (y : Vec Ideal S4096x64 .f32) (s0 s1 g b : Vec Ideal S1x64 .f32) (n : Fin 4096) (j : Fin 64) :
    k2_pay5 (F := Ideal) y (k2_pay3 s0) (k2_pay4 s0 s1) g b (ix2 n j) = bnK (y (ix2 n j)) (s0 (ix2 0 j)) (s1 (ix2 0 j)) (g (ix2 0 j)) (b (ix2 0 j)) := by
  unfold k2_pay5 k2_pay3 k2_pay4 k2_pay2 bnK
  pointwise

/-- A segment's count at a bin. -/
def phS (h : Vec Ideal S32x4096 .f32) (k : Fin 4) (m : Fin 4096) : EReal := ∑ x : Fin 8, h (ix2 (⟨8 * k.val + x.val, by omega⟩ : Fin 32) m)

theorem cwOf_apply (B : Ops Ideal) (k : Fin 4) (d : Fin 64) : cwOf (F := Ideal) B (ix2 k d) =
    cwS (fun y => Ideal.div (∑ m, phS B.ph k m * B.lr (ix2 m y)) (max (∑ m, phS B.ph k m) 1)) (fun a b => B.caw1 (ix2 a b)) (fun e => B.cab1 (ix2 0 e))
      (fun a b => B.caw2 (ix2 a b)) (fun e => B.cab2 (ix2 0 e)) d := by
  unfold cwOf k2_pay7 k2_pay6
  pointwise
  unfold cwS phS
  match k with
  | 0 => simp
  | 1 => simp
  | 2 => simp
  | 3 => simp

end Cert.Proof.Pay

end
-- ==== Proof.Blk.lean ====
/-
  The fusion call's blocks off the arrays it is passed, and its result off the blocks written back.
-/
module

public import proofs.«01_k».proof.Proof.Region
public import proofs.«01_k».proof.Proof.Pay
public import Idealize.ShloMosaic.Lib.Pipeline.ValueKit.Geometry

@[expose] public section

noncomputable section

namespace Cert.Proof.Blk

open Cert.KernelIdeal Cert.KernelIdeal.Gen
open Cert.Proof.Loops Cert.Proof.Step Cert.Proof.Fuse Cert.Proof.Vals Cert.Proof.Region
open Idealize.ShloMosaic
open Idealize.ShloMosaic.Pipeline (Dat Cfg Window)

variable {F : FTy → Type} [FloatOps F]
variable (V : (ℓ : Loc nD τ sig) → Buf (Elt F) ℓ) (c : Dev nD)

theorem at0 (t : Fin cfg2.N) : win2_0.index t 0 = 0 ∧ win2_0.index t 1 = 0 := by
  rcases fin_N2 t with rfl | rfl | rfl | rfl | rfl | rfl | rfl | rfl <;> decide +kernel

theorem blk0_eq (t : Fin cfg2.N) : blk0 V c t = V ((c.tc : Thread nD τ).loc main_v3) := by
  funext x
  unfold blk0
  have e := at0 t
  blk_simp
  refine congrArg (V _) (funext fun a => Fin.ext ?_)
  match a with
  | ⟨0, _⟩ => blk_simp; simp [e.1]
  | ⟨1, _⟩ => blk_simp; simp [e.2]

theorem at1 (t : Fin cfg2.N) : win2_1.index t 0 = 0 ∧ win2_1.index t 1 = 0 := by
  rcases fin_N2 t with rfl | rfl | rfl | rfl | rfl | rfl | rfl | rfl <;> decide +kernel

theorem blk1_eq (t : Fin cfg2.N) : blk1 V c t = V ((c.tc : Thread nD τ).loc main_arg3) := by
  funext x
  unfold blk1
  have e := at1 t
  blk_simp
  refine congrArg (V _) (funext fun a => Fin.ext ?_)
  match a with
  | ⟨0, _⟩ => blk_simp; simp [e.1]
  | ⟨1, _⟩ => blk_simp; simp [e.2]

theorem at4 (t : Fin cfg2.N) : win2_4.index t 0 = 0 ∧ win2_4.index t 1 = 0 := by
  rcases fin_N2 t with rfl | rfl | rfl | rfl | rfl | rfl | rfl | rfl <;> decide +kernel

theorem blk4_eq (t : Fin cfg2.N) : blk4 V c t = V ((c.tc : Thread nD τ).loc main_v4) := by
  funext x
  unfold blk4
  have e := at4 t
  blk_simp
  refine congrArg (V _) (funext fun a => Fin.ext ?_)
  match a with
  | ⟨0, _⟩ => blk_simp; simp [e.1]
  | ⟨1, _⟩ => blk_simp; simp [e.2]

theorem at5 (t : Fin cfg2.N) : win2_5.index t 0 = 0 ∧ win2_5.index t 1 = 0 := by
  rcases fin_N2 t with rfl | rfl | rfl | rfl | rfl | rfl | rfl | rfl <;> decide +kernel

theorem blk5_eq (t : Fin cfg2.N) : blk5 V c t = V ((c.tc : Thread nD τ).loc main_arg5) := by
  funext x
  unfold blk5
  have e := at5 t
  blk_simp
  refine congrArg (V _) (funext fun a => Fin.ext ?_)
  match a with
  | ⟨0, _⟩ => blk_simp; simp [e.1]
  | ⟨1, _⟩ => blk_simp; simp [e.2]

theorem at6 (t : Fin cfg2.N) : win2_6.index t 0 = 0 ∧ win2_6.index t 1 = 0 := by
  rcases fin_N2 t with rfl | rfl | rfl | rfl | rfl | rfl | rfl | rfl <;> decide +kernel

theorem blk6_eq (t : Fin cfg2.N) : blk6 V c t = V ((c.tc : Thread nD τ).loc main_v5) := by
  funext x
  unfold blk6
  have e := at6 t
  blk_simp
  refine congrArg (V _) (funext fun a => Fin.ext ?_)
  match a with
  | ⟨0, _⟩ => blk_simp; simp [e.1]
  | ⟨1, _⟩ => blk_simp; simp [e.2]

theorem at7 (t : Fin cfg2.N) : win2_7.index t 0 = 0 ∧ win2_7.index t 1 = 0 := by
  rcases fin_N2 t with rfl | rfl | rfl | rfl | rfl | rfl | rfl | rfl <;> decide +kernel

theorem blk7_eq (t : Fin cfg2.N) : blk7 V c t = V ((c.tc : Thread nD τ).loc main_arg7) := by
  funext x
  unfold blk7
  have e := at7 t
  blk_simp
  refine congrArg (V _) (funext fun a => Fin.ext ?_)
  match a with
  | ⟨0, _⟩ => blk_simp; simp [e.1]
  | ⟨1, _⟩ => blk_simp; simp [e.2]

theorem at8 (t : Fin cfg2.N) : win2_8.index t 0 = 0 ∧ win2_8.index t 1 = 0 := by
  rcases fin_N2 t with rfl | rfl | rfl | rfl | rfl | rfl | rfl | rfl <;> decide +kernel

theorem blk8_eq (t : Fin cfg2.N) : blk8 V c t = V ((c.tc : Thread nD τ).loc main_v6) := by
  funext x
  unfold blk8
  have e := at8 t
  blk_simp
  refine congrArg (V _) (funext fun a => Fin.ext ?_)
  match a with
  | ⟨0, _⟩ => blk_simp; simp [e.1]
  | ⟨1, _⟩ => blk_simp; simp [e.2]

theorem at9 (t : Fin cfg2.N) : win2_9.index t 0 = 0 ∧ win2_9.index t 1 = 0 := by
  rcases fin_N2 t with rfl | rfl | rfl | rfl | rfl | rfl | rfl | rfl <;> decide +kernel

theorem blk9_eq (t : Fin cfg2.N) : blk9 V c t = V ((c.tc : Thread nD τ).loc main_arg9) := by
  funext x
  unfold blk9
  have e := at9 t
  blk_simp
  refine congrArg (V _) (funext fun a => Fin.ext ?_)
  match a with
  | ⟨0, _⟩ => blk_simp; simp [e.1]
  | ⟨1, _⟩ => blk_simp; simp [e.2]

theorem at10 (t : Fin cfg2.N) : win2_10.index t 0 = 0 ∧ win2_10.index t 1 = 0 := by
  rcases fin_N2 t with rfl | rfl | rfl | rfl | rfl | rfl | rfl | rfl <;> decide +kernel

theorem blk10_eq (t : Fin cfg2.N) : blk10 V c t = V ((c.tc : Thread nD τ).loc main_v7) := by
  funext x
  unfold blk10
  have e := at10 t
  blk_simp
  refine congrArg (V _) (funext fun a => Fin.ext ?_)
  match a with
  | ⟨0, _⟩ => blk_simp; simp [e.1]
  | ⟨1, _⟩ => blk_simp; simp [e.2]

theorem at11 (t : Fin cfg2.N) : win2_11.index t 0 = 0 ∧ win2_11.index t 1 = 0 := by
  rcases fin_N2 t with rfl | rfl | rfl | rfl | rfl | rfl | rfl | rfl <;> decide +kernel

theorem blk11_eq (t : Fin cfg2.N) : blk11 V c t = V ((c.tc : Thread nD τ).loc main_arg11) := by
  funext x
  unfold blk11
  have e := at11 t
  blk_simp
  refine congrArg (V _) (funext fun a => Fin.ext ?_)
  match a with
  | ⟨0, _⟩ => blk_simp; simp [e.1]
  | ⟨1, _⟩ => blk_simp; simp [e.2]

theorem at12 (t : Fin cfg2.N) : win2_12.index t 0 = 0 ∧ win2_12.index t 1 = 0 := by
  rcases fin_N2 t with rfl | rfl | rfl | rfl | rfl | rfl | rfl | rfl <;> decide +kernel

theorem blk12_eq (t : Fin cfg2.N) : blk12 V c t = V ((c.tc : Thread nD τ).loc main_v8) := by
  funext x
  unfold blk12
  have e := at12 t
  blk_simp
  refine congrArg (V _) (funext fun a => Fin.ext ?_)
  match a with
  | ⟨0, _⟩ => blk_simp; simp [e.1]
  | ⟨1, _⟩ => blk_simp; simp [e.2]

theorem at13 (t : Fin cfg2.N) : win2_13.index t 0 = 0 ∧ win2_13.index t 1 = 0 := by
  rcases fin_N2 t with rfl | rfl | rfl | rfl | rfl | rfl | rfl | rfl <;> decide +kernel

theorem blk13_eq (t : Fin cfg2.N) : blk13 V c t = V ((c.tc : Thread nD τ).loc main_arg13) := by
  funext x
  unfold blk13
  have e := at13 t
  blk_simp
  refine congrArg (V _) (funext fun a => Fin.ext ?_)
  match a with
  | ⟨0, _⟩ => blk_simp; simp [e.1]
  | ⟨1, _⟩ => blk_simp; simp [e.2]

theorem at14 (t : Fin cfg2.N) : win2_14.index t 0 = 0 ∧ win2_14.index t 1 = 0 := by
  rcases fin_N2 t with rfl | rfl | rfl | rfl | rfl | rfl | rfl | rfl <;> decide +kernel

theorem blk14_eq (t : Fin cfg2.N) : blk14 V c t = V ((c.tc : Thread nD τ).loc main_v9) := by
  funext x
  unfold blk14
  have e := at14 t
  blk_simp
  refine congrArg (V _) (funext fun a => Fin.ext ?_)
  match a with
  | ⟨0, _⟩ => blk_simp; simp [e.1]
  | ⟨1, _⟩ => blk_simp; simp [e.2]

theorem at15 (t : Fin cfg2.N) : win2_15.index t 0 = 0 ∧ win2_15.index t 1 = 0 := by
  rcases fin_N2 t with rfl | rfl | rfl | rfl | rfl | rfl | rfl | rfl <;> decide +kernel

theorem blk15_eq (t : Fin cfg2.N) : blk15 V c t = V ((c.tc : Thread nD τ).loc main_v10) := by
  funext x
  unfold blk15
  have e := at15 t
  blk_simp
  refine congrArg (V _) (funext fun a => Fin.ext ?_)
  match a with
  | ⟨0, _⟩ => blk_simp; simp [e.1]
  | ⟨1, _⟩ => blk_simp; simp [e.2]

theorem at16 (t : Fin cfg2.N) : win2_16.index t 0 = 0 ∧ win2_16.index t 1 = 0 := by
  rcases fin_N2 t with rfl | rfl | rfl | rfl | rfl | rfl | rfl | rfl <;> decide +kernel

theorem blk16_eq (t : Fin cfg2.N) : blk16 V c t = V ((c.tc : Thread nD τ).loc main_v11) := by
  funext x
  unfold blk16
  have e := at16 t
  blk_simp
  refine congrArg (V _) (funext fun a => Fin.ext ?_)
  match a with
  | ⟨0, _⟩ => blk_simp; simp [e.1]
  | ⟨1, _⟩ => blk_simp; simp [e.2]

theorem at2 (t : Fin cfg2.N) (ht : t.val < 4) : win2_2.index t 0 = t.val ∧ win2_2.index t 1 = 0 := by
  rcases fin_N2 t with rfl | rfl | rfl | rfl | rfl | rfl | rfl | rfl <;> revert ht <;> decide +kernel

theorem blk2_eq (t : Fin cfg2.N) (ht : t.val < 4) (n : Fin 4096) (d : Fin 64) :
    blk2 V c t (ix2 n d) = V ((c.tc : Thread nD τ).loc main_arg1) (ix2 ⟨4096 * t.val + n.val, by omega⟩ d) := by
  unfold blk2
  have e := at2 t ht
  blk_simp
  refine congrArg (V _) (funext fun a => Fin.ext ?_)
  match a with
  | ⟨0, _⟩ => blk_simp; rw [e.1]; show _ = 4096 * t.val + n.val; omega
  | ⟨1, _⟩ => blk_simp; simp [e.2]

theorem at3 (t : Fin cfg2.N) (ht : t.val < 4) : win2_3.index t 0 = t.val ∧ win2_3.index t 1 = 0 := by
  rcases fin_N2 t with rfl | rfl | rfl | rfl | rfl | rfl | rfl | rfl <;> revert ht <;> decide +kernel

theorem blk3_eq (t : Fin cfg2.N) (ht : t.val < 4) (n : Fin 4096) (d : Fin 3) :
    blk3 V c t (ix2 n d) = V ((c.tc : Thread nD τ).loc main_arg2) (ix2 ⟨4096 * t.val + n.val, by omega⟩ d) := by
  unfold blk3
  have e := at3 t ht
  blk_simp
  refine congrArg (V _) (funext fun a => Fin.ext ?_)
  match a with
  | ⟨0, _⟩ => blk_simp; rw [e.1]; show _ = 4096 * t.val + n.val; omega
  | ⟨1, _⟩ => blk_simp; simp [e.2]

theorem at17 (t : Fin cfg2.N) (hf : (cfg2.win 17).flush t = true) : 4 ≤ t.val ∧ win2_17.index t 0 = t.val - 4 ∧ win2_17.index t 1 = 0 := by
  rcases fin_N2 t with rfl | rfl | rfl | rfl | rfl | rfl | rfl | rfl <;> revert hf <;> decide +kernel

theorem out_eq (G : Vec F S16384x64 .f32)
    (hG : ∀ (t : Fin cfg2.N) (ht : 4 ≤ t.val) (n : Fin 4096) (d : Fin 64), res V c t (ix2 n d) = G (ix2 ⟨4096 * (t.val - 4) + n.val, by have := n.isLt; have : t.val < grid2.N := t.isLt; rw [N_2] at this; omega⟩ d)) :
    (dats V 0 c).arrAt (17 : Fin 18) cfg2.N = G := by
  refine (dats V 0 c).arrAt_eq_of_covers (17 : Fin 18) G (by decide +kernel) fun t hf y => ?_
  have e := at17 t hf
  blk_simp
  show res V c t y = _
  have hy : ∀ y : S4096x64.Idx, res V c t y = res V c t (ix2 (y 0) (y 1)) := fun y => congrArg _ (eq_ix2 y)
  refine (hy y).trans ((hG t e.1 (y 0) (y 1)).trans ?_)
  refine congrArg G (funext fun a => Fin.ext ?_)
  match a with
  | ⟨0, _⟩ => blk_simp; show 4096 * (t.val - 4) + (y (0 : Fin 2)).val = win2_17.index t 0 * 4096 + (y (0 : Fin 2)).val; have := e.2.1; omega
  | ⟨1, _⟩ => blk_simp; simp [e.2.2]

end Cert.Proof.Blk

end
-- ==== Proof.Ref.lean ====
/-
  The reference's composed term, stage by stage.
-/
module

public import proofs.«01_k».proof.Proof.Gen.ReferenceIdeal.Run

@[expose] public section

noncomputable section

namespace Cert.Proof.Ref

open Cert.ReferenceIdeal Cert.ReferenceIdeal.Gen
open Idealize.ShloMosaic

variable {F : FTy → Type} [FloatOps F]

def idxR (X : IVec S16384x1 32) : IVec S16384 32 := shapeCast S16384 X shapeCasts_S16384x1_S16384

/-- The indices, a negative one counted from the end. -/
def rowR (X : IVec S16384x1 32) : IVec S16384x1 32 :=
  broadcastInDim S16384x1 ![0] bcast_S16384_S16384x1_0 (select (cmpi .slt (idxR X) (broadcastInDim S16384 ![] bcast_S_S16384 (constantI S_ 32 0#32)))
    (addi (idxR X) (broadcastInDim S16384 ![] bcast_S_S16384 (constantI S_ 32 4096#32))) (idxR X))

def lowR (lr : FVec F S4096x64 .f32) (X : IVec S16384x1 32) : FVec F S16384x64 .f32 :=
  Host.gather gather_S4096x64_S16384x1_S16384x64_1_0_n_n_0_1_164 lr (rowR X)

/-- How many offsets each row's number reaches. -/
def bidR (off : IVec S4 32) : IVec S16384 32 :=
  Host.reduce IntOp.addi (extui 32 (cmpi .sle (broadcastInDim S16384x4 ![0, 1] bcast_S1x4_S16384x4_0_1 (broadcastInDim S1x4 ![1] bcast_S4_S1x4_1 off))
    (broadcastInDim S16384x4 ![0, 1] bcast_S16384x1_S16384x4_0_1 (broadcastInDim S16384x1 ![0] bcast_S16384_S16384x1_0 (iotaInDim S16384 32 0)))) natLt_1_32)
    (constantI S_ 32 0#32) reducesTo_S16384x4_S16384_d1 h_S_

def sumR (lr : FVec F S4096x64 .f32) (X : IVec S16384x1 32) (b : IVec S16384 32) : FVec F S4x64 .f32 :=
  Host.scatterAdd scatter_S4x64_S16384x1_S16384x64_1_0_0_1 (broadcastInDim S4x64 ![] bcast_S_S4x64 (constant S_ .f32 0x00000000#32))
    (broadcastInDim S16384x1 ![0] bcast_S16384_S16384x1_0 b) (lowR lr X)

def cntR (b : IVec S16384 32) : FVec F S4 .f32 :=
  Host.scatterAdd scatter_S4_S16384x1_S16384_n_0_0_1 (broadcastInDim S4 ![] bcast_S_S4 (constant S_ .f32 0x00000000#32))
    (broadcastInDim S16384x1 ![0] bcast_S16384_S16384x1_0 b) (broadcastInDim S16384 ![] bcast_S_S16384 (constant S_ .f32 0x3F800000#32))

def gR (s : FVec F S4x64 .f32) (n : FVec F S4 .f32) : FVec F S4x64 .f32 :=
  Host.divf s (broadcastInDim S4x64 ![0, 1] bcast_S4x1_S4x64_0_1 (broadcastInDim S4x1 ![0] bcast_S4_S4x1_0
    (maximumf n (broadcastInDim S4 ![] bcast_S_S4 (constant S_ .f32 0x3F800000#32)))))

def cwR (g : FVec F S4x64 .f32) (w1 : FVec F S64x16 .f32) (b1 : FVec F S16 .f32) (w2 : FVec F S16x64 .f32) (b2 : FVec F S64 .f32) : FVec F S4x64 .f32 :=
  Host.divf (broadcastInDim S4x64 ![] bcast_S_S4x64 (constant S_ .f32 0x3F800000#32))
    (addf (broadcastInDim S4x64 ![] bcast_S_S4x64 (constant S_ .f32 0x3F800000#32)) (Host.exp (Host.negf (addf
      (Host.dotGeneral dot_S4x16_S16x64_S4x64_1_0_0_1_n_n none (maximumf (addf (Host.dotGeneral dot_S4x64_S64x16_S4x16_1_0_0_1_n_n none g w1)
        (broadcastInDim S4x16 ![0, 1] bcast_S1x16_S4x16_0_1 (broadcastInDim S1x16 ![1] bcast_S16_S1x16_1 b1)))
        (broadcastInDim S4x16 ![] bcast_S_S4x16 (constant S_ .f32 0x00000000#32))) w2)
      (broadcastInDim S4x64 ![0, 1] bcast_S1x64_S4x64_0_1 (broadcastInDim S1x64 ![1] bcast_S64_S1x64_1 b2))))))

def fR (hf : FVec F S16384x64 .f32) (cw : FVec F S4x64 .f32) (b : IVec S16384 32) : FVec F S16384x64 .f32 :=
  mulf hf (Host.gather gather_S4x64_S16384x1_S16384x64_1_0_n_n_0_1_164 cw (broadcastInDim S16384x1 ![0] bcast_S16384_S16384x1_0
    (select (cmpi .slt b (broadcastInDim S16384 ![] bcast_S_S16384 (constantI S_ 32 0#32)))
      (addi b (broadcastInDim S16384 ![] bcast_S_S16384 (constantI S_ 32 4#32))) b)))

def spR (f : FVec F S16384x64 .f32) (co : FVec F S16384x3 .f32) (s1 : FVec F S67x64 .f32) (sb : FVec F S64 .f32) (s2 : FVec F S64x1 .f32) (sc : FVec F S1 .f32) :
    FVec F S16384x1 .f32 :=
  Host.divf (broadcastInDim S16384x1 ![] bcast_S_S16384x1 (constant S_ .f32 0x3F800000#32))
    (addf (broadcastInDim S16384x1 ![] bcast_S_S16384x1 (constant S_ .f32 0x3F800000#32)) (Host.exp (Host.negf (addf
      (Host.dotGeneral dot_S16384x64_S64x1_S16384x1_1_0_0_1_n_n none (maximumf (addf (Host.dotGeneral dot_S16384x67_S67x64_S16384x64_1_0_0_1_n_n none
          (concatenate S16384x67 1 [⟨S16384x64, f⟩, ⟨S16384x3, co⟩] concatenates_S16384x64_S16384x3_S16384x67_d1) s1)
        (broadcastInDim S16384x64 ![0, 1] bcast_S1x64_S16384x64_0_1 (broadcastInDim S1x64 ![1] bcast_S64_S1x64_1 sb)))
        (broadcastInDim S16384x64 ![] bcast_S_S16384x64 (constant S_ .f32 0x00000000#32))) s2)
      (broadcastInDim S16384x1 ![0, 1] bcast_S1x1_S16384x1_0_1 (broadcastInDim S1x1 ![1] bcast_S1_S1x1_1 sc))))))

def yR (hf f : FVec F S16384x64 .f32) (sp : FVec F S16384x1 .f32) (fm : FVec F S128x64 .f32) (fb : FVec F S64 .f32) : FVec F S16384x64 .f32 :=
  addf (Host.dotGeneral dot_S16384x128_S128x64_S16384x64_1_0_0_1_n_n none
      (concatenate S16384x128 1 [⟨S16384x64, hf⟩, ⟨S16384x64, mulf f (broadcastInDim S16384x64 ![0, 1] bcast_S16384x1_S16384x64_0_1 sp)⟩]
        concatenates_S16384x64_S16384x64_S16384x128_d1) fm)
    (broadcastInDim S16384x64 ![0, 1] bcast_S1x64_S16384x64_0_1 (broadcastInDim S1x64 ![1] bcast_S64_S1x64_1 fb))

def meanR (y : FVec F S16384x64 .f32) : FVec F S64 .f32 :=
  Host.divf (Host.reduceAdd y (constant S_ .f32 0x00000000#32) reducesTo_S16384x64_S64_d0 h_S_) (broadcastInDim S64 ![] bcast_S_S64 (constant S_ .f32 0x46800000#32))

/-- A row's distance from the mean, in the variance. -/
def devR (y : FVec F S16384x64 .f32) : FVec F S16384x64 .f32 :=
  subf y (broadcastInDim S16384x64 ![0, 1] bcast_S1x64_S16384x64_0_1 (Host.divf (broadcastInDim S1x64 ![1] bcast_S64_S1x64_1
    (Host.reduceAdd y (constant S_ .f32 0x00000000#32) reducesTo_S16384x64_S64_d0 h_S_)) (broadcastInDim S1x64 ![] bcast_S_S1x64 (constant S_ .f32 0x46800000#32))))

def dofR : FVec F S_ .f32 := subf (constant S_ .f32 0x46800000#32) (sitofp .f32 (constantI S_ 32 0#32))

def varR (y : FVec F S16384x64 .f32) : FVec F S64 .f32 :=
  select (broadcastInDim S64 ![] bcast_S_S64 (cmpf .ogt (dofR (F := F)) (constant S_ .f32 0x00000000#32)))
    (Host.divf (Host.reduceAdd (mulf (devR y) (devR y)) (constant S_ .f32 0x00000000#32) reducesTo_S16384x64_S64_d0 h_S_)
      (broadcastInDim S64 ![] bcast_S_S64 dofR))
    (broadcastInDim S64 ![] bcast_S_S64 (constant S_ .f32 0x7FC00000#32))

def bnR (y : FVec F S16384x64 .f32) (m v gam bet : FVec F S64 .f32) : FVec F S16384x64 .f32 :=
  maximumf (addf (mulf (Host.divf (subf y (broadcastInDim S16384x64 ![0, 1] bcast_S1x64_S16384x64_0_1 (broadcastInDim S1x64 ![1] bcast_S64_S1x64_1 m)))
      (broadcastInDim S16384x64 ![0, 1] bcast_S1x64_S16384x64_0_1 (broadcastInDim S1x64 ![1] bcast_S64_S1x64_1
        (Host.sqrt (addf v (broadcastInDim S64 ![] bcast_S_S64 (constant S_ .f32 0x3727C5AC#32)))))))
      (broadcastInDim S16384x64 ![0, 1] bcast_S1x64_S16384x64_0_1 (broadcastInDim S1x64 ![1] bcast_S64_S1x64_1 gam)))
      (broadcastInDim S16384x64 ![0, 1] bcast_S1x64_S16384x64_0_1 (broadcastInDim S1x64 ![1] bcast_S64_S1x64_1 bet)))
    (broadcastInDim S16384x64 ![] bcast_S_S16384x64 (constant S_ .f32 0x00000000#32))

def fullY (X : IVec S16384x1 32) (hf : FVec F S16384x64 .f32) (co : FVec F S16384x3 .f32) (lr : FVec F S4096x64 .f32) (off : IVec S4 32)
    (w1 : FVec F S64x16 .f32) (b1 : FVec F S16 .f32) (w2 : FVec F S16x64 .f32) (b2 : FVec F S64 .f32) (s1 : FVec F S67x64 .f32) (sb : FVec F S64 .f32)
    (s2 : FVec F S64x1 .f32) (sc : FVec F S1 .f32) (fm : FVec F S128x64 .f32) (fb : FVec F S64 .f32) : FVec F S16384x64 .f32 :=
  yR hf (fR hf (cwR (gR (sumR lr X (bidR off)) (cntR (bidR off))) w1 b1 w2 b2) (bidR off))
    (spR (fR hf (cwR (gR (sumR lr X (bidR off)) (cntR (bidR off))) w1 b1 w2 b2) (bidR off)) co s1 sb s2 sc) fm fb

def outR (y : FVec F S16384x64 .f32) (gam bet : FVec F S64 .f32) : FVec F S16384x64 .f32 := bnR y (meanR y) (varR y) gam bet

set_option maxRecDepth 65536 in
theorem res_eq (m : (ℓ : Loc nD τ sig) → Buf (Elt F) ℓ) (c : Dev nD) : Cert.ReferenceIdeal.Value.res_main_v96 m c =
    outR (fullY (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)))
      (m ((c.tc : Thread nD τ).loc main_arg15)) (m ((c.tc : Thread nD τ).loc main_arg16)) := rfl

end Cert.Proof.Ref

end
-- ==== Proof.RVal.lean ====
/-
  The reference at the ideal reading, element by element.
-/
module

public import proofs.«01_k».proof.Proof.Ref
public import proofs.«01_k».proof.Proof.Spec
public import Idealize.ShloMosaic.Lib.Routing.Ops
public import Idealize.ShloMosaic.Lib.Routing.OpsPair

@[expose] public section

noncomputable section

namespace Cert.Proof.RVal

open Cert.ReferenceIdeal Cert.ReferenceIdeal.Gen
open Cert.Proof.Ref Cert.Proof.Spec
open Idealize.ShloMosaic

/-- Row `n`'s segment, as a number and as one of four. -/
def seg (n : Fin 16384) : Fin 4 := ⟨n.val / 4096, by have := n.isLt; omega⟩

theorem bid_apply (off : IVec S4 32) (ho : ∀ x : Fin 4, off (ix1 x) = BitVec.ofNat 32 ((x.val + 1) * 4096)) (n : Fin 16384) :
    bidR off (ix1 n) = BitVec.ofNat 32 (seg n).val := by
  unfold bidR
  pointwise
  have e := reach (seg n).isLt (Nat.mod_lt n.val (by decide : 0 < 4096)) (fun x => off (ix1 x)) ho
  have h : 4096 * (seg n).val + n.val % 4096 = n.val := Nat.div_add_mod n.val 4096
  rw [h] at e
  exact e

/-- An index that is not negative is its own row. -/
theorem row_apply (X : IVec S16384x1 32) (n : Fin 16384) (hX : (X (ix2 n 0)).toNat < 4096) : rowR X (ix2 n 0) = X (ix2 n 0) := by
  unfold rowR idxR
  pointwise
  exact Routing.wrap_of_lt _ _ (by norm_num; omega)

variable (X : IVec S16384x1 32) (hX : ∀ n : Fin 16384, (X (ix2 n 0)).toNat < 4096)

/-- The bin of row `n`. -/
def bin (n : Fin 16384) : Fin 4096 := ⟨(X (ix2 n 0)).toNat, hX n⟩

theorem low_apply (lr : FVec Ideal S4096x64 .f32) (n : Fin 16384) (d : Fin 64) : lowR (F := Ideal) lr X (ix2 n d) = lr (ix2 (bin X hX n) d) := by
  unfold lowR
  refine Routing.gather_row _ rfl rfl rfl rfl rfl lr (rowR X) n d (bin X hX n) ?_ (by norm_num)
  show rowR X (ix2 n 0) = _
  rw [row_apply X n (hX n)]
  exact BitVec.eq_of_toNat_eq (by rw [BitVec.toNat_ofNat]; exact (Nat.mod_eq_of_lt (X (ix2 n 0)).isLt).symm)

theorem lands2 (b : IVec S16384 32) (hb : ∀ n : Fin 16384, b (ix1 n) = BitVec.ofNat 32 (seg n).val) (n : Fin 16384) (e : Fin 64) (k : Fin 4) (d : Fin 64) :
    scatter_S4x64_S16384x1_S16384x64_1_0_0_1.resultIdx? (ix2 n e) (broadcastInDim S16384x1 ![0] bcast_S16384_S16384x1_0 b) = some (ix2 k d) ↔ seg n = k ∧ e = d := by
  refine (Routing.resultIdx?_ix2 _ _ _ k d).trans ?_
  have s0 : scatter_S4x64_S16384x1_S16384x64_1_0_0_1.start (ix2 n e) (broadcastInDim S16384x1 ![0] bcast_S16384_S16384x1_0 b) 0 = (b (ix1 n)).toInt := by
    unfold ScatterDims.start
    rw [dif_pos (show (0 : Fin 2) ∈ scatter_S4x64_S16384x1_S16384x64_1_0_0_1.scatterDimsToOperandDims from List.mem_singleton.2 rfl)]
    refine congrArg BitVec.toInt ?_
    have hsi : scatter_S4x64_S16384x1_S16384x64_1_0_0_1.siIdx (ix2 n e) ⟨List.idxOf (0 : Fin 2) scatter_S4x64_S16384x1_S16384x64_1_0_0_1.scatterDimsToOperandDims,
        List.idxOf_lt_length_iff.2 (List.mem_singleton.2 rfl)⟩ = ix2 n 0 := by
      funext a
      match a with
      | ⟨0, _⟩ => rfl
      | ⟨1, _⟩ => rfl
    rw [hsi]
    pointwise
  have s1 : scatter_S4x64_S16384x1_S16384x64_1_0_0_1.start (ix2 n e) (broadcastInDim S16384x1 ![0] bcast_S16384_S16384x1_0 b) 1 = 0 := rfl
  have w0 : scatter_S4x64_S16384x1_S16384x64_1_0_0_1.window (ix2 n e) 0 = 0 := rfl
  have w1 : scatter_S4x64_S16384x1_S16384x64_1_0_0_1.window (ix2 n e) 1 = e.val := rfl
  have hs := (seg n).isLt
  rw [s0, s1, w0, w1, hb, StableHlo.Predicate.toInt_ofNat_small _ (by omega)]
  constructor
  · rintro ⟨h, h'⟩; exact ⟨Fin.ext (by omega), Fin.ext (by omega)⟩
  · rintro ⟨rfl, rfl⟩; exact ⟨by simp, by simp⟩

theorem lands1 (b : IVec S16384 32) (hb : ∀ n : Fin 16384, b (ix1 n) = BitVec.ofNat 32 (seg n).val) (n : Fin 16384) (k : Fin 4) :
    scatter_S4_S16384x1_S16384_n_0_0_1.resultIdx? (ix1 n) (broadcastInDim S16384x1 ![0] bcast_S16384_S16384x1_0 b) = some (ix1 k) ↔ seg n = k := by
  refine (Routing.resultIdx?_ix1 _ _ _ k).trans ?_
  have s0 : scatter_S4_S16384x1_S16384_n_0_0_1.start (ix1 n) (broadcastInDim S16384x1 ![0] bcast_S16384_S16384x1_0 b) 0 = (b (ix1 n)).toInt := by
    unfold ScatterDims.start
    rw [dif_pos (show (0 : Fin 1) ∈ scatter_S4_S16384x1_S16384_n_0_0_1.scatterDimsToOperandDims from List.mem_singleton.2 rfl)]
    refine congrArg BitVec.toInt ?_
    have hsi : scatter_S4_S16384x1_S16384_n_0_0_1.siIdx (ix1 n) ⟨List.idxOf (0 : Fin 1) scatter_S4_S16384x1_S16384_n_0_0_1.scatterDimsToOperandDims,
        List.idxOf_lt_length_iff.2 (List.mem_singleton.2 rfl)⟩ = ix2 n 0 := by
      funext a
      match a with
      | ⟨0, _⟩ => rfl
      | ⟨1, _⟩ => rfl
    rw [hsi]
    pointwise
  have w0 : scatter_S4_S16384x1_S16384_n_0_0_1.window (ix1 n) 0 = 0 := rfl
  have hs := (seg n).isLt
  rw [s0, w0, hb, StableHlo.Predicate.toInt_ofNat_small _ (by omega)]
  constructor
  · intro h; exact Fin.ext (by omega)
  · rintro rfl; simp

theorem sum_apply (lr : FVec Ideal S4096x64 .f32) (b : IVec S16384 32) (hb : ∀ n : Fin 16384, b (ix1 n) = BitVec.ofNat 32 (seg n).val) (k : Fin 4) (d : Fin 64) :
    sumR (F := Ideal) lr X b (ix2 k d) = ∑ n ∈ Finset.univ.filter (fun n => seg n = k), lr (ix2 (bin X hX n) d) := by
  unfold sumR
  show (broadcastInDim S4x64 ![] bcast_S_S4x64 (constant (F := Ideal) S_ .f32 0x00000000#32)) (ix2 k d) + ∑ j ∈ Finset.univ.filter
    (fun j => scatter_S4x64_S16384x1_S16384x64_1_0_0_1.resultIdx? j (broadcastInDim S16384x1 ![0] bcast_S16384_S16384x1_0 b) = some (ix2 k d)), lowR (F := Ideal) lr X j = _
  have z : (broadcastInDim S4x64 ![] bcast_S_S4x64 (constant (F := Ideal) S_ .f32 0x00000000#32)) (ix2 k d) = (0 : EReal) := by pointwise
  rw [z, zero_add]
  symm
  refine Finset.sum_bij (fun n _ => ix2 n d) ?_ ?_ ?_ ?_
  · intro n hn
    exact Finset.mem_filter.2 ⟨Finset.mem_univ _, (lands2 b hb n d k d).2 ⟨(Finset.mem_filter.1 hn).2, rfl⟩⟩
  · intro n _ n' _ h
    exact congrFun h 0
  · intro j hj
    have h := (Finset.mem_filter.1 hj).2
    rw [eq_ix2 j] at h
    have h' := (lands2 b hb (j 0) (j 1) k d).1 h
    refine ⟨j 0, Finset.mem_filter.2 ⟨Finset.mem_univ _, h'.1⟩, ?_⟩
    conv_rhs => rw [eq_ix2 j]
    rw [h'.2]
  · intro n _
    exact (low_apply X hX lr n d).symm

theorem cnt_apply (b : IVec S16384 32) (hb : ∀ n : Fin 16384, b (ix1 n) = BitVec.ofNat 32 (seg n).val) (k : Fin 4) :
    cntR (F := Ideal) b (ix1 k) = ∑ n ∈ Finset.univ.filter (fun n => seg n = k), (1 : EReal) := by
  unfold cntR
  show (broadcastInDim S4 ![] bcast_S_S4 (constant (F := Ideal) S_ .f32 0x00000000#32)) (ix1 k) + ∑ j ∈ Finset.univ.filter
    (fun j => scatter_S4_S16384x1_S16384_n_0_0_1.resultIdx? j (broadcastInDim S16384x1 ![0] bcast_S16384_S16384x1_0 b) = some (ix1 k)),
      (broadcastInDim S16384 ![] bcast_S_S16384 (constant (F := Ideal) S_ .f32 0x3F800000#32)) j = _
  have z : (broadcastInDim S4 ![] bcast_S_S4 (constant (F := Ideal) S_ .f32 0x00000000#32)) (ix1 k) = (0 : EReal) := by pointwise
  rw [z, zero_add]
  symm
  refine Finset.sum_bij (fun n _ => ix1 n) ?_ ?_ ?_ ?_
  · intro n hn
    exact Finset.mem_filter.2 ⟨Finset.mem_univ _, (lands1 b hb n k).2 (Finset.mem_filter.1 hn).2⟩
  · intro n _ n' _ h
    exact congrFun h 0
  · intro j hj
    have h := (Finset.mem_filter.1 hj).2
    rw [eq_ix1 j] at h
    exact ⟨j 0, Finset.mem_filter.2 ⟨Finset.mem_univ _, (lands1 b hb (j 0) k).1 h⟩, (eq_ix1 j).symm⟩
  · intro n _
    pointwise

theorem gate_apply (cw : FVec Ideal S4x64 .f32) (hf : FVec Ideal S16384x64 .f32) (b : IVec S16384 32) (hb : ∀ n : Fin 16384, b (ix1 n) = BitVec.ofNat 32 (seg n).val)
    (n : Fin 16384) (d : Fin 64) : fR (F := Ideal) hf cw b (ix2 n d) = hf (ix2 n d) * cw (ix2 (seg n) d) := by
  unfold fR
  pointwise
  refine congrArg _ ?_
  refine Routing.gather_row _ rfl rfl rfl rfl rfl cw _ n d (seg n) ?_ (by norm_num)
  pointwise
  have hs := (seg n).isLt
  rw [Routing.wrap_of_lt _ _ (by rw [hb, BitVec.toNat_ofNat]; norm_num; omega), hb]

theorem cwR_apply (g : FVec Ideal S4x64 .f32) (w1 : FVec Ideal S64x16 .f32) (b1 : FVec Ideal S16 .f32) (w2 : FVec Ideal S16x64 .f32) (b2 : FVec Ideal S64 .f32)
    (k : Fin 4) (d : Fin 64) : cwR (F := Ideal) g w1 b1 w2 b2 (ix2 k d) =
      cwS (fun y => g (ix2 k y)) (fun a b => w1 (ix2 a b)) (fun e => b1 (ix1 e)) (fun a b => w2 (ix2 a b)) (fun e => b2 (ix1 e)) d := by
  unfold cwR
  pointwise
  rfl

theorem spR_apply (f : FVec Ideal S16384x64 .f32) (co : FVec Ideal S16384x3 .f32) (s1 : FVec Ideal S67x64 .f32) (sb : FVec Ideal S64 .f32) (s2 : FVec Ideal S64x1 .f32)
    (sc : FVec Ideal S1 .f32) (n : Fin 16384) : spR (F := Ideal) f co s1 sb s2 sc (ix2 n 0) =
      spS (fun d => f (ix2 n d)) (fun q => co (ix2 n q)) (fun a b => s1 (ix2 a b)) (fun e => sb (ix1 e)) (fun e => s2 (ix2 e 0)) (sc (ix1 0)) := by
  unfold spR
  pointwise
  rfl

theorem yR_apply (hf f : FVec Ideal S16384x64 .f32) (sp : FVec Ideal S16384x1 .f32) (fm : FVec Ideal S128x64 .f32) (fb : FVec Ideal S64 .f32) (n : Fin 16384) (j : Fin 64) :
    yR (F := Ideal) hf f sp fm fb (ix2 n j) = yS (fun d => hf (ix2 n d)) (fun d => f (ix2 n d)) (sp (ix2 n 0)) (fun a b => fm (ix2 a b)) (fun e => fb (ix1 e)) j := by
  unfold yR
  pointwise
  rfl

theorem outR_apply (y : FVec Ideal S16384x64 .f32) (gam bet : FVec Ideal S64 .f32) (n : Fin 16384) (j : Fin 64) :
    outR (F := Ideal) y gam bet (ix2 n j) = Spec.bnR (fun x => y (ix2 x j)) (y (ix2 n j)) (gam (ix1 j)) (bet (ix1 j)) := by
  unfold outR Ref.bnR meanR varR devR dofR
  pointwise
  rfl

/-- A segment's pooled row. -/
def poolS (lr : FVec Ideal S4096x64 .f32) (k : Fin 4) (d : Fin 64) : EReal :=
  Ideal.div (∑ n ∈ Finset.univ.filter (fun n => seg n = k), lr (ix2 (bin X hX n) d)) (max (∑ n ∈ Finset.univ.filter (fun n => seg n = k), (1 : EReal)) 1)

theorem pool_apply (lr : FVec Ideal S4096x64 .f32) (b : IVec S16384 32) (hb : ∀ n : Fin 16384, b (ix1 n) = BitVec.ofNat 32 (seg n).val) (k : Fin 4) (d : Fin 64) :
    gR (F := Ideal) (sumR lr X b) (cntR b) (ix2 k d) = poolS X hX lr k d := by
  have e : ∀ (s : FVec Ideal S4x64 .f32) (c : FVec Ideal S4 .f32), gR (F := Ideal) s c (ix2 k d) = Ideal.div (s (ix2 k d)) (max (c (ix1 k)) 1) := fun s c => by
    unfold gR
    pointwise
  rw [e, sum_apply X hX lr b hb, cnt_apply b hb]
  rfl

theorem rows_apply (hf : FVec Ideal S16384x64 .f32) (cw : FVec Ideal S4x64 .f32) (b : IVec S16384 32) (hb : ∀ n : Fin 16384, b (ix1 n) = BitVec.ofNat 32 (seg n).val)
    (co : FVec Ideal S16384x3 .f32) (s1 : FVec Ideal S67x64 .f32) (sb : FVec Ideal S64 .f32) (s2 : FVec Ideal S64x1 .f32) (sc : FVec Ideal S1 .f32)
    (fm : FVec Ideal S128x64 .f32) (fb : FVec Ideal S64 .f32) (n : Fin 16384) (j : Fin 64) :
    yR (F := Ideal) hf (fR hf cw b) (spR (fR hf cw b) co s1 sb s2 sc) fm fb (ix2 n j) =
      rowS (fun d => hf (ix2 n d)) (fun q => co (ix2 n q)) (fun d => cw (ix2 (seg n) d)) (fun a b => s1 (ix2 a b)) (fun e => sb (ix1 e)) (fun e => s2 (ix2 e 0))
        (sc (ix1 0)) (fun a b => fm (ix2 a b)) (fun e => fb (ix1 e)) j := by
  have hg : (fun d => fR (F := Ideal) hf cw b (ix2 n d)) = fun d => hf (ix2 n d) * cw (ix2 (seg n) d) := funext fun d => gate_apply cw hf b hb n d
  rw [yR_apply, spR_apply, hg]
  rfl

/-- The fused rows. -/
theorem full_apply (hf : FVec Ideal S16384x64 .f32) (co : FVec Ideal S16384x3 .f32) (lr : FVec Ideal S4096x64 .f32) (off : IVec S4 32)
    (w1 : FVec Ideal S64x16 .f32) (b1 : FVec Ideal S16 .f32) (w2 : FVec Ideal S16x64 .f32) (b2 : FVec Ideal S64 .f32) (s1 : FVec Ideal S67x64 .f32) (sb : FVec Ideal S64 .f32)
    (s2 : FVec Ideal S64x1 .f32) (sc : FVec Ideal S1 .f32) (fm : FVec Ideal S128x64 .f32) (fb : FVec Ideal S64 .f32)
    (ho : ∀ x : Fin 4, off (ix1 x) = BitVec.ofNat 32 ((x.val + 1) * 4096)) (n : Fin 16384) (j : Fin 64) :
    fullY (F := Ideal) X hf co lr off w1 b1 w2 b2 s1 sb s2 sc fm fb (ix2 n j) =
      rowS (fun d => hf (ix2 n d)) (fun q => co (ix2 n q))
        (cwS (poolS X hX lr (seg n)) (fun a b => w1 (ix2 a b)) (fun e => b1 (ix1 e)) (fun a b => w2 (ix2 a b)) (fun e => b2 (ix1 e)))
        (fun a b => s1 (ix2 a b)) (fun e => sb (ix1 e)) (fun e => s2 (ix2 e 0)) (sc (ix1 0)) (fun a b => fm (ix2 a b)) (fun e => fb (ix1 e)) j := by
  have hb := bid_apply off ho
  refine (rows_apply hf _ (bidR off) hb co s1 sb s2 sc fm fb n j).trans ?_
  refine congrArg (fun cw => rowS _ _ cw _ _ _ _ _ _ j) (funext fun d => ?_)
  refine (cwR_apply _ w1 b1 w2 b2 (seg n) d).trans ?_
  refine congrArg (fun g => cwS g _ _ _ _ d) (funext fun y => ?_)
  exact pool_apply X hX lr (bidR off) hb (seg n) y

end Cert.Proof.RVal

end
-- ==== Proof.KVal.lean ====
/-
  The fusion call's result at the ideal reading, element by element, off the arrays it is passed.
-/
module

public import proofs.«01_k».proof.Proof.Blk
public import proofs.«01_k».proof.Proof.RVal

@[expose] public section

noncomputable section

namespace Cert.Proof.KVal

open Cert.KernelIdeal Cert.KernelIdeal.Gen
open Cert.Proof.Step Cert.Proof.Fuse Cert.Proof.Vals Cert.Proof.Region Cert.Proof.Spec Cert.Proof.Pay Cert.Proof.Blk
open Idealize.ShloMosaic

variable (V : (ℓ : Loc nD τ sig) → Buf (Elt Ideal) ℓ) (c : Dev nD)

/-- An array the call is passed. -/
abbrev ar (b : Ref sig .tc) : Buf (Elt Ideal) ((c.tc : Thread nD τ).loc b) := V ((c.tc : Thread nD τ).loc b)

/-- The fused row `n`, before normalization. -/
def yK (n : Fin 16384) (j : Fin 64) : EReal :=
  rowS (fun d => (ar V c main_arg1 : Vec Ideal S16384x64 .f32) (ix2 n d)) (fun q => (ar V c main_arg2 : Vec Ideal S16384x3 .f32) (ix2 n q))
    (fun d => CW V c (ix2 (RVal.seg n) d)) (fun a b => (ar V c main_arg9 : Vec Ideal S67x64 .f32) (ix2 a b)) (fun e => (ar V c main_v7 : Vec Ideal S1x64 .f32) (ix2 0 e))
    (fun e => (ar V c main_arg11 : Vec Ideal S64x1 .f32) (ix2 e 0)) ((ar V c main_v8 : Vec Ideal S1x1 .f32) (ix2 0 0))
    (fun a b => (ar V c main_arg13 : Vec Ideal S128x64 .f32) (ix2 a b)) (fun b => (ar V c main_v9 : Vec Ideal S1x64 .f32) (ix2 0 b)) j

/-- The offsets that cut the rows into four runs of 4096. -/
def Offs : Prop := ∀ x : Fin 4, (ar V c main_v4 : Vec Ideal S1x4 .i32) (ix2 0 x) = BitVec.ofNat 32 ((x.val + 1) * 4096)

variable {V c}

theorem Y_apply (ho : Offs V c) {k : ℕ} (hk : k < 4) (n : Fin 4096) (j : Fin 64) :
    Y V c k (ix2 n j) = yK V c ⟨4096 * k + n.val, by omega⟩ j := by
  have ht : k < cfg2.N := by show k < grid2.N; rw [N_2]; omega
  unfold Y
  have e : opsN V c k = opsAt V c ⟨k, ht⟩ := opsN_val V c ⟨k, ht⟩
  rw [e]
  have h4 : (opsAt V c ⟨k, ht⟩).off = ar V c main_v4 := blk4_eq V c ⟨k, ht⟩
  refine (tile_apply hk (CW V c) (opsAt V c ⟨k, ht⟩) (fun x => by rw [h4]; exact ho x) n j).trans ?_
  have hs : RVal.seg ⟨4096 * k + n.val, by omega⟩ = ⟨k, hk⟩ := Fin.ext (show (4096 * k + n.val) / 4096 = k by omega)
  unfold yK
  rw [hs]
  have e1 : (fun d => (opsAt V c ⟨k, ht⟩).hf (ix2 n d)) = fun d => (ar V c main_arg1 : Vec Ideal S16384x64 .f32) (ix2 ⟨4096 * k + n.val, by omega⟩ d) :=
    funext fun d => blk2_eq V c ⟨k, ht⟩ hk n d
  have e2 : (fun d => (opsAt V c ⟨k, ht⟩).hco (ix2 n d)) = fun d => (ar V c main_arg2 : Vec Ideal S16384x3 .f32) (ix2 ⟨4096 * k + n.val, by omega⟩ d) :=
    funext fun d => blk3_eq V c ⟨k, ht⟩ hk n d
  have e9 : (opsAt V c ⟨k, ht⟩).saw1 = ar V c main_arg9 := blk9_eq V c ⟨k, ht⟩
  have e10 : (opsAt V c ⟨k, ht⟩).sab1 = ar V c main_v7 := blk10_eq V c ⟨k, ht⟩
  have e11 : (opsAt V c ⟨k, ht⟩).saw2 = ar V c main_arg11 := blk11_eq V c ⟨k, ht⟩
  have e12 : (opsAt V c ⟨k, ht⟩).sab2 = ar V c main_v8 := blk12_eq V c ⟨k, ht⟩
  have e13 : (opsAt V c ⟨k, ht⟩).fmw = ar V c main_arg13 := blk13_eq V c ⟨k, ht⟩
  have e14 : (opsAt V c ⟨k, ht⟩).fmb = ar V c main_v9 := blk14_eq V c ⟨k, ht⟩
  rw [e1, e2, e9, e10, e11, e12, e13, e14]

/-- The channel gate of segment `k`, off the table of counts. -/
theorem CW_apply (k : Fin 4) (d : Fin 64) : CW V c (ix2 k d) =
    cwS (fun y => Ideal.div (∑ m, phS (ar V c main_v3) k m * (ar V c main_arg3 : Vec Ideal S4096x64 .f32) (ix2 m y)) (max (∑ m, phS (ar V c main_v3) k m) 1))
      (fun a b => (ar V c main_arg5 : Vec Ideal S64x16 .f32) (ix2 a b)) (fun e => (ar V c main_v5 : Vec Ideal S1x16 .f32) (ix2 0 e))
      (fun a b => (ar V c main_arg7 : Vec Ideal S16x64 .f32) (ix2 a b)) (fun e => (ar V c main_v6 : Vec Ideal S1x64 .f32) (ix2 0 e)) d := by
  have ht : 0 < cfg2.N := by show 0 < grid2.N; rw [N_2]; omega
  unfold CW
  have e : opsN V c 0 = opsAt V c ⟨0, ht⟩ := opsN_val V c ⟨0, ht⟩
  rw [e]
  refine (cwOf_apply _ k d).trans ?_
  have e0 : (opsAt V c ⟨0, ht⟩).ph = ar V c main_v3 := blk0_eq V c ⟨0, ht⟩
  have e1 : (opsAt V c ⟨0, ht⟩).lr = ar V c main_arg3 := blk1_eq V c ⟨0, ht⟩
  have e5 : (opsAt V c ⟨0, ht⟩).caw1 = ar V c main_arg5 := blk5_eq V c ⟨0, ht⟩
  have e6 : (opsAt V c ⟨0, ht⟩).cab1 = ar V c main_v5 := blk6_eq V c ⟨0, ht⟩
  have e7 : (opsAt V c ⟨0, ht⟩).caw2 = ar V c main_arg7 := blk7_eq V c ⟨0, ht⟩
  have e8 : (opsAt V c ⟨0, ht⟩).cab2 = ar V c main_v6 := blk8_eq V c ⟨0, ht⟩
  rw [e0, e1, e5, e6, e7, e8]

theorem sum_four (g : ℕ → EReal) : ∑ x ∈ Finset.range 4, g x = g 0 + g 1 + g 2 + g 3 := by
  simp [Finset.sum_range_succ]

/-- Four runs of 4096 are all the rows. -/
theorem sum_tiles (f : Fin 16384 → EReal) :
    (∑ n : Fin 4096, f ⟨4096 * 0 + n.val, by omega⟩) + (∑ n : Fin 4096, f ⟨4096 * 1 + n.val, by omega⟩) + (∑ n : Fin 4096, f ⟨4096 * 2 + n.val, by omega⟩)
      + (∑ n : Fin 4096, f ⟨4096 * 3 + n.val, by omega⟩) = ∑ n, f n := by
  have h := sum_blocks 4 4096 fun i => if h : i < 16384 then f ⟨i, h⟩ else 0
  have hr : ∑ i ∈ Finset.range (4096 * 4), (fun i => if h : i < 16384 then f ⟨i, h⟩ else 0) i = ∑ n, f n := by
    rw [Finset.sum_range]
    exact Finset.sum_congr rfl fun n _ => dif_pos n.isLt
  rw [hr] at h
  rw [← h]
  rw [sum_four]
  have t : ∀ k, k < 4 → (∑ n ∈ Finset.range 4096, if h : 4096 * k + n < 16384 then f ⟨4096 * k + n, h⟩ else 0)
      = ∑ n : Fin 4096, if h : 4096 * k + n.val < 16384 then f ⟨4096 * k + n.val, h⟩ else 0 := fun k _ => Finset.sum_range _
  rw [t 0 (by omega), t 1 (by omega), t 2 (by omega), t 3 (by omega)]
  refine congrArg₂ _ (congrArg₂ _ (congrArg₂ _ ?_ ?_) ?_) ?_ <;>
    exact Finset.sum_congr rfl fun n _ => by have := n.isLt; rw [dif_pos (by omega)]

theorem R0_apply (ho : Offs V c) (j : Fin 64) : R0 V c 4 (ix2 0 j) = ∑ n, yK V c n j := by
  rw [← sum_tiles fun n => yK V c n j]
  have s : ∀ k (hk : k < 4), R0 V c (k + 1) (ix2 0 j) = R0 V c k (ix2 0 j) + ∑ n : Fin 4096, yK V c ⟨4096 * k + n.val, by omega⟩ j := fun k hk =>
    (add0_apply _ _ _ _ j).trans (congrArg (R0 V c k (ix2 0 j) + ·) (Finset.sum_congr rfl fun n _ => Y_apply ho hk n j))
  have z : R0 V c 0 (ix2 0 j) = 0 := pay8_apply (r0.emb (ix2 0 j))
  rw [s 3 (by omega), s 2 (by omega), s 1 (by omega), s 0 (by omega), z, zero_add]

theorem R1_apply (ho : Offs V c) (j : Fin 64) : R1 V c 4 (ix2 0 j) = ∑ n, yK V c n j * yK V c n j := by
  rw [← sum_tiles fun n => yK V c n j * yK V c n j]
  have s : ∀ k (hk : k < 4), R1 V c (k + 1) (ix2 0 j)
      = R1 V c k (ix2 0 j) + ∑ n : Fin 4096, yK V c ⟨4096 * k + n.val, by omega⟩ j * yK V c ⟨4096 * k + n.val, by omega⟩ j := fun k hk =>
    (add1_apply _ _ _ _ j).trans (congrArg (R1 V c k (ix2 0 j) + ·) (Finset.sum_congr rfl fun n _ => congrArg₂ _ (Y_apply ho hk n j) (Y_apply ho hk n j)))
  have z : R1 V c 0 (ix2 0 j) = 0 := pay8_apply (r1.emb (ix2 0 j))
  rw [s 3 (by omega), s 2 (by omega), s 1 (by omega), s 0 (by omega), z, zero_add]

/-- The call's result. -/
theorem out_apply (ho : Offs V c) (n : Fin 16384) (j : Fin 64) :
    ((dats V 0 c).arrAt (17 : Fin 18) cfg2.N : Vec Ideal S16384x64 .f32) (ix2 n j) =
      bnK (yK V c n j) (∑ x, yK V c x j) (∑ x, yK V c x j * yK V c x j) ((ar V c main_v10 : Vec Ideal S1x64 .f32) (ix2 0 j)) ((ar V c main_v11 : Vec Ideal S1x64 .f32) (ix2 0 j)) := by
  have h := out_eq V c (fun i => bnK (yK V c (i 0) (i 1)) (∑ x, yK V c x (i 1)) (∑ x, yK V c x (i 1) * yK V c x (i 1))
    ((ar V c main_v10 : Vec Ideal S1x64 .f32) (ix2 0 (i 1))) ((ar V c main_v11 : Vec Ideal S1x64 .f32) (ix2 0 (i 1)))) fun t ht n d => by
      have hN : t.val < grid2.N := t.isLt
      rw [N_2] at hN
      unfold res
      refine (pay5_apply _ _ _ _ _ n d).trans ?_
      rw [R0_apply ho, R1_apply ho, Y_apply ho (by omega), blk15_eq, blk16_eq]
      rfl
  exact congrFun h (ix2 n j)

end Cert.Proof.KVal

end
-- ==== Proof.Vars.lean ====
/-
  What the fusion call is passed: the table of counts off the indices, the reshaped arrays off the arguments, the arguments.
-/
module

public import proofs.«01_k».proof.Proof.Main
public import proofs.«01_k».proof.Proof.KVal

@[expose] public section

noncomputable section

namespace Cert.Proof.Vars

open Cert.KernelIdeal Cert.KernelIdeal.Gen
open Cert.Proof.Hist Cert.Proof.Rows Cert.Proof.Seg Cert.Proof.Main
open Idealize.ShloMosaic

section Run

variable {F : FTy → Type} [FloatOps F] (m : (ℓ : Loc nD τ sig) → Buf (Elt F) ℓ)

/-- A buffer that no reshape of the third step writes. -/
theorem W5_ne (d : Dev nD) (b : Ref sig .tc) (h : b ≠ main_v4 ∧ b ≠ main_v5 ∧ b ≠ main_v6 ∧ b ≠ main_v7 ∧ b ≠ main_v8 ∧ b ≠ main_v9 ∧ b ≠ main_v10 ∧ b ≠ main_v11) :
    W5 m d (tc b) = W4 m d (tc b) := by
  obtain ⟨h4, h5, h6, h7, h8, h9, h10, h11⟩ := h
  unfold W5
  rw [StableHlo.reshape_result_ne' _ _ _ _ _ h11, StableHlo.reshape_result_ne' _ _ _ _ _ h10, StableHlo.reshape_result_ne' _ _ _ _ _ h9,
    StableHlo.reshape_result_ne' _ _ _ _ _ h8, StableHlo.reshape_result_ne' _ _ _ _ _ h7, StableHlo.reshape_result_ne' _ _ _ _ _ h6,
    StableHlo.reshape_result_ne' _ _ _ _ _ h5, StableHlo.reshape_result_ne' _ _ _ _ _ h4]

/-- A buffer that nothing before it writes. -/
theorem W4_arg (d : Dev nD) (b : Ref sig .tc) (h : b ≠ main_v0 ∧ b ≠ main_v1 ∧ b ≠ main_v2 ∧ b ≠ main_v3) : W4 m d (tc b) = m (d, tc b) := by
  obtain ⟨h0, h1, h2, h3⟩ := h
  rw [W4_ne m d b h3]
  unfold W3
  rw [StableHlo.reshape_result_ne' _ _ _ _ _ h2, W2_ne m d b h1]
  unfold W1
  rw [StableHlo.reshape_result_ne' _ _ _ _ _ h0]
  rfl

/-- An argument. -/
theorem W5_arg (d : Dev nD) (b : Ref sig .tc)
    (h : (b ≠ main_v4 ∧ b ≠ main_v5 ∧ b ≠ main_v6 ∧ b ≠ main_v7 ∧ b ≠ main_v8 ∧ b ≠ main_v9 ∧ b ≠ main_v10 ∧ b ≠ main_v11)
      ∧ b ≠ main_v0 ∧ b ≠ main_v1 ∧ b ≠ main_v2 ∧ b ≠ main_v3) : W5 m d (tc b) = m (d, tc b) :=
  (W5_ne m d b h.1).trans (W4_arg m d b h.2)

theorem WF_arg (d : Dev nD) (b : Ref sig .tc)
    (h : ((b ≠ main_v4 ∧ b ≠ main_v5 ∧ b ≠ main_v6 ∧ b ≠ main_v7 ∧ b ≠ main_v8 ∧ b ≠ main_v9 ∧ b ≠ main_v10 ∧ b ≠ main_v11)
      ∧ b ≠ main_v0 ∧ b ≠ main_v1 ∧ b ≠ main_v2 ∧ b ≠ main_v3) ∧ b ≠ main_v12) : WF m d (tc b) = m (d, tc b) :=
  (upd_ne (W5 m) d b h.2).trans (W5_arg m d b h.1)

theorem WF_out (d : Dev nD) : WF m d (tc main_v12) = out (W5 m) d := upd_out (W5 m) d

theorem W5_v3 (d : Dev nD) : W5 m d (tc main_v3) = hist (XM m d) := (W5_ne m d main_v3 (by decide)).trans (Function.update_self _ _ _)

theorem W5_v4 (d : Dev nD) : W5 m d (tc main_v4) = shapeCast S1x4 (m (d, tc main_arg4) : Vec F S4 .i32) shapeCasts_S4_S1x4 := by
  unfold W5
  rw [StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    StableHlo.reshape_result',
    W4_arg m d main_arg4 (by decide)]
  rfl

theorem W5_v5 (d : Dev nD) : W5 m d (tc main_v5) = shapeCast S1x16 (m (d, tc main_arg6) : Vec F S16 .f32) shapeCasts_S16_S1x16 := by
  unfold W5
  rw [StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    StableHlo.reshape_result', StableHlo.reshape_result_ne' _ _ _ _ _ (by decide),
    W4_arg m d main_arg6 (by decide)]
  rfl

theorem W5_v6 (d : Dev nD) : W5 m d (tc main_v6) = shapeCast S1x64 (m (d, tc main_arg8) : Vec F S64 .f32) shapeCasts_S64_S1x64 := by
  unfold W5
  rw [StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    StableHlo.reshape_result', StableHlo.reshape_result_ne' _ _ _ _ _ (by decide), StableHlo.reshape_result_ne' _ _ _ _ _ (by decide),
    W4_arg m d main_arg8 (by decide)]
  rfl

theorem W5_v7 (d : Dev nD) : W5 m d (tc main_v7) = shapeCast S1x64 (m (d, tc main_arg10) : Vec F S64 .f32) shapeCasts_S64_S1x64 := by
  unfold W5
  rw [StableHlo.reshape_result_ne' _ _ _ _ _ (by decide), StableHlo.reshape_result_ne' _ _ _ _ _ (by decide), StableHlo.reshape_result_ne' _ _ _ _ _ (by decide), StableHlo.reshape_result_ne' _ _ _ _ _ (by decide),
    StableHlo.reshape_result', StableHlo.reshape_result_ne' _ _ _ _ _ (by decide), StableHlo.reshape_result_ne' _ _ _ _ _ (by decide), StableHlo.reshape_result_ne' _ _ _ _ _ (by decide),
    W4_arg m d main_arg10 (by decide)]
  rfl

theorem W5_v8 (d : Dev nD) : W5 m d (tc main_v8) = shapeCast S1x1 (m (d, tc main_arg12) : Vec F S1 .f32) shapeCasts_S1_S1x1 := by
  unfold W5
  rw [StableHlo.reshape_result_ne' _ _ _ _ _ (by decide), StableHlo.reshape_result_ne' _ _ _ _ _ (by decide), StableHlo.reshape_result_ne' _ _ _ _ _ (by decide),
    StableHlo.reshape_result', StableHlo.reshape_result_ne' _ _ _ _ _ (by decide), StableHlo.reshape_result_ne' _ _ _ _ _ (by decide), StableHlo.reshape_result_ne' _ _ _ _ _ (by decide), StableHlo.reshape_result_ne' _ _ _ _ _ (by decide),
    W4_arg m d main_arg12 (by decide)]
  rfl

theorem W5_v9 (d : Dev nD) : W5 m d (tc main_v9) = shapeCast S1x64 (m (d, tc main_arg14) : Vec F S64 .f32) shapeCasts_S64_S1x64 := by
  unfold W5
  rw [StableHlo.reshape_result_ne' _ _ _ _ _ (by decide), StableHlo.reshape_result_ne' _ _ _ _ _ (by decide),
    StableHlo.reshape_result', StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    W4_arg m d main_arg14 (by decide)]
  rfl

theorem W5_v10 (d : Dev nD) : W5 m d (tc main_v10) = shapeCast S1x64 (m (d, tc main_arg15) : Vec F S64 .f32) shapeCasts_S64_S1x64 := by
  unfold W5
  rw [StableHlo.reshape_result_ne' _ _ _ _ _ (by decide),
    StableHlo.reshape_result', StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    W4_arg m d main_arg15 (by decide)]
  rfl

theorem W5_v11 (d : Dev nD) : W5 m d (tc main_v11) = shapeCast S1x64 (m (d, tc main_arg16) : Vec F S64 .f32) shapeCasts_S64_S1x64 := by
  unfold W5
  rw [
    StableHlo.reshape_result', StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide), StableHlo.reshape_result_ne' _ _ _ _ _ (by decide),
    W4_arg m d main_arg16 (by decide)]
  rfl

end Run

/-- The row of the indices is their column. -/
theorem XM_apply {F : FTy → Type} [FloatOps F] (m : (ℓ : Loc nD τ sig) → Buf (Elt F) ℓ) (d : Dev nD) (n : Fin 16384) :
    XM m d (ix1 n) = (m (d, tc main_arg0) : Vec F S16384x1 .i32) (ix2 n 0) := by
  unfold XM
  pointwise

theorem XM_lt {F : FTy → Type} [FloatOps F] (m : (ℓ : Loc nD τ sig) → Buf (Elt F) ℓ) (d : Dev nD)
    (hX : ∀ n : Fin 16384, ((m (d, tc main_arg0) : Vec F S16384x1 .i32) (ix2 n 0)).toNat < 4096) (x : S16384.Idx) : (XM m d x).toNat < 4096 := by
  have e : x = ix1 (x 0) := funext fun a => by obtain rfl : a = 0 := Subsingleton.elim a 0; rfl
  rw [e]
  exact (congrArg BitVec.toNat (XM_apply m d (x 0))).trans_lt (hX (x 0))

theorem idx_ix1 (n : ℕ) (h : n < 16384) : idxAt' n h = ix1 ⟨n, h⟩ := by
  funext a
  obtain rfl : a = 0 := Subsingleton.elim a 0
  exact Fin.ext (show n = n from rfl)

/-- A segment's count at a bin is the number of its rows with that index. -/
theorem phS_hist (X : Vec Ideal S16384 .i32) (idx : Fin 16384 → Fin 4096) (hi : ∀ n : Fin 16384, (X (ix1 n)).toNat = (idx n).val) (k : Fin 4) (b : Fin 4096) :
    Pay.phS (hist (F := Ideal) X) k b = ∑ n ∈ Finset.univ.filter (fun n => RVal.seg n = k), if idx n = b then (1 : EReal) else 0 := by
  have hk := k.isLt
  have e1 : Pay.phS (hist (F := Ideal) X) k b
      = ∑ x : Fin 8, ∑ n ∈ Finset.range 512, (fun i => if allWords (F := Ideal) X (4096 * k.val + i) = b.val then (1 : EReal) else 0) (512 * x.val + n) := by
    unfold Pay.phS
    refine Finset.sum_congr rfl fun x _ => (count_ideal _ 512 _).trans ?_
    rw [← Finset.sum_boole]
    refine Finset.sum_congr rfl fun n _ => ?_
    have e : 512 * (8 * k.val + x.val) + n = 4096 * k.val + (512 * x.val + n) := by omega
    show (if allWords (F := Ideal) X (512 * (8 * k.val + x.val) + n) = b.val then (1 : EReal) else 0) = _
    rw [e]
  have e2 := Spec.sum_blocks 8 512 fun i => if allWords (F := Ideal) X (4096 * k.val + i) = b.val then (1 : EReal) else 0
  rw [Finset.sum_range] at e2
  refine (e1.trans e2).trans ?_
  have e3 := Finset.sum_range (n := 512 * 8) fun i => if allWords (F := Ideal) X (4096 * k.val + i) = b.val then (1 : EReal) else 0
  refine e3.trans ?_
  refine Finset.sum_nbij' (fun i => (⟨4096 * k.val + i.val, by have := i.isLt; omega⟩ : Fin 16384)) (fun n => (⟨n.val % 4096, Nat.mod_lt _ (by decide)⟩ : Fin 4096)) ?_ ?_ ?_ ?_ ?_
  · intro i _
    have := i.isLt
    exact Finset.mem_filter.2 ⟨Finset.mem_univ _, Fin.ext (show (4096 * k.val + i.val) / 4096 = k.val by omega)⟩
  · intro n _; exact Finset.mem_univ _
  · intro i _
    have := i.isLt
    exact Fin.ext (show (4096 * k.val + i.val) % 4096 = i.val by omega)
  · intro n hn
    have h : n.val / 4096 = k.val := congrArg Fin.val (Finset.mem_filter.1 hn).2
    exact Fin.ext (show 4096 * k.val + n.val % 4096 = n.val by omega)
  · intro i _
    have := i.isLt
    have hlt : 4096 * k.val + i.val < 16384 := by omega
    have h : allWords (F := Ideal) X (4096 * k.val + i.val) = (idx ⟨4096 * k.val + i.val, hlt⟩).val := by
      unfold allWords
      rw [dif_pos hlt, idx_ix1]
      exact hi ⟨4096 * k.val + i.val, hlt⟩
    show (if allWords (F := Ideal) X (4096 * k.val + i.val) = b.val then (1 : EReal) else 0) = if idx ⟨4096 * k.val + i.val, hlt⟩ = b then (1 : EReal) else 0
    rw [h]
    exact if_congr Fin.ext_iff.symm rfl rfl

/-- The pooled row of a segment off the table of counts is that of the indexed rows. -/
theorem pool_eq (X : Vec Ideal S16384 .i32) (Y : IVec S16384x1 32) (hY : ∀ n : Fin 16384, (Y (ix2 n 0)).toNat < 4096) (h : ∀ n : Fin 16384, X (ix1 n) = Y (ix2 n 0))
    (lr : Vec Ideal S4096x64 .f32) (k : Fin 4) (y : Fin 64) :
    Ideal.div (∑ b, Pay.phS (hist (F := Ideal) X) k b * lr (ix2 b y)) (max (∑ b, Pay.phS (hist (F := Ideal) X) k b) 1) = RVal.poolS Y hY lr k y := by
  have e : ∀ b, Pay.phS (hist (F := Ideal) X) k b = ∑ n ∈ Finset.univ.filter (fun n => RVal.seg n = k), if RVal.bin Y hY n = b then (1 : EReal) else 0 :=
    phS_hist X (RVal.bin Y hY) (fun n => show (X (ix1 n)).toNat = (Y (ix2 n 0)).toNat by rw [h n]) k
  have e1 : (∑ b, Pay.phS (hist (F := Ideal) X) k b * lr (ix2 b y)) = ∑ n ∈ Finset.univ.filter (fun n => RVal.seg n = k), lr (ix2 (RVal.bin Y hY n) y) := by
    rw [← Spec.sum_counts _ (RVal.bin Y hY) fun b => lr (ix2 b y)]
    exact Finset.sum_congr rfl fun b _ => by rw [e b]
  have e2 : (∑ b, Pay.phS (hist (F := Ideal) X) k b) = ∑ n ∈ Finset.univ.filter (fun n => RVal.seg n = k), (1 : EReal) := by
    rw [← Spec.sum_counts_one _ (RVal.bin Y hY)]
    exact Finset.sum_congr rfl fun b _ => e b
  rw [e1, e2]
  rfl

end Cert.Proof.Vars

end
-- ==== Proof.Same.lean ====
/-
  The kernel's result is the reference's.
-/
module

public import proofs.«01_k».proof.Proof.Vars

@[expose] public section

noncomputable section

namespace Cert.Proof.Same

open Cert.KernelIdeal Cert.KernelIdeal.Gen
open Cert.Proof.Hist Cert.Proof.Rows Cert.Proof.Seg Cert.Proof.Main Cert.Proof.Vars Cert.Proof.KVal Cert.Proof.Spec
open Idealize.ShloMosaic

variable (m : (ℓ : Loc nD τ sig) → Buf (Elt Ideal) ℓ) (d : Dev nD)

/-- An argument. -/
abbrev ag (b : Ref sig .tc) : Buf (Elt Ideal) ((d.tc : Thread nD τ).loc b) := m ((d.tc : Thread nD τ).loc b)

/-- What the precondition says of the arguments. -/
structure Ok : Prop where
  idx : ∀ n : Fin 16384, ((ag m d main_arg0 : Vec Ideal S16384x1 .i32) (ix2 n 0)).toNat < 4096
  off : ∀ x : Fin 4, (ag m d main_arg4 : Vec Ideal S4 .i32) (ix1 x) = BitVec.ofNat 32 ((x.val + 1) * 4096)
  hf : ∀ (n : Fin 16384) (j : Fin 64), Fin' ((ag m d main_arg1 : Vec Ideal S16384x64 .f32) (ix2 n j))
  fm : ∀ (i : Fin 128) (j : Fin 64), Fin' ((ag m d main_arg13 : Vec Ideal S128x64 .f32) (ix2 i j))
  fb : ∀ j : Fin 64, Fin' ((ag m d main_arg14 : Vec Ideal S64 .f32) (ix1 j))

/-- The reference's fused rows of the kernel's arguments. -/
def yA : FVec Ideal S16384x64 .f32 :=
  Ref.fullY (F := Ideal) (ag m d main_arg0) (ag m d main_arg1) (ag m d main_arg2) (ag m d main_arg3) (ag m d main_arg4) (ag m d main_arg5) (ag m d main_arg6)
    (ag m d main_arg7) (ag m d main_arg8) (ag m d main_arg9) (ag m d main_arg10) (ag m d main_arg11) (ag m d main_arg12) (ag m d main_arg13) (ag m d main_arg14)

/-- and its result. -/
def outA : FVec Ideal S16384x64 .f32 := Ref.outR (F := Ideal) (yA m d) (ag m d main_arg15) (ag m d main_arg16)

variable {m d}

abbrev VV (m : (ℓ : Loc nD τ sig) → Buf (Elt Ideal) ℓ) : (ℓ : Loc nD τ sig) → Buf (Elt Ideal) ℓ := memOf (W5 m)

theorem row4 (x : Vec Ideal S4 .i32) (j : Fin 4) : shapeCast S1x4 x shapeCasts_S4_S1x4 (ix2 0 j) = x (ix1 j) := by pointwise
theorem row1 (x : Vec Ideal S1 .f32) : shapeCast S1x1 x shapeCasts_S1_S1x1 (ix2 0 0) = x (ix1 0) := by pointwise
theorem row16 (x : Vec Ideal S16 .f32) (j : Fin 16) : shapeCast S1x16 x shapeCasts_S16_S1x16 (ix2 0 j) = x (ix1 j) := by pointwise
theorem row64 (x : Vec Ideal S64 .f32) (j : Fin 64) : shapeCast S1x64 x shapeCasts_S64_S1x64 (ix2 0 j) = x (ix1 j) := by pointwise

theorem offs (h : Ok m d) : Offs (VV m) d := fun x => by
  have e : ar (VV m) d main_v4 = shapeCast S1x4 (ag m d main_arg4 : Vec Ideal S4 .i32) shapeCasts_S4_S1x4 := W5_v4 m d
  rw [e]
  exact (row4 _ x).trans (h.off x)

theorem CW_eq (h : Ok m d) (k : Fin 4) (j : Fin 64) : Vals.CW (VV m) d (ix2 k j) =
    cwS (RVal.poolS (ag m d main_arg0) h.idx (ag m d main_arg3) k) (fun a b => (ag m d main_arg5 : Vec Ideal S64x16 .f32) (ix2 a b))
      (fun e => (ag m d main_arg6 : Vec Ideal S16 .f32) (ix1 e)) (fun a b => (ag m d main_arg7 : Vec Ideal S16x64 .f32) (ix2 a b))
      (fun e => (ag m d main_arg8 : Vec Ideal S64 .f32) (ix1 e)) j := by
  have e0 : ar (VV m) d main_v3 = hist (XM m d) := W5_v3 m d
  have e3 : ar (VV m) d main_arg3 = ag m d main_arg3 := W5_arg m d main_arg3 (by decide)
  have e5 : ar (VV m) d main_arg5 = ag m d main_arg5 := W5_arg m d main_arg5 (by decide)
  have e6 : ar (VV m) d main_v5 = shapeCast S1x16 (ag m d main_arg6 : Vec Ideal S16 .f32) shapeCasts_S16_S1x16 := W5_v5 m d
  have e7 : ar (VV m) d main_arg7 = ag m d main_arg7 := W5_arg m d main_arg7 (by decide)
  have e8 : ar (VV m) d main_v6 = shapeCast S1x64 (ag m d main_arg8 : Vec Ideal S64 .f32) shapeCasts_S64_S1x64 := W5_v6 m d
  have hp : ∀ y : Fin 64, _ := pool_eq (XM m d) (ag m d main_arg0) h.idx (XM_apply m d) (ag m d main_arg3) k
  refine (CW_apply k j).trans ?_
  rw [e0, e3, e5, e6, e7, e8, funext hp, funext (row16 _), funext (row64 _)]

theorem yK_eq (h : Ok m d) (n : Fin 16384) (j : Fin 64) : yK (VV m) d n j = yA m d (ix2 n j) := by
  have e1 : ar (VV m) d main_arg1 = ag m d main_arg1 := W5_arg m d main_arg1 (by decide)
  have e2 : ar (VV m) d main_arg2 = ag m d main_arg2 := W5_arg m d main_arg2 (by decide)
  have e9 : ar (VV m) d main_arg9 = ag m d main_arg9 := W5_arg m d main_arg9 (by decide)
  have e10 : ar (VV m) d main_v7 = shapeCast S1x64 (ag m d main_arg10 : Vec Ideal S64 .f32) shapeCasts_S64_S1x64 := W5_v7 m d
  have e11 : ar (VV m) d main_arg11 = ag m d main_arg11 := W5_arg m d main_arg11 (by decide)
  have e12 : ar (VV m) d main_v8 = shapeCast S1x1 (ag m d main_arg12 : Vec Ideal S1 .f32) shapeCasts_S1_S1x1 := W5_v8 m d
  have e13 : ar (VV m) d main_arg13 = ag m d main_arg13 := W5_arg m d main_arg13 (by decide)
  have e14 : ar (VV m) d main_v9 = shapeCast S1x64 (ag m d main_arg14 : Vec Ideal S64 .f32) shapeCasts_S64_S1x64 := W5_v9 m d
  unfold yK yA
  refine Eq.trans ?_ (RVal.full_apply (ag m d main_arg0) h.idx _ _ _ _ _ _ _ _ _ _ _ _ _ _ h.off n j).symm
  rw [e1, e2, e9, e10, e11, e12, e13, e14, funext (CW_eq h _), funext (row64 _), funext (row64 _), row1]

theorem fin_y (h : Ok m d) (n : Fin 16384) (j : Fin 64) : Fin' (yA m d (ix2 n j)) := by
  unfold yA
  rw [show Ref.fullY (F := Ideal) _ _ _ _ _ _ _ _ _ _ _ _ _ _ _ (ix2 n j) = _ from RVal.full_apply (ag m d main_arg0) h.idx _ _ _ _ _ _ _ _ _ _ _ _ _ _ h.off n j]
  exact fin_rowS _ _ _ _ _ _ (h.hf n) (fun e => fin_logistic _) h.fm h.fb j

/-- The kernel's result is the reference's, of the kernel's arguments. -/
theorem out_same (h : Ok m d) : out (W5 m) d = outA m d := by
  funext i
  obtain ⟨n, j, rfl⟩ : ∃ (n : Fin 16384) (j : Fin 64), i = ix2 n j := ⟨i 0, i 1, eq_ix2 i⟩
  have e15 : ar (VV m) d main_v10 = shapeCast S1x64 (ag m d main_arg15 : Vec Ideal S64 .f32) shapeCasts_S64_S1x64 := W5_v10 m d
  have e16 : ar (VV m) d main_v11 = shapeCast S1x64 (ag m d main_arg16 : Vec Ideal S64 .f32) shapeCasts_S64_S1x64 := W5_v11 m d
  refine (out_apply (offs h) n j).trans ?_
  unfold outA
  refine Eq.trans ?_ (RVal.outR_apply _ _ _ n j).symm
  rw [e15, e16, row64, row64, yK_eq h n j]
  rw [Finset.sum_congr rfl fun x _ => yK_eq h x j, Finset.sum_congr rfl fun x _ => congrArg₂ (· * ·) (yK_eq h x j) (yK_eq h x j)]
  exact bn_eq (fun x => yA m d (ix2 x j)) (fun x => fin_y h x j) n _ _

end Cert.Proof.Same

end
-- ==== Proof.Print.lean ====
/-
  The program as printed and the idealized program are the same text: their body tables and threads agree at the bits.
-/
module

public import proofs.«01_k».proof.Defs
public import proofs.«01_k».proof.Proof.Gen.Kernel
public import proofs.«01_k».proof.Proof.Gen.KernelIdeal

@[expose] public section

namespace Cert.Proof.Print

open Idealize.ShloMosaic

theorem body0 (c s a) : Cert.Kernel.defs₀ (F := Bits) (.scVector c s) 0 a = Cert.KernelIdeal.defs₀ (F := Bits) (.scVector c s) 0 a := by
  unfold Cert.Kernel.defs₀ Cert.KernelIdeal.defs₀
  rfl

theorem body1 (c s a) : Cert.Kernel.defs₀ (F := Bits) (.scVector c s) 1 a = Cert.KernelIdeal.defs₀ (F := Bits) (.scVector c s) 1 a := by
  unfold Cert.Kernel.defs₀ Cert.KernelIdeal.defs₀
  rfl

theorem body2 (a) : Cert.Kernel.defs₀ (F := Bits) .tc 2 a = Cert.KernelIdeal.defs₀ (F := Bits) .tc 2 a := by
  obtain ⟨t, s⟩ := a
  unfold Cert.Kernel.defs₀ Cert.KernelIdeal.defs₀
  rfl

theorem rest0 (a) : Cert.Kernel.defs₀ (F := Bits) .tc 0 a = Cert.KernelIdeal.defs₀ (F := Bits) .tc 0 a := by
  unfold Cert.Kernel.defs₀ Cert.KernelIdeal.defs₀
  rfl

theorem rest1 (a) : Cert.Kernel.defs₀ (F := Bits) .tc 1 a = Cert.KernelIdeal.defs₀ (F := Bits) .tc 1 a := by
  unfold Cert.Kernel.defs₀ Cert.KernelIdeal.defs₀
  rfl

theorem rest2 (c s a) : Cert.Kernel.defs₀ (F := Bits) (.scVector c s) 2 a = Cert.KernelIdeal.defs₀ (F := Bits) (.scVector c s) 2 a := by
  unfold Cert.Kernel.defs₀ Cert.KernelIdeal.defs₀
  rfl

theorem rest3 (c a) : Cert.Kernel.defs₀ (F := Bits) (.scScalar c) 0 a = Cert.KernelIdeal.defs₀ (F := Bits) (.scScalar c) 0 a := by
  unfold Cert.Kernel.defs₀ Cert.KernelIdeal.defs₀
  rfl

theorem rest4 (c a) : Cert.Kernel.defs₀ (F := Bits) (.scScalar c) 1 a = Cert.KernelIdeal.defs₀ (F := Bits) (.scScalar c) 1 a := by
  unfold Cert.Kernel.defs₀ Cert.KernelIdeal.defs₀
  rfl

theorem rest5 (c a) : Cert.Kernel.defs₀ (F := Bits) (.scScalar c) 2 a = Cert.KernelIdeal.defs₀ (F := Bits) (.scScalar c) 2 a := by
  unfold Cert.Kernel.defs₀ Cert.KernelIdeal.defs₀
  rfl

theorem bodies : Cert.Kernel.defs₀ (F := Bits) = Cert.KernelIdeal.defs₀ (F := Bits) := by
  refine funext fun p => funext fun l => funext fun a => ?_
  match p, l with
  | .scVector c s, 0 => exact body0 c s a
  | .scVector c s, 1 => exact body1 c s a
  | .scVector c s, 2 => exact rest2 c s a
  | .tc, 0 => exact rest0 a
  | .tc, 1 => exact rest1 a
  | .tc, 2 => exact body2 a
  | .scScalar c, 0 => exact rest3 c a
  | .scScalar c, 1 => exact rest4 c a
  | .scScalar c, 2 => exact rest5 c a

theorem tables : Cert.Kernel.defs (F := Bits) = Cert.KernelIdeal.defs (F := Bits) :=
  congrArg (fun D => Cert.KernelIdeal.sc.defs (Pipeline.defs Cert.KernelIdeal.pcfgs D)) bodies

theorem runs : Cert.Kernel.threads (F := Bits) = Cert.KernelIdeal.threads (F := Bits) := rfl

end Cert.Proof.Print
-- ==== Proof.Near.lean ====
/-
  The first greatest score and the first least distance of a row: what a fold by the first-least body gives, what the
  kernel's index reduction gives, and that both find the same one.
-/
module

public import proofs.«01_k».proof.Proof.Gen.NearestIdeal
public import Idealize.ShloMosaic.PureOps
public import Idealize.ShloMosaic.Lib.ValueIdx
public import Idealize.ShloMosaic.Lib.Pointwise
public import Idealize.ShloMosaic.PureOps.Reduce
public import Idealize.ShloMosaic.PureOps.Ideal.Laws

@[expose] public section

noncomputable section

namespace Cert.Proof.Near

open Idealize.ShloMosaic

/-- `k` is the first of the row's greatest entries. -/
def FirstMax {n : Nat} (g : Fin n → EReal) (k : Fin n) : Prop := (∀ j, g j ≤ g k) ∧ ∀ j, g j = g k → k ≤ j

/-- `k` is the first of the row's least entries. -/
def FirstMin {n : Nat} (d : Fin n → EReal) (k : Fin n) : Prop := (∀ j, d k ≤ d j) ∧ ∀ j, d j = d k → k ≤ j

/-- A row that is not empty has a first greatest entry. -/
theorem exists_firstMax {n : Nat} (hn : 0 < n) (g : Fin n → EReal) : ∃ k, FirstMax g k := by
  haveI : Nonempty (Fin n) := ⟨⟨0, hn⟩⟩
  obtain ⟨t, -, ht⟩ := Finset.exists_max_image (Finset.univ : Finset (Fin n)) g Finset.univ_nonempty
  have hs : (Finset.univ.filter fun j => g j = g t).Nonempty := ⟨t, by simp⟩
  refine ⟨(Finset.univ.filter fun j => g j = g t).min' hs, ?_⟩
  have hk : g ((Finset.univ.filter fun j => g j = g t).min' hs) = g t := (Finset.mem_filter.1 (Finset.min'_mem _ hs)).2
  exact ⟨fun j => (ht j (Finset.mem_univ _)).trans hk.ge, fun j hj => Finset.min'_le _ _ (by simp [hj, hk])⟩

/-- Reals `d j = h - 2 g j` are least where the `g j` are greatest. -/
theorem firstMin_of_firstMax {n : Nat} {g d : Fin n → EReal} {k : Fin n} (h : ℝ) (γ : Fin n → ℝ) (hg : ∀ j, g j = (γ j : EReal))
    (hd : ∀ j, d j = ((h - 2 * γ j : ℝ) : EReal)) (hk : FirstMax g k) : FirstMin d k := by
  refine ⟨fun j => ?_, fun j hj => hk.2 j ?_⟩
  · have := hk.1 j
    rw [hg, hg, EReal.coe_le_coe_iff] at this
    rw [hd, hd, EReal.coe_le_coe_iff]
    linarith
  · rw [hd, hd, EReal.coe_eq_coe_iff] at hj
    rw [hg, hg, EReal.coe_eq_coe_iff]
    linarith

/-! ## The fold -/

/-- A fold by a body that returns one of its two operands, and the best one where it meets it, ends at the best one. -/
theorem foldl_best {α : Type} (f : α → α → α) (best : α) (hf : ∀ a b, f a b = a ∨ f a b = b) :
    ∀ (L : List α) (a : α), (∀ b ∈ L, f best b = best) → (∀ b, b = a ∨ b ∈ L → f b best = best) → (a = best ∨ best ∈ L) →
      L.foldl f a = best := by
  intro L
  induction L with
  | nil => intro a _ _ h; simpa using h
  | cons b L ih =>
    intro a hl hr h
    rw [List.foldl_cons]
    refine ih (f a b) (fun x hx => hl x (List.mem_cons_of_mem _ hx)) (fun x hx => ?_) ?_
    · rcases hx with rfl | hx
      · rcases hf a b with e | e <;> rw [e]
        · exact hr a (.inl rfl)
        · exact hr b (.inr (List.mem_cons_self ..))
      · exact hr x (.inr (List.mem_cons_of_mem _ hx))
    · rcases h with rfl | h
      · exact .inl (hl b (List.mem_cons_self ..))
      · rcases List.mem_cons.1 h with rfl | h
        · exact .inl (hr a (.inl rfl))
        · exact .inr h

theorem cmpf_ideal (p : CmpFPredicate) (a b : EReal) : FloatOps.cmpf (F := Ideal) (φ := .f32) p a b = Ideal.cmp p a b := rfl

open Classical in
/-- The body of the reference's search at the extended reals: the operand of the lesser value, or of the lesser index where the
    values are equal. -/
theorem reducer_eq (a b : EReal × BitVec 32) :
    Cert.NearestIdeal.reducer_argmin_f32_i32 (F := Ideal) a b = if a.1 < b.1 ∨ a.1 = b.1 ∧ a.2.toInt < b.2.toInt then a else b := by
  obtain ⟨x, i⟩ := a
  obtain ⟨y, j⟩ := b
  by_cases h1 : x < y
  · simp [Cert.NearestIdeal.reducer_argmin_f32_i32, cmpf_ideal, Ideal.cmp, h1, ne_of_lt h1, IntOp.ori, IntOp.andi, Scalar.select, IntOp.cmpi]
  · by_cases h2 : x = y
    · subst h2
      by_cases h3 : i.toInt < j.toInt
      · simp [Cert.NearestIdeal.reducer_argmin_f32_i32, cmpf_ideal, Ideal.cmp, h3, IntOp.ori, IntOp.andi, Scalar.select, IntOp.cmpi, BitVec.slt]
      · simp [Cert.NearestIdeal.reducer_argmin_f32_i32, cmpf_ideal, Ideal.cmp, h3, IntOp.ori, IntOp.andi, Scalar.select, IntOp.cmpi, BitVec.slt]
    · simp [Cert.NearestIdeal.reducer_argmin_f32_i32, cmpf_ideal, Ideal.cmp, h1, h2, IntOp.ori, IntOp.andi, Scalar.select, IntOp.cmpi]

theorem ofNat_toInt {n : Nat} (h : n < 4096) : (BitVec.ofNat 32 n).toInt = (n : Int) := by
  rw [BitVec.toInt_eq_toNat_cond, BitVec.toNat_ofNat, Nat.mod_eq_of_lt (by omega), if_pos (by omega)]

/-- The fold over a row's pairs from (∞, 0) ends at the row's first least entry. -/
theorem fold_firstMin {d : Fin 4096 → EReal} {k : Fin 4096} (hk : FirstMin d k) (L : List (EReal × BitVec 32))
    (hL : ∀ p, p ∈ L ↔ ∃ j : Fin 4096, p = (d j, BitVec.ofNat 32 j.val)) (ht : d k < ⊤) :
    L.foldl (Cert.NearestIdeal.reducer_argmin_f32_i32 (F := Ideal)) (⊤, 0#32) = (d k, BitVec.ofNat 32 k.val) := by
  classical
  refine foldl_best _ _ (fun a b => ?_) L _ (fun b hb => ?_) (fun b hb => ?_) (.inr ((hL _).2 ⟨k, rfl⟩))
  · rw [reducer_eq]; split <;> simp
  · obtain ⟨j, rfl⟩ := (hL b).1 hb
    rw [reducer_eq]
    by_cases e : j = k
    · subst e; simp
    · rw [if_pos]
      rcases lt_or_eq_of_le (hk.1 j) with h | h
      · exact .inl h
      · refine .inr ⟨h, ?_⟩
        rw [ofNat_toInt k.isLt, ofNat_toInt j.isLt]
        have := hk.2 j h.symm
        have hne : j.val ≠ k.val := fun h => e (Fin.ext h)
        have : k.val ≤ j.val := this
        omega
  · rw [reducer_eq]
    rcases hb with rfl | hb
    · rw [if_neg]
      rintro (h | ⟨h, -⟩)
      · exact absurd h (by simp)
      · exact absurd h.symm (ne_of_lt ht)
    · obtain ⟨j, rfl⟩ := (hL b).1 hb
      rw [if_neg]
      rintro (h | ⟨h, h'⟩)
      · exact absurd h (not_lt.2 (hk.1 j))
      · rw [ofNat_toInt k.isLt, ofNat_toInt j.isLt] at h'
        have : k.val ≤ j.val := hk.2 j h
        omega

/-! ## The two reductions of a row -/

/-- The indices of a table that a reduction along its rows sends to `j` are those of row `j`. -/
theorem drop_row {a b : Nat} (h : (⟨2, ![a, b]⟩ : Shape).ReducesTo [1] ⟨1, ![a]⟩) (i : (⟨2, ![a, b]⟩ : Shape).Idx) (r : Fin a) :
    h.drop i = ix1 r ↔ i = ix2 r (i 1) := by
  have e : (h.drop i 0 : Nat) = i 0 := rfl
  constructor
  · intro hd
    funext x
    match x with
    | ⟨0, _⟩ =>
      refine Fin.ext ?_
      rw [hd] at e
      exact e.symm
    | ⟨1, _⟩ => rfl
  · intro hi
    funext x
    match x with
    | ⟨0, _⟩ =>
      refine Fin.ext (e.trans ?_)
      rw [hi]; rfl

/-- The kernel's index reduction along the rows gives each row's first greatest entry. -/
theorem reduceIndex_row {a : Nat} (h : (⟨2, ![a, 4096]⟩ : Shape).Reduces [1] ⟨1, ![a]⟩) (x : (⟨2, ![a, 4096]⟩ : Shape).Idx → EReal)
    (r : Fin a) (k : Fin 4096) (hk : FirstMax (fun j => x (ix2 r j)) k) :
    Ideal.reduceIndex .argMax 1 h x (ix1 r) = BitVec.ofNat 32 k.val := by
  classical
  have hd : ∀ i, h.drop i = ix1 r ↔ i = ix2 r (i 1) := fun i => drop_row h.reducesTo i r
  have hr : ∀ j : Fin 4096, h.drop (ix2 r j) = ix1 r := fun j => (hd _).2 rfl
  unfold Ideal.reduceIndex
  have key : ((((Finset.univ.filter fun i => h.drop i = ix1 r).filter fun i => ∀ i' ∈ Finset.univ.filter (fun i => h.drop i = ix1 r),
      ¬ x i < x i').image fun i => (i 1).val).min) = ((k.val : ℕ) : WithTop ℕ) := by
    refine le_antisymm (Finset.min_le ?_) (Finset.le_min fun v hv => ?_)
    · refine Finset.mem_image.2 ⟨ix2 r k, ?_, rfl⟩
      refine Finset.mem_filter.2 ⟨Finset.mem_filter.2 ⟨Finset.mem_univ _, hr k⟩, fun i' hi' => ?_⟩
      rw [(hd i').1 (Finset.mem_filter.1 hi').2]
      exact not_lt.2 (hk.1 _)
    · obtain ⟨i, hi, rfl⟩ := Finset.mem_image.1 hv
      obtain ⟨hi, hm⟩ := Finset.mem_filter.1 hi
      have ei := (hd i).1 (Finset.mem_filter.1 hi).2
      have := hm (ix2 r k) (Finset.mem_filter.2 ⟨Finset.mem_univ _, hr k⟩)
      rw [ei] at this
      exact WithTop.coe_le_coe.2 (hk.2 (i 1) (le_antisymm (hk.1 _) (not_lt.1 this)))
  simp only [if_true]
  rw [show (1 : Fin (⟨2, ![a, 4096]⟩ : Shape).rank) = 1 from rfl] at *
  rw [key]
  rfl

/-- The reference's first-least reduction along the rows of a table of reals gives each row's first least entry. -/
theorem argReduce_row {a : Nat} (h : (⟨2, ![a, 4096]⟩ : Shape).ReducesTo [1] ⟨1, ![a]⟩) (hu : 0 < (⟨0, ![]⟩ : Shape).numel)
    (x : (⟨2, ![a, 4096]⟩ : Shape).Idx → EReal) (y : (⟨2, ![a, 4096]⟩ : Shape).Idx → BitVec 32) (hy : ∀ i, y i = BitVec.ofNat 32 (i 1).val)
    (u : (⟨0, ![]⟩ : Shape).Idx → EReal) (hu' : ∀ i, u i = ⊤) (v : (⟨0, ![]⟩ : Shape).Idx → BitVec 32) (hv : ∀ i, v i = 0#32)
    (r : Fin a) (k : Fin 4096) (hk : FirstMin (fun j => x (ix2 r j)) k) (ht : x (ix2 r k) < ⊤) :
    (Host.argReduce (F := Ideal) (φ := .f32) (Cert.NearestIdeal.reducer_argmin_f32_i32 (F := Ideal)) x y u v h hu (ix1 r)).2 = BitVec.ofNat 32 k.val := by
  have e := Ideal.argReduce_eq_reduce2 (φ := .f32) (Cert.NearestIdeal.reducer_argmin_f32_i32 (F := Ideal)) x y u v h hu
  rw [e, Host.reduce2_eq_foldl_fiber, hu', hv]
  refine congrArg Prod.snd (fold_firstMin (d := fun j => x (ix2 r j)) hk _ (fun p => ?_) ht)
  unfold Host.argReduceFiber
  rw [List.mem_map]
  constructor
  · rintro ⟨n, hn, rfl⟩
    have hn := (List.mem_filter.1 hn).2
    have ei := (drop_row h _ r).1 (of_decide_eq_true hn)
    refine ⟨((⟨2, ![a, 4096]⟩ : Shape).rowMajor.symm n) 1, ?_⟩
    exact Prod.ext (congrArg x ei) (hy _)
  · rintro ⟨j, rfl⟩
    refine ⟨(⟨2, ![a, 4096]⟩ : Shape).rowMajor (ix2 r j), List.mem_filter.2 ⟨List.mem_finRange _, ?_⟩, ?_⟩
    · rw [Equiv.symm_apply_apply]
      exact decide_eq_true ((drop_row h _ r).2 rfl)
    · rw [Equiv.symm_apply_apply, hy]; rfl

end Cert.Proof.Near

end
-- ==== Proof.NearRef.lean ====
/-
  The reference of the search: its operations in order, its run, and the index that it gives each point.
-/
module

public import proofs.«01_k».proof.Proof.Near
public import Idealize.ShloMosaic.Lib.StableHlo.Run

@[expose] public section

noncomputable section

namespace Cert.Proof.NearRef

open Cert.NearestIdeal Cert.NearestIdeal.Gen Idealize.ShloMosaic Idealize.ShloMosaic.TcCoe Idealize.SL.Sem Idealize.ShloMosaic.StableHlo

variable {F : FTy → Type} [FloatOps F]

/-- The reference's operations, in order. -/
abbrev steps : List (HloOp τ sig (Elt F)) :=
  [ binary main_arg0 main_arg0 main_v0 (mulf : (⟨S16384x3, .f32⟩ : BufTy).Contents (Elt F) → (⟨S16384x3, .f32⟩ : BufTy).Contents (Elt F) → (⟨S16384x3, .f32⟩ : BufTy).Contents (Elt F)),
    nullary main_cst (constant S_ .f32 0x00000000#32),
    binary main_v0 main_cst main_v1 ((fun x v => Host.reduceAdd x v reducesTo_S16384x3_S16384_d1 h_S_) : (⟨S16384x3, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S4096x3, .f32⟩ : BufTy).Contents (Elt F) → (⟨S4096x3, .f32⟩ : BufTy).Contents (Elt F) → (⟨S4096x3, .f32⟩ : BufTy).Contents (Elt F)),
    nullary main_cst_0 (constant S_ .f32 0x00000000#32),
    binary main_v3 main_cst_0 main_v4 ((fun x v => Host.reduceAdd x v reducesTo_S4096x3_S4096_d1 h_S_) : (⟨S4096x3, .f32⟩ : BufTy).Contents (Elt F) → (⟨S_, .f32⟩ : BufTy).Contents (Elt F) → (⟨S4096, .f32⟩ : BufTy).Contents (Elt F)),
    unary main_v4 main_v5 (broadcastInDim S1x4096 ![1] bcast_S4096_S1x4096_1 : (⟨S4096, .f32⟩ : BufTy).Contents (Elt F) → (⟨S1x4096, .f32⟩ : BufTy).Contents (Elt F)),
    unary main_v2 main_v6 (broadcastInDim S16384x4096 ![0, 1] bcast_S16384x1_S16384x4096_0_1 : (⟨S16384x1, .f32⟩ : BufTy).Contents (Elt F) → (⟨S16384x4096, .f32⟩ : BufTy).Contents (Elt F)),
    unary main_v5 main_v7 (broadcastInDim S16384x4096 ![0, 1] bcast_S1x4096_S16384x4096_0_1 : (⟨S1x4096, .f32⟩ : BufTy).Contents (Elt F) → (⟨S16384x4096, .f32⟩ : BufTy).Contents (Elt F)),
    binary main_v6 main_v7 main_v8 (addf : (⟨S16384x4096, .f32⟩ : BufTy).Contents (Elt F) → (⟨S16384x4096, .f32⟩ : BufTy).Contents (Elt F) → (⟨S16384x4096, .f32⟩ : BufTy).Contents (Elt F)),
    unary main_arg1 main_v9 ((transpose S3x4096 [1, 0] · transposes_S4096x3_S3x4096_1_0) : (⟨S4096x3, .f32⟩ : BufTy).Contents (Elt F) → (⟨S3x4096, .f32⟩ : BufTy).Contents (Elt F)),
    binary main_arg0 main_v9 main_v10 ((fun l r => Host.dotGeneral dot_S16384x3_S3x4096_S16384x4096_1_0_0_1_n_n none l r) : (⟨S16384x3, .f32⟩ : BufTy).Contents (Elt F) → (⟨S3x4096, .f32⟩ : BufTy).Contents (Elt F) → (⟨S16384x4096, .f32⟩ : BufTy).Contents (Elt F)),
    nullary main_cst_1 (constant S_ .f32 0x40000000#32),
    unary main_cst_1 main_v11 (broadcastInDim S16384x4096 ![] bcast_S_S16384x4096 : (⟨S_, .f32⟩ : BufTy).Contents (Elt F) → (⟨S16384x4096, .f32⟩ : BufTy).Contents (Elt F)),
    binary main_v11 main_v10 main_v12 (mulf : (⟨S16384x4096, .f32⟩ : BufTy).Contents (Elt F) → (⟨S16384x4096, .f32⟩ : BufTy).Contents (Elt F) → (⟨S16384x4096, .f32⟩ : BufTy).Contents (Elt F)),
    binary main_v8 main_v12 main_v13 (subf : (⟨S16384x4096, .f32⟩ : BufTy).Contents (Elt F) → (⟨S16384x4096, .f32⟩ : BufTy).Contents (Elt F) → (⟨S16384x4096, .f32⟩ : BufTy).Contents (Elt F)),
    TRef.nullary (.of main_call0_v0) (iotaInDim S16384x4096 32 1),
    TRef.nullary (.of main_call0_cst) (constant S_ .f32 0x7F800000#32),
    TRef.nullary (.of main_call0_c) (constantI S_ 32 0#32),
    TRef.quaternary (.of main_v13) (.of main_call0_v0) (.of main_call0_cst) (.of main_call0_c) (.of main_call0_v1_0) (fun x y u v j => (Host.argReduce reducer_argmin_f32_i32 x y u v reducesTo_S16384x4096_S16384_d1 h_S_ j).1),
    TRef.quaternary (.of main_v13) (.of main_call0_v0) (.of main_call0_cst) (.of main_call0_c) (.of main_v14) (fun x y u v j => (Host.argReduce reducer_argmin_f32_i32 x y u v reducesTo_S16384x4096_S16384_d1 h_S_ j).2),
    unary main_v14 main_v15 (broadcastInDim S16384x1 ![0] bcast_S16384_S16384x1_0 : (⟨S16384, .i32⟩ : BufTy).Contents (Elt F) → (⟨S16384x1, .i32⟩ : BufTy).Contents (Elt F)) ]

theorem main_steps (c : Dev nD) : main (F := F) c = seq steps := rfl
theorem no_scoped_refs : (Finset.univ.filter fun b : Ref sig .tc => b.isScoped) = ∅ := by decide
theorem no_scoped_sems : (Finset.univ.filter fun sm : SemLoc sig => sm.isScoped .tc) = ∅ := by decide
theorem steps_sub : (steps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub ..⟩

/-- The squared distances of the points from the low-resolution points. -/
def gaps (hc : FVec F S16384x3 .f32) (lc : FVec F S4096x3 .f32) : FVec F S16384x4096 .f32 :=
  subf
    (addf (broadcastInDim S16384x4096 ![0, 1] bcast_S16384x1_S16384x4096_0_1
        (broadcastInDim S16384x1 ![0] bcast_S16384_S16384x1_0 (Host.reduceAdd (mulf hc hc) (constant S_ .f32 0x00000000#32) reducesTo_S16384x3_S16384_d1 h_S_)))
      (broadcastInDim S16384x4096 ![0, 1] bcast_S1x4096_S16384x4096_0_1
        (broadcastInDim S1x4096 ![1] bcast_S4096_S1x4096_1 (Host.reduceAdd (mulf lc lc) (constant S_ .f32 0x00000000#32) reducesTo_S4096x3_S4096_d1 h_S_))))
    (mulf (broadcastInDim S16384x4096 ![] bcast_S_S16384x4096 (constant S_ .f32 0x40000000#32))
      (Host.dotGeneral dot_S16384x3_S3x4096_S16384x4096_1_0_0_1_n_n none hc (transpose S3x4096 [1, 0] lc transposes_S4096x3_S3x4096_1_0)))

/-- The least of the distances of each point, with its index. -/
def picks (d : FVec F S16384x4096 .f32) : S16384.Idx → F .f32 × BitVec 32 :=
  Host.argReduce reducer_argmin_f32_i32 d (iotaInDim S16384x4096 32 1) (constant S_ .f32 0x7F800000#32) (constantI S_ 32 0#32)
    reducesTo_S16384x4096_S16384_d1 h_S_

/-- The indices of the least distances. -/
def least (hc : FVec F S16384x3 .f32) (lc : FVec F S4096x3 .f32) : IVec S16384x1 32 :=
  broadcastInDim S16384x1 ![0] bcast_S16384_S16384x1_0 fun j => (picks (gaps hc lc) j).2

set_option maxHeartbeats 2000000 in
/-- The reference's run: its result is the indices of the least distances, and its arguments end as they began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = least (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by simp only [steps, TRef.nullary, TRef.quaternary, TRef.toBuf, TRef.ofBuf, cast_eq]; after_results_simp <;> rfl),
      (h c main_arg0).trans (by simp only [steps, TRef.nullary, TRef.quaternary, TRef.toBuf, TRef.ofBuf, cast_eq]; after_results_simp <;> rfl),
      (h c main_arg1).trans (by simp only [steps, TRef.nullary, TRef.quaternary, TRef.toBuf, TRef.ofBuf, cast_eq]; after_results_simp <;> rfl)⟩)
    (run_seq no_scoped_refs no_scoped_sems defs main (fun _ => steps) main_steps (fun _ => steps_sub) m ρ)

end Cert.Proof.NearRef

end
-- ==== Proof.NearVal.lean ====
/-
  The search's block at the extended reals, and the reference's: both give each point the first of its greatest scores.
-/
module

public import proofs.«01_k».proof.Proof.NearRef
public import proofs.«01_k».proof.Proof.Gen.SearchIdeal.Value

@[expose] public section

noncomputable section

namespace Cert.Proof.NearVal

open Cert.Proof.Near Cert.Proof.NearRef
open Idealize.ShloMosaic

/-- The product of two points. -/
def dot3 (a b : Fin 3 → ℝ) : ℝ := a 0 * b 0 + a 1 * b 1 + a 2 * b 2

/-- The score of a low-resolution point at a point: their product less half its squared length. -/
def score (a b : Fin 3 → ℝ) : ℝ := dot3 a b - dot3 b b / 2

theorem ofBits_half : Ideal.ofBits FTy.f32 3204448256#32 = ((-(1 / 2) : ℝ) : EReal) := by
  simp [Ideal.ofBits, Ideal.ieee, -EReal.coe_mul]; norm_num

theorem ofBits_two : Ideal.ofBits FTy.f32 1073741824#32 = ((2 : ℝ) : EReal) := by
  simp [Ideal.ofBits, Ideal.ieee, -EReal.coe_mul]; norm_num

section Reference

open Cert.NearestIdeal Cert.NearestIdeal.Gen

/-- A distance of the reference, of real coordinates. -/
theorem gaps_apply (hc : FVec Ideal S16384x3 .f32) (lc : FVec Ideal S4096x3 .f32) (n : Fin 16384) (j : Fin 4096) (a b : Fin 3 → ℝ)
    (ha : ∀ x, hc (ix2 n x) = (a x : EReal)) (hb : ∀ x, lc (ix2 j x) = (b x : EReal)) :
    gaps (F := Ideal) hc lc (ix2 n j) = ((dot3 a a - 2 * score a b : ℝ) : EReal) := by
  unfold gaps
  pointwise
  simp only [ha, hb, ofBits_two, Fin.sum_univ_three, ← EReal.coe_mul, ← EReal.coe_add, ← EReal.coe_sub]
  refine congrArg _ ?_
  unfold score dot3
  ring

theorem spread_at (f : IVec S16384 32) (n : Fin 16384) : broadcastInDim S16384x1 ![0] bcast_S16384_S16384x1_0 f (ix2 n 0) = f (ix1 n) := by
  pointwise

theorem iota_at (i : S16384x4096.Idx) : iotaInDim S16384x4096 32 1 i = BitVec.ofNat 32 (i 1).val := by unfold iotaInDim; rfl

theorem top_at (i : S_.Idx) : constant (F := Ideal) S_ .f32 0x7F800000#32 i = (⊤ : EReal) := by
  show Ideal.ofBits .f32 0x7F800000#32 = ⊤
  simp [Ideal.ofBits, Ideal.ieee]

theorem zero_at (i : S_.Idx) : constantI S_ 32 0#32 i = 0#32 := rfl

theorem first_row (d : FVec Ideal S16384x4096 .f32) (y : IVec S16384x4096 32) (hy : ∀ i, y i = BitVec.ofNat 32 (i 1).val) (u : FVec Ideal S_ .f32) (hu : ∀ i, u i = (⊤ : EReal))
    (v : IVec S_ 32) (hv : ∀ i, v i = 0#32) (n : Fin 16384) (k : Fin 4096) (hk : FirstMin (fun j => d (ix2 n j)) k) (ht : d (ix2 n k) < (⊤ : EReal)) :
    (Host.argReduce (F := Ideal) reducer_argmin_f32_i32 d y u v reducesTo_S16384x4096_S16384_d1 h_S_ (ix1 n)).2 = BitVec.ofNat 32 k.val :=
  argReduce_row reducesTo_S16384x4096_S16384_d1 h_S_ d y hy u hu v hv n k hk ht

theorem picks_row (d : FVec Ideal S16384x4096 .f32) (n : Fin 16384) (k : Fin 4096) (hk : FirstMin (fun j => d (ix2 n j)) k) (ht : d (ix2 n k) < (⊤ : EReal)) :
    (picks (F := Ideal) d (ix1 n)).2 = BitVec.ofNat 32 k.val := by
  unfold picks
  exact first_row d _ iota_at _ top_at _ zero_at n k hk ht

theorem least_at (hc : FVec Ideal S16384x3 .f32) (lc : FVec Ideal S4096x3 .f32) (n : Fin 16384) :
    least (F := Ideal) hc lc (ix2 n 0) = (picks (F := Ideal) (gaps (F := Ideal) hc lc) (ix1 n)).2 := by
  unfold least
  generalize picks (F := Ideal) (gaps (F := Ideal) hc lc) = p
  exact spread_at (fun j => (p j).2) n

/-- The reference's index of a point: that of its first greatest score. -/
theorem least_apply (hc : FVec Ideal S16384x3 .f32) (lc : FVec Ideal S4096x3 .f32) (n : Fin 16384) (a : Fin 3 → ℝ) (b : Fin 4096 → Fin 3 → ℝ)
    (ha : ∀ x, hc (ix2 n x) = (a x : EReal)) (hb : ∀ j x, lc (ix2 j x) = (b j x : EReal)) (k : Fin 4096)
    (hk : FirstMax (fun j => ((score a (b j) : ℝ) : EReal)) k) :
    least (F := Ideal) hc lc (ix2 n 0) = BitVec.ofNat 32 k.val := by
  have hd : ∀ j, gaps (F := Ideal) hc lc (ix2 n j) = ((dot3 a a - 2 * score a (b j) : ℝ) : EReal) := fun j => gaps_apply hc lc n j a (b j) ha (hb j)
  have hm : FirstMin (fun j => gaps (F := Ideal) hc lc (ix2 n j)) k :=
    firstMin_of_firstMax (dot3 a a) (fun j => score a (b j)) (fun _ => rfl) hd hk
  have ht : gaps (F := Ideal) hc lc (ix2 n k) < ⊤ := by rw [hd]; exact EReal.coe_lt_top _
  exact (least_at hc lc n).trans (picks_row _ n k hm ht)

end Reference

section Kernel

open Cert.SearchIdeal Cert.SearchIdeal.Gen

/-- The scores of a block. -/
def scores (x : Vec Ideal S2048x3 .f32) (y : Vec Ideal S3x4096 .f32) : FVec Ideal S2048x4096 .f32 :=
  matmul dot_S2048x4_S4x4096_S2048x4096_1_0_0_1_n_n none
    (concatenate S2048x4 1 [⟨S2048x3, x⟩, ⟨S2048x1, broadcast S2048x1 (Scalar.ofBits (F := Ideal) .f32 0x3F800000#32)⟩] concatenates_S2048x3_S2048x1_S2048x4_d1)
    (concatenate S4x4096 0 [⟨S3x4096, shapeCast S3x4096 y shapeCasts_S3x4096_S3x4096⟩, ⟨S1x4096, mulf (broadcast S1x4096 (Scalar.ofBits (F := Ideal) .f32 0xBF000000#32))
      (shapeCast S1x4096 (multiReduction .add [0] S4096 (mulf (shapeCast S3x4096 y shapeCasts_S3x4096_S3x4096) (shapeCast S3x4096 y shapeCasts_S3x4096_S3x4096)) 0x00000000#32
        reduces_S3x4096_S4096 (.inl rfl) rfl) shapeCasts_S4096_S1x4096)⟩] concatenates_S3x4096_S1x4096_S4x4096_d0)
    (constant S2048x4096 .f32 0x00000000#32)

theorem pay_eq (x : Vec Ideal S2048x3 .f32) (y : Vec Ideal S3x4096 .f32) :
    k0_pay1 (F := Ideal) x y = shapeCast S2048x1 (reduceIndex .argMax 1 S2048 (scores x y) reduces_S2048x4096_S2048) shapeCasts_S2048_S2048x1 := rfl

/-- A score of a block, of real coordinates. -/
theorem scores_apply (x : Vec Ideal S2048x3 .f32) (y : Vec Ideal S3x4096 .f32) (r : Fin 2048) (j : Fin 4096) (a b : Fin 3 → ℝ)
    (ha : ∀ q, x (ix2 r q) = (a q : EReal)) (hb : ∀ q, y (ix2 q j) = (b q : EReal)) :
    scores x y (ix2 r j) = ((score a b : ℝ) : EReal) := by
  unfold scores
  pointwise
  simp only [ha, hb, ofBits_half, Fin.sum_univ_three, Finset.univ_unique, Finset.sum_singleton, ← EReal.coe_mul, ← EReal.coe_add]
  refine congrArg _ ?_
  unfold score dot3
  ring

/-- A block's index of a point: that of its first greatest score. -/
theorem pay_apply (x : Vec Ideal S2048x3 .f32) (y : Vec Ideal S3x4096 .f32) (r : Fin 2048) (a : Fin 3 → ℝ) (b : Fin 4096 → Fin 3 → ℝ)
    (ha : ∀ q, x (ix2 r q) = (a q : EReal)) (hb : ∀ j q, y (ix2 q j) = (b j q : EReal)) (k : Fin 4096)
    (hk : FirstMax (fun j => ((score a (b j) : ℝ) : EReal)) k) :
    k0_pay1 (F := Ideal) x y (ix2 r 0) = BitVec.ofNat 32 k.val := by
  have hs : FirstMax (fun j => scores x y (ix2 r j)) k := by
    rw [show (fun j => scores x y (ix2 r j)) = fun j => ((score a (b j) : ℝ) : EReal) from funext fun j => scores_apply x y r j a (b j) ha (hb j)]
    exact hk
  have e : k0_pay1 (F := Ideal) x y (ix2 r 0) = Ideal.reduceIndex .argMax 1 reduces_S2048x4096_S2048 (scores x y) (ix1 r) := by
    rw [pay_eq]
    generalize scores x y = g
    pointwise
    rfl
  exact e.trans (reduceIndex_row _ _ r k hs)

end Kernel

end Cert.Proof.NearVal

end
-- ==== Proof.NearBlk.lean ====
/-
  The search's blocks off the coordinates it is passed, and its result: the reference's indices.
-/
module

public import proofs.«01_k».proof.Proof.NearVal
public import Idealize.ShloMosaic.Lib.StableHlo.Run
public import Idealize.ShloMosaic.Lib.Pipeline.ValueKit.Geometry

@[expose] public section

noncomputable section

namespace Cert.Proof.NearBlk

open Cert.Proof.Near Cert.Proof.NearVal
open Cert.SearchIdeal Cert.SearchIdeal.Gen
open Idealize.ShloMosaic Idealize.ShloMosaic.StableHlo
open Idealize.ShloMosaic.Pipeline (Dat Cfg Window)

variable (m : (ℓ : Loc nD τ sig) → Buf (Elt Ideal) ℓ) (c : Dev nD)

theorem N_0 : cfg0.N = 8 := by decide +kernel

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = 0 ∧ win0_1.index t 1 = 0 :=
  (by decide +kernel : ∀ t : Fin grid0.N, win0_1.index t 0 = 0 ∧ win0_1.index t 1 = 0)

theorem at2 : ∀ t : Fin cfg0.N, win0_2.index t 0 = t.val ∧ win0_2.index t 1 = 0 :=
  (by decide +kernel : ∀ t : Fin grid0.N, win0_2.index t 0 = t.val ∧ win0_2.index t 1 = 0)

theorem row_lt (t : Fin cfg0.N) (r : Fin 2048) : 2048 * t.val + r.val < 16384 := by
  have h : t.val < cfg0.N := t.isLt
  have := r.isLt
  have := h.trans_eq N_0
  omega

/-- The transposed coordinates, as the region finds them. -/
theorem V_turned (q : Fin 3) (j : Fin 4096) : V m c main_v0 (ix2 q j) = m ((c.tc : Thread nD τ).loc main_arg1) (ix2 j q) := by
  have e : V m c main_v0 = transpose S3x4096 [1, 0] (m ((c.tc : Thread nD τ).loc main_arg1)) transposes_S4096x3_S3x4096_1_0 := by
    unfold V
    simp only [hostOps0]
    after_results_simp <;> rfl
  rw [e]
  pointwise

theorem blk0_eq (t : Fin cfg0.N) (r : Fin 2048) (q : Fin 3) :
    iblk m c 0 t (ix2 r q) = m ((c.tc : Thread nD τ).loc main_arg0) (ix2 ⟨2048 * t.val + r.val, row_lt t r⟩ q) := by
  refine Eq.trans ?_ (congrFun (V_main_arg0 m c) _)
  unfold iblk
  have e := at0 t
  blk_simp
  refine congrArg (V m c _) (funext fun a => Fin.ext ?_)
  match a with
  | ⟨0, _⟩ => blk_simp; rw [e.1]; show _ = 2048 * t.val + r.val; omega
  | ⟨1, _⟩ => blk_simp; simp [e.2]

theorem blk1_eq (t : Fin cfg0.N) (q : Fin 3) (j : Fin 4096) :
    iblk m c 1 t (ix2 q j) = m ((c.tc : Thread nD τ).loc main_arg1) (ix2 j q) := by
  refine Eq.trans ?_ (V_turned m c q j)
  unfold iblk
  have e := at1 t
  blk_simp
  refine congrArg (V m c _) (funext fun a => Fin.ext ?_)
  match a with
  | ⟨0, _⟩ => blk_simp; simp [e.1]
  | ⟨1, _⟩ => blk_simp; simp [e.2]

/-- What the body leaves in the result's buffer. -/
theorem out_pay (x : Vec Ideal S2048x3 .f32) (y : Vec Ideal S3x4096 .f32) : out0_2 x y = k0_pay1 x y := by
  unfold out0_2
  rw [View.ld_unit_lit _ x (by decide), View.ld_unit_lit _ y (by decide)]
  exact View.canon_cons_unit_lit _ _ _ (by decide)

theorem out_eq (G : IVec S16384x1 32)
    (hG : ∀ (t : Fin cfg0.N) (r : Fin 2048), k0_pay1 (F := Ideal) (iblk m c 0 t) (iblk m c 1 t) (ix2 r 0) = G (ix2 ⟨2048 * t.val + r.val, row_lt t r⟩ 0)) :
    (dats m 0 c).arrAt 2 cfg0.N = G := by
  refine (dats m 0 c).arrAt_eq_of_covers 2 G (by decide +kernel) fun t hf y => ?_
  have e := at2 t
  blk_simp
  rw [after0_2, out_pay]
  show k0_pay1 (F := Ideal) (iblk m c 0 t) (iblk m c 1 t) y = _
  have hy : ∀ y : S2048x1.Idx, k0_pay1 (F := Ideal) (iblk m c 0 t) (iblk m c 1 t) y = k0_pay1 (F := Ideal) (iblk m c 0 t) (iblk m c 1 t) (ix2 (y 0) 0) := fun y =>
    congrArg _ ((eq_ix2 y).trans (congrArg (ix2 (y 0)) (Subsingleton.elim (α := Fin 1) _ _)))
  refine (hy y).trans ((hG t (y 0)).trans ?_)
  refine congrArg G (funext fun a => Fin.ext ?_)
  match a with
  | ⟨0, _⟩ => blk_simp; show 2048 * t.val + (y (0 : Fin 2)).val = win0_2.index t 0 * 2048 + (y (0 : Fin 2)).val; have := e.1; omega
  | ⟨1, _⟩ => blk_simp; have h1 : (y (1 : Fin 2)).val < 1 := (y (1 : Fin 2)).isLt; simp [e.2]

/-- The search's result is the reference's, where every coordinate is real. -/
theorem result_eq (hh : ∀ i, ∃ r : ℝ, m ((c.tc : Thread nD τ).loc main_arg0) i = (r : EReal)) (hl : ∀ i, ∃ r : ℝ, m ((c.tc : Thread nD τ).loc main_arg1) i = (r : EReal)) :
    (dats m 0 c).arrAt 2 cfg0.N =
      NearRef.least (F := Ideal) (m ((c.tc : Thread nD τ).loc main_arg0)) (m ((c.tc : Thread nD τ).loc main_arg1)) := by
  choose f hf using hh
  choose g hg using hl
  refine out_eq m c _ fun t r => ?_
  obtain ⟨k, hk⟩ := exists_firstMax (n := 4096) (by decide)
    fun j => ((score (fun q => f (ix2 ⟨2048 * t.val + r.val, row_lt t r⟩ q)) (fun q => g (ix2 j q)) : ℝ) : EReal)
  refine (pay_apply _ _ r _ (fun j q => g (ix2 j q)) (fun q => (blk0_eq m c t r q).trans (hf _)) (fun j q => (blk1_eq m c t q j).trans (hg _)) k hk).trans ?_
  exact (least_apply _ _ _ _ (fun j q => g (ix2 j q)) (fun q => hf _) (fun j q => hg _) k hk).symm

end Cert.Proof.NearBlk

end
-- ==== Proof.lean ====
/-
  The claims, assembled.
-/
module

public import proofs.«01_k».proof.Defs
public import proofs.«01_k».proof.Proof.Same
public import proofs.«01_k».proof.Proof.Print
public import proofs.«01_k».proof.Proof.Gen.Kernel
public import proofs.«01_k».proof.Proof.Gen.Pre_inputs_ok
public import proofs.«01_k».proof.Proof.Gen.Pre_one_nearest
public import proofs.«01_k».proof.Proof.Gen.Search.Frame
public import proofs.«01_k».proof.Proof.NearBlk
public import proofs.«01_k».proof.Proof.Gen.ReferenceIdeal.Run
public import Idealize.ShloMosaic.Lib.ReduceAll
public import Idealize.ShloMosaic.Lib.Quiescent

@[expose] public section

noncomputable section

namespace Cert.Proof

open Idealize.ShloMosaic Idealize.SL.Sem

/-! ## The precondition -/

section Pre

open Cert.Pre_inputs_ok

theorem int_range (v : BitVec 32) (h0 : 0 ≤ v.toInt) (h1 : v.toInt < 4096) : v.toNat < 4096 := by
  rw [BitVec.toInt_eq_toNat_cond] at h0 h1
  have := v.isLt
  split at h0 <;> omega

variable {F : FTy → Type} [FloatOps F]
  {a0 : IVec S16384x1 32} {a1 : FVec F S16384x64 .f32} {a2 : FVec F S16384x3 .f32} {a3 : FVec F S4096x64 .f32} {a4 : IVec S4 32} {a5 : FVec F S64x16 .f32}
  {a6 : FVec F S16 .f32} {a7 : FVec F S16x64 .f32} {a8 : FVec F S64 .f32} {a9 : FVec F S67x64 .f32} {a10 : FVec F S64 .f32} {a11 : FVec F S64x1 .f32}
  {a12 : FVec F S1 .f32} {a13 : FVec F S128x64 .f32} {a14 a15 a16 : FVec F S64 .f32}

/-- The precondition says five things. -/
theorem parts (h : fn (F := F) a0 a1 a2 a3 a4 a5 a6 a7 a8 a9 a10 a11 a12 a13 a14 a15 a16 = fun _ => 1#1) :
    (∀ x, (a0 x).toNat < 4096) ∧ (∀ x : Fin 4, a4 (ix1 x) = BitVec.ofNat 32 ((x.val + 1) * 4096))
      ∧ (∀ x, FloatOps.cmpf (F := F) .olt (FloatOps.hostAbsf (a1 x)) (FloatOps.ofBits .f32 0x7F800000#32) = 1#1)
      ∧ (∀ x, FloatOps.cmpf (F := F) .olt (FloatOps.hostAbsf (a13 x)) (FloatOps.ofBits .f32 0x7F800000#32) = 1#1)
      ∧ (∀ x, FloatOps.cmpf (F := F) .olt (FloatOps.hostAbsf (a14 x)) (FloatOps.ofBits .f32 0x7F800000#32) = 1#1) := by
  obtain ⟨h, h14⟩ := IntOp.andi_eq_one.1 (congrFun h (Shape.Idx.first Cert.Pre_inputs_ok.Gen.h_S_))
  obtain ⟨h, h13⟩ := IntOp.andi_eq_one.1 h
  obtain ⟨h, h1⟩ := IntOp.andi_eq_one.1 h
  obtain ⟨h, h4⟩ := IntOp.andi_eq_one.1 h
  obtain ⟨hl, hu⟩ := IntOp.andi_eq_one.1 h
  refine ⟨fun x => ?_, fun x => ?_, fun x => ?_, fun x => ?_, fun x => ?_⟩
  · exact int_range _ (IntOp.cmpi_sge.1 (Host.reduce_andi_all _ _ _ _ _ hl x)) (IntOp.cmpi_slt.1 (Host.reduce_andi_all _ _ _ _ _ hu x))
  · have e := IntOp.cmpi_eq.1 (Host.reduce_andi_all _ _ _ _ _ h4 (ix1 x))
    refine e.trans ?_
    fin_cases x <;> rfl
  · exact Host.reduce_andi_all _ _ _ _ _ h1 x
  · exact Host.reduce_andi_all _ _ _ _ _ h13 x
  · exact Host.reduce_andi_all _ _ _ _ _ h14 x

/-- An extended real of absolute value below infinity is a real. -/
theorem fin_of_lt {x : EReal} (h : FloatOps.cmpf (F := Ideal) (φ := .f32) .olt (FloatOps.hostAbsf (F := Ideal) (φ := .f32) x) (FloatOps.ofBits (F := Ideal) .f32 0x7F800000#32) = 1#1) : Spec.Fin' x := by
  have e : (FloatOps.ofBits (F := Ideal) .f32 0x7F800000#32 : EReal) = ⊤ := by
    show Ideal.ofBits .f32 0x7F800000#32 = ⊤
    simp [Ideal.ofBits, Ideal.ieee]
  rw [e] at h
  have h' : Ideal.cmp .olt (max x (-x)) ⊤ = 1#1 := h
  induction x with
  | bot => simp [Ideal.cmp] at h'
  | top => simp [Ideal.cmp] at h'
  | coe r => exact ⟨r, rfl⟩

end Pre

/-- What the precondition says at the ideal reading. -/
theorem ok_of_pre {m} (h : Cert.Pre_KernelIdeal m) (c : Dev Cert.KernelIdeal.nD) : Same.Ok m c := by
  obtain ⟨p0, p4, p1, p13, p14⟩ := parts (h c)
  exact ⟨fun n => p0 _, p4, fun n j => fin_of_lt (p1 _), fun i j => fin_of_lt (p13 _), fun j => fin_of_lt (p14 _)⟩

/-! ## The runs -/

/-- Each argument ends as it began. -/
theorem args_kept {F : FTy → Type} [FloatOps F] (m) {r} (h : Main.QC (F := F) m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16) :=
  have k : ∀ b : Ref Cert.KernelIdeal.sig .tc, Main.tc b ∈ Pipeline.ucRefs Cert.KernelIdeal.τ Cert.KernelIdeal.sig → r.2.mem (c, Main.tc b) = Main.WF m c (Main.tc b) := fun b hb => h.1 c _ hb
  ⟨(k Cert.KernelIdeal.main_arg0 (by decide)).trans (Vars.WF_arg m c Cert.KernelIdeal.main_arg0 (by decide)),
    (k Cert.KernelIdeal.main_arg1 (by decide)).trans (Vars.WF_arg m c Cert.KernelIdeal.main_arg1 (by decide)),
    (k Cert.KernelIdeal.main_arg2 (by decide)).trans (Vars.WF_arg m c Cert.KernelIdeal.main_arg2 (by decide)),
    (k Cert.KernelIdeal.main_arg3 (by decide)).trans (Vars.WF_arg m c Cert.KernelIdeal.main_arg3 (by decide)),
    (k Cert.KernelIdeal.main_arg4 (by decide)).trans (Vars.WF_arg m c Cert.KernelIdeal.main_arg4 (by decide)),
    (k Cert.KernelIdeal.main_arg5 (by decide)).trans (Vars.WF_arg m c Cert.KernelIdeal.main_arg5 (by decide)),
    (k Cert.KernelIdeal.main_arg6 (by decide)).trans (Vars.WF_arg m c Cert.KernelIdeal.main_arg6 (by decide)),
    (k Cert.KernelIdeal.main_arg7 (by decide)).trans (Vars.WF_arg m c Cert.KernelIdeal.main_arg7 (by decide)),
    (k Cert.KernelIdeal.main_arg8 (by decide)).trans (Vars.WF_arg m c Cert.KernelIdeal.main_arg8 (by decide)),
    (k Cert.KernelIdeal.main_arg9 (by decide)).trans (Vars.WF_arg m c Cert.KernelIdeal.main_arg9 (by decide)),
    (k Cert.KernelIdeal.main_arg10 (by decide)).trans (Vars.WF_arg m c Cert.KernelIdeal.main_arg10 (by decide)),
    (k Cert.KernelIdeal.main_arg11 (by decide)).trans (Vars.WF_arg m c Cert.KernelIdeal.main_arg11 (by decide)),
    (k Cert.KernelIdeal.main_arg12 (by decide)).trans (Vars.WF_arg m c Cert.KernelIdeal.main_arg12 (by decide)),
    (k Cert.KernelIdeal.main_arg13 (by decide)).trans (Vars.WF_arg m c Cert.KernelIdeal.main_arg13 (by decide)),
    (k Cert.KernelIdeal.main_arg14 (by decide)).trans (Vars.WF_arg m c Cert.KernelIdeal.main_arg14 (by decide)),
    (k Cert.KernelIdeal.main_arg15 (by decide)).trans (Vars.WF_arg m c Cert.KernelIdeal.main_arg15 (by decide)),
    (k Cert.KernelIdeal.main_arg16 (by decide)).trans (Vars.WF_arg m c Cert.KernelIdeal.main_arg16 (by decide))⟩

/-- The run of either reading. -/
theorem run_kept {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg)
    (hX : ∀ (c : Dev Cert.KernelIdeal.nD) (n : Fin 16384), ((m (c, Main.tc Cert.KernelIdeal.main_arg0) : Vec F Cert.KernelIdeal.S16384x1 .i32) (ix2 n 0)).toNat < 4096) :
    θ_run (Cert.KernelIdeal.defs (F := F)) (Cert.KernelIdeal.threads (F := F)) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) ∧ r.2.sem = fun _ => 0) :=
  (θ_run Cert.KernelIdeal.defs _ _).mono (fun _ h => ⟨args_kept m h, h.2⟩) (Main.run_main (F := F) m ρ fun d x => Vars.XM_lt m d (hX d) x)

theorem frame_ideal : Cert.quiescent_KernelIdeal := fun m ρ h => run_kept (F := Ideal) m ρ fun c => (ok_of_pre h c).idx

/-- The program as printed is the same program: its frame is the same run, at the bits. -/
theorem frame_kernel : Cert.quiescent_Kernel := fun m ρ h =>
  (congrArg (fun D => θ_run D (Cert.KernelIdeal.threads (F := Bits)) ⟨m, fun _ => 0, ρ⟩ _) Print.tables).mpr (run_kept (F := Bits) m ρ fun c n => (parts (h c)).1 (ix2 n 0))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_nearest : Cert.quiescent_NearestIdeal := fun m ρ _ =>
  (θ_run Cert.NearestIdeal.defs _ _).mono (fun r h => ⟨fun c => (h c).2, sem_eq_zero_of_no_sems (by decide) r.2⟩)
    (NearRef.run (F := Ideal) m ρ)

/-- From memories that agree on the arguments, the reference's result is the kernel's. -/
theorem ref_same (m m' c) (h : Same.Ok m c)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Value.res_main_v96 (F := Ideal) m' c = Seg.out (F := Ideal) (Main.W5 m) c := by
  obtain ⟨e0, e1, e2, e3, e4, e5, e6, e7, e8, e9, e10, e11, e12, e13, e14, e15, e16⟩ := hag
  refine ((Ref.res_eq (F := Ideal) m' c).trans ?_).trans (Same.out_same h).symm
  rw [e0, e1, e2, e3, e4, e5, e6, e7, e8, e9, e10, e11, e12, e13, e14, e15, e16]
  rfl

theorem algebraic : Cert.algebraic_KernelIdeal_ReferenceIdeal := fun m ρ m' ρ' h hag =>
  ⟨fun c => Seg.out (F := Ideal) (Main.W5 m) c,
    (θ_run Cert.KernelIdeal.defs _ _).mono (fun _ h c => ⟨(h.1 c (Main.tc Cert.KernelIdeal.main_v12) (by decide)).trans (Vars.WF_out m c), args_kept m h c⟩)
      (Main.run_main (F := Ideal) m ρ fun d x => Vars.XM_lt m d (ok_of_pre h d).idx x),
    (θ_run Cert.ReferenceIdeal.defs _ _).mono (fun r k c => ⟨(k c).1.trans (ref_same m m' c (ok_of_pre h c) (hag c)), (k c).2⟩)
      (Cert.ReferenceIdeal.Value.run (F := Ideal) m' ρ')⟩

/-! ## The search -/

/-- The search's precondition says that every coordinate is finite. -/
theorem coordinates {F : FTy → Type} [FloatOps F] {a0 : FVec F Cert.Pre_one_nearest.S16384x3 .f32} {a1 : FVec F Cert.Pre_one_nearest.S4096x3 .f32}
    (h : Cert.Pre_one_nearest.fn (F := F) a0 a1 = fun _ => 1#1) :
    (∀ x, FloatOps.cmpf (F := F) .olt (FloatOps.hostAbsf (a0 x)) (FloatOps.ofBits .f32 0x7F800000#32) = 1#1)
      ∧ (∀ x, FloatOps.cmpf (F := F) .olt (FloatOps.hostAbsf (a1 x)) (FloatOps.ofBits .f32 0x7F800000#32) = 1#1) := by
  obtain ⟨h, -⟩ := IntOp.andi_eq_one.1 (congrFun h (Shape.Idx.first Cert.Pre_one_nearest.Gen.h_S_))
  obtain ⟨h0, h1⟩ := IntOp.andi_eq_one.1 h
  exact ⟨fun x => Host.reduce_andi_all _ _ _ _ _ h0 x, fun x => Host.reduce_andi_all _ _ _ _ _ h1 x⟩

/-- From memories that agree on the coordinates, the search's result is its reference's. -/
theorem search_same {m} (h : Cert.Pre_SearchIdeal m) (c : Dev Cert.SearchIdeal.nD) :
    (Cert.SearchIdeal.Gen.dats (F := Ideal) m 0 c).arrAt 2 Cert.SearchIdeal.cfg0.N =
      NearRef.least (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1)) :=
  NearBlk.result_eq m c (fun x => fin_of_lt ((coordinates (h c)).1 x)) (fun x => fin_of_lt ((coordinates (h c)).2 x))

theorem algebraic_search : Cert.algebraic_SearchIdeal_NearestIdeal := fun m ρ m' ρ' h hag =>
  ⟨fun c => NearRef.least (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1)),
    (θ_run Cert.SearchIdeal.defs _ _).mono (fun _ k c => ⟨(k c).1.trans (search_same h c), (k c).2⟩) (Cert.SearchIdeal.Value.run_blocks (F := Ideal) m ρ),
    (θ_run Cert.NearestIdeal.defs _ _).mono (fun _ k c => ⟨(k c).1.trans (congrArg₂ (NearRef.least (F := Ideal)) (hag c).1 (hag c).2), (k c).2⟩)
      (NearRef.run (F := Ideal) m' ρ')⟩

theorem claim : Cert.Claim := ⟨Cert.Kernel.Gen.facts, Cert.KernelIdeal.Gen.facts, Cert.ReferenceIdeal.Gen.facts, Cert.Search.Gen.facts, Cert.SearchIdeal.Gen.facts,
  Cert.NearestIdeal.Gen.facts, Cert.Pre_inputs_ok.Gen.facts, Cert.Pre_one_nearest.Gen.facts,
  frame_kernel, frame_ideal, frame_reference, fun m ρ _ => frame_reference m ρ trivial, fun m ρ _ => Cert.Search.Gen.frame m ρ, fun m ρ _ => Cert.Search.Gen.frame m ρ,
  fun m ρ _ => Cert.SearchIdeal.Gen.frame m ρ, frame_nearest, fun m ρ _ => frame_nearest m ρ trivial, trivial, algebraic, trivial, algebraic_search⟩

end Cert.Proof

end
